-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_KernelIdeal [hPre_finite_queries_KernelIdeal : Cert.Pre_finite_queries_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_ReferenceIdeal [hPre_finite_queries_ReferenceIdeal : Cert.Pre_finite_queries_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_KernelIdeal [hKernelIdeal : Cert.KernelIdeal.Facts] [hPre_finite_queries_KernelIdeal : Cert.Pre_finite_queries_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_ReferenceIdeal [hReferenceIdeal : Cert.ReferenceIdeal.Facts] [hPre_finite_queries_ReferenceIdeal : Cert.Pre_finite_queries_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "score_step" .f32 0x3A810204#32 ((1 / 1016 : ℝ) : EReal)
  ∧ IdealRules.named_const.Statement Cert.KernelIdeal.κ "value_step" .f32 0x3C010204#32 ((1 / 127 : ℝ) : EReal)

def algebraic_KernelIdeal_ReferenceIdeal_pre_finite_queries_KernelIdeal [hKernelIdeal : Cert.KernelIdeal.Facts] [hReferenceIdeal : Cert.ReferenceIdeal.Facts] [hPre_finite_queries_KernelIdeal : Cert.Pre_finite_queries_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 2048, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 512]⟩ ⟨3, ![2, 2048, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v82) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_queries_KernelIdeal : Cert.Pre_finite_queries_KernelIdeal.Facts) (hPre_finite_queries_ReferenceIdeal : Cert.Pre_finite_queries_ReferenceIdeal.Facts),
    quiescent_Kernel (hKernel := hKernel)
    ∧ quiescent_KernelIdeal (hKernelIdeal := hKernelIdeal)
    ∧ quiescent_KernelIdeal_pre_finite_queries_KernelIdeal (hKernelIdeal := hKernelIdeal) (hPre_finite_queries_KernelIdeal := hPre_finite_queries_KernelIdeal)
    ∧ quiescent_ReferenceIdeal (hReferenceIdeal := hReferenceIdeal)
    ∧ quiescent_ReferenceIdeal_pre_finite_queries_ReferenceIdeal (hReferenceIdeal := hReferenceIdeal) (hPre_finite_queries_ReferenceIdeal := hPre_finite_queries_ReferenceIdeal)
    ∧ preserves_Kernel_KernelIdeal
    ∧ algebraic_KernelIdeal_ReferenceIdeal_pre_finite_queries_KernelIdeal (hKernelIdeal := hKernelIdeal) (hReferenceIdeal := hReferenceIdeal) (hPre_finite_queries_KernelIdeal := hPre_finite_queries_KernelIdeal)
-- ==== Pre_finite_queries_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x256x512 .f32) (main_arg1 : FVec F S512x256 .f32) (main_arg2 : FVec F S2x256x4x64 .f32) (main_arg3 : FVec F S2x256x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Pre_finite_queries_ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x2048x512 .f32) (main_arg1 : FVec F S512x256 .f32) (main_arg2 : FVec F S2x2048x4x64 .f32) (main_arg3 : FVec F S2x2048x4x64 .f32) (main_arg4 : FVec F S256x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S8x2x256x512 : Shape := ⟨4, ![8, 2, 256, 512]⟩
abbrev S8x2x2x256 : Shape := ⟨4, ![8, 2, 2, 256]⟩
abbrev S2 : Shape := ⟨1, ![2]⟩
abbrev S3 : Shape := ⟨1, ![3]⟩
abbrev S2x256x256 : Shape := ⟨3, ![2, 256, 256]⟩
abbrev S2x256 : Shape := ⟨2, ![2, 256]⟩
abbrev S2x256x1 : Shape := ⟨3, ![2, 256, 1]⟩
abbrev S1x2x256x256 : Shape := ⟨4, ![1, 2, 256, 256]⟩
abbrev S1x2x256 : Shape := ⟨3, ![1, 2, 256]⟩
abbrev S1x1x2x256 : Shape := ⟨4, ![1, 1, 2, 256]⟩
abbrev S_ : Shape := ⟨0, ![]⟩
abbrev S1 : Shape := ⟨1, ![1]⟩
abbrev S1x2x256x512 : Shape := ⟨4, ![1, 2, 256, 512]⟩
abbrev S1x2x2x256 : Shape := ⟨4, ![1, 2, 2, 256]⟩
abbrev S2x2x256 : Shape := ⟨3, ![2, 2, 256]⟩
abbrev S1x256x512 : Shape := ⟨3, ![1, 256, 512]⟩
abbrev S256x256 : Shape := ⟨2, ![256, 256]⟩
abbrev S1x1x256x512 : Shape := ⟨4, ![1, 1, 256, 512]⟩
abbrev S1x256x256 : Shape := ⟨3, ![1, 256, 256]⟩
abbrev S1x1x1x256 : Shape := ⟨4, ![1, 1, 1, 256]⟩
abbrev S1x256 : Shape := ⟨2, ![1, 256]⟩
abbrev S256x64 : Shape := ⟨2, ![256, 64]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x4x64, .f32⟩
  | .hbm, ⟨3, _⟩ => ⟨S2x256x4x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x4x64, .f32⟩
  | .local _ .vmem, ⟨3, _⟩ => ⟨S2x256x4x64, .f32⟩
  | .local _ .vmem, ⟨4, _⟩ => ⟨S256x512, .f32⟩
  | .local _ .vmem, ⟨5, _⟩ => ⟨S2x256x512, .f32⟩
  | .local _ .vmem, ⟨6, _⟩ => ⟨S8x2x256x512, .i8⟩
  | .local _ .vmem, ⟨7, _⟩ => ⟨S8x2x2x256, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v54 : Index := Scalar.indexCast v2
  let c0_21 : Index := 0#32
  let c0_22 : Index := 0#32
  let c0_23 : Index := 0#32
  ![v54.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v60 : Index := Scalar.indexCast v2
  let c0_24 : Index := 0#32
  let c0_25 : Index := 0#32
  let c0_26 : Index := 0#32
  ![v60.toNat, 0, 0, 0]
def k0_off3 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v85 : Index := Scalar.indexCast v2
  let c0_36 : Index := 0#32
  let c0_37 : Index := 0#32
  let c256 : Index := 256#32
  ![v85.toNat, 0, 0, 256]
def k0_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v91 : Index := Scalar.indexCast v2
  let c1 : Index := 1#32
  let c0_38 : Index := 0#32
  let c0_39 : Index := 0#32
  ![v91.toNat, 1, 0, 0]
def k0_dev1 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32 : BitVec 32 := 4294967295#32
  let v14 : BitVec 32 := Scalar.addi v5 c_m1_i32
  let c16_i32_4 : BitVec 32 := 16#32
  let v15 : BitVec 32 := Scalar.addi v14 c16_i32_4
  let c8_i32_5 : BitVec 32 := 8#32
  let v16 : BitVec 32 := Scalar.remsi v15 c8_i32_5
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_41 : BitVec 32 := 1#32
  let v96 : BitVec 32 := Scalar.muli v19 c1_i32_41
  let v97 : BitVec 32 := Scalar.addi c0_i32_42 v96
  v97.toNat
def k0_dev2 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v8 : BitVec 32 := Scalar.addi v5 c1_i32_0
  let c16_i32 : BitVec 32 := 16#32
  let v9 : BitVec 32 := Scalar.addi v8 c16_i32
  let c8_i32_1 : BitVec 32 := 8#32
  let v10 : BitVec 32 := Scalar.remsi v9 c8_i32_1
  let c4_i32_2 : BitVec 32 := 4#32
  let v11 : BitVec 1 := Scalar.cmpi .slt v10 c4_i32_2
  let c11_i32_3 : BitVec 32 := 11#32
  let v12 : BitVec 32 := Scalar.subi c11_i32_3 v10
  let v13 : BitVec 32 := Scalar.select v11 v10 v12
  let c1_i32_44 : BitVec 32 := 1#32
  let v98 : BitVec 32 := Scalar.muli v13 c1_i32_44
  let v99 : BitVec 32 := Scalar.addi c0_i32_45 v98
  v99.toNat
def k0_dev3 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v6 : BitVec 32 := Scalar.remsi v5 c2_i32
  let c0_i32 : BitVec 32 := 0#32
  let v7 : BitVec 1 := Scalar.cmpi .eq v6 c0_i32
  let c3_i32 : BitVec 32 := 3#32
  let v20 : BitVec 32 := Scalar.addi v5 c3_i32
  let c16_i32_8 : BitVec 32 := 16#32
  let v21 : BitVec 32 := Scalar.addi v20 c16_i32_8
  let c8_i32_9 : BitVec 32 := 8#32
  let v22 : BitVec 32 := Scalar.remsi v21 c8_i32_9
  let c4_i32_10 : BitVec 32 := 4#32
  let v23 : BitVec 1 := Scalar.cmpi .slt v22 c4_i32_10
  let c11_i32_11 : BitVec 32 := 11#32
  let v24 : BitVec 32 := Scalar.subi c11_i32_11 v22
  let v25 : BitVec 32 := Scalar.select v23 v22 v24
  let c_m3_i32 : BitVec 32 := 4294967293#32
  let v26 : BitVec 32 := Scalar.addi v5 c_m3_i32
  let c16_i32_12 : BitVec 32 := 16#32
  let v27 : BitVec 32 := Scalar.addi v26 c16_i32_12
  let c8_i32_13 : BitVec 32 := 8#32
  let v28 : BitVec 32 := Scalar.remsi v27 c8_i32_13
  let c4_i32_14 : BitVec 32 := 4#32
  let v29 : BitVec 1 := Scalar.cmpi .slt v28 c4_i32_14
  let c11_i32_15 : BitVec 32 := 11#32
  let v30 : BitVec 32 := Scalar.subi c11_i32_15 v28
  let v31 : BitVec 32 := Scalar.select v29 v28 v30
  let v32 : BitVec 32 := Scalar.select v7 v25 v31
  let c1_i32_47 : BitVec 32 := 1#32
  let v100 : BitVec 32 := Scalar.muli v32 c1_i32_47
  let v101 : BitVec 32 := Scalar.addi c0_i32_48 v100
  v101.toNat
def k0_off5 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_128 : BitVec 32 := 0#32
  let c0_i32_129 : BitVec 32 := 0#32
  let c0_i32_130 : BitVec 32 := 0#32
  ![v2.toNat, 0, 0, 0]
def k0_dev4 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v8 : BitVec 32 := Scalar.addi v5 c1_i32_0
  let c16_i32 : BitVec 32 := 16#32
  let v9 : BitVec 32 := Scalar.addi v8 c16_i32
  let c8_i32_1 : BitVec 32 := 8#32
  let v10 : BitVec 32 := Scalar.remsi v9 c8_i32_1
  let c4_i32_2 : BitVec 32 := 4#32
  let v11 : BitVec 1 := Scalar.cmpi .slt v10 c4_i32_2
  let c11_i32_3 : BitVec 32 := 11#32
  let v12 : BitVec 32 := Scalar.subi c11_i32_3 v10
  let v13 : BitVec 32 := Scalar.select v11 v10 v12
  let c1_i32_126 : BitVec 32 := 1#32
  let v196 : BitVec 32 := Scalar.muli v13 c1_i32_126
  let v197 : BitVec 32 := Scalar.addi c0_i32_127 v196
  v197.toNat
def k0_off6 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_138 : BitVec 32 := 0#32
  let c0_i32_139 : BitVec 32 := 0#32
  let c0_i32_140 : BitVec 32 := 0#32
  ![v2.toNat, 0, 0, 0]
def k0_dev5 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v8 : BitVec 32 := Scalar.addi v5 c1_i32_0
  let c16_i32 : BitVec 32 := 16#32
  let v9 : BitVec 32 := Scalar.addi v8 c16_i32
  let c8_i32_1 : BitVec 32 := 8#32
  let v10 : BitVec 32 := Scalar.remsi v9 c8_i32_1
  let c4_i32_2 : BitVec 32 := 4#32
  let v11 : BitVec 1 := Scalar.cmpi .slt v10 c4_i32_2
  let c11_i32_3 : BitVec 32 := 11#32
  let v12 : BitVec 32 := Scalar.subi c11_i32_3 v10
  let v13 : BitVec 32 := Scalar.select v11 v10 v12
  let c1_i32_136 : BitVec 32 := 1#32
  let v206 : BitVec 32 := Scalar.muli v13 c1_i32_136
  let v207 : BitVec 32 := Scalar.addi c0_i32_137 v206
  v207.toNat
def k0_dev6 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32 : BitVec 32 := 4294967295#32
  let v14 : BitVec 32 := Scalar.addi v5 c_m1_i32
  let c16_i32_4 : BitVec 32 := 16#32
  let v15 : BitVec 32 := Scalar.addi v14 c16_i32_4
  let c8_i32_5 : BitVec 32 := 8#32
  let v16 : BitVec 32 := Scalar.remsi v15 c8_i32_5
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_146 : BitVec 32 := 1#32
  let v216 : BitVec 32 := Scalar.muli v19 c1_i32_146
  let v217 : BitVec 32 := Scalar.addi c0_i32_147 v216
  v217.toNat
def k0_dev7 (d0 : Dev nD) : Nat :=
  let c0_i32_157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32 : BitVec 32 := 4294967295#32
  let v14 : BitVec 32 := Scalar.addi v5 c_m1_i32
  let c16_i32_4 : BitVec 32 := 16#32
  let v15 : BitVec 32 := Scalar.addi v14 c16_i32_4
  let c8_i32_5 : BitVec 32 := 8#32
  let v16 : BitVec 32 := Scalar.remsi v15 c8_i32_5
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_156 : BitVec 32 := 1#32
  let v226 : BitVec 32 := Scalar.muli v19 c1_i32_156
  let v227 : BitVec 32 := Scalar.addi c0_i32_157 v226
  v227.toNat
def k0_dev8 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v6 : BitVec 32 := Scalar.remsi v5 c2_i32
  let c0_i32 : BitVec 32 := 0#32
  let v7 : BitVec 1 := Scalar.cmpi .eq v6 c0_i32
  let c3_i32 : BitVec 32 := 3#32
  let v20 : BitVec 32 := Scalar.addi v5 c3_i32
  let c16_i32_8 : BitVec 32 := 16#32
  let v21 : BitVec 32 := Scalar.addi v20 c16_i32_8
  let c8_i32_9 : BitVec 32 := 8#32
  let v22 : BitVec 32 := Scalar.remsi v21 c8_i32_9
  let c4_i32_10 : BitVec 32 := 4#32
  let v23 : BitVec 1 := Scalar.cmpi .slt v22 c4_i32_10
  let c11_i32_11 : BitVec 32 := 11#32
  let v24 : BitVec 32 := Scalar.subi c11_i32_11 v22
  let v25 : BitVec 32 := Scalar.select v23 v22 v24
  let c_m3_i32 : BitVec 32 := 4294967293#32
  let v26 : BitVec 32 := Scalar.addi v5 c_m3_i32
  let c16_i32_12 : BitVec 32 := 16#32
  let v27 : BitVec 32 := Scalar.addi v26 c16_i32_12
  let c8_i32_13 : BitVec 32 := 8#32
  let v28 : BitVec 32 := Scalar.remsi v27 c8_i32_13
  let c4_i32_14 : BitVec 32 := 4#32
  let v29 : BitVec 1 := Scalar.cmpi .slt v28 c4_i32_14
  let c11_i32_15 : BitVec 32 := 11#32
  let v30 : BitVec 32 := Scalar.subi c11_i32_15 v28
  let v31 : BitVec 32 := Scalar.select v29 v28 v30
  let v32 : BitVec 32 := Scalar.select v7 v25 v31
  let c1_i32_166 : BitVec 32 := 1#32
  let v236 : BitVec 32 := Scalar.muli v32 c1_i32_166
  let v237 : BitVec 32 := Scalar.addi c0_i32_167 v236
  v237.toNat
def k0_dev9 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v6 : BitVec 32 := Scalar.remsi v5 c2_i32
  let c0_i32 : BitVec 32 := 0#32
  let v7 : BitVec 1 := Scalar.cmpi .eq v6 c0_i32
  let c3_i32 : BitVec 32 := 3#32
  let v20 : BitVec 32 := Scalar.addi v5 c3_i32
  let c16_i32_8 : BitVec 32 := 16#32
  let v21 : BitVec 32 := Scalar.addi v20 c16_i32_8
  let c8_i32_9 : BitVec 32 := 8#32
  let v22 : BitVec 32 := Scalar.remsi v21 c8_i32_9
  let c4_i32_10 : BitVec 32 := 4#32
  let v23 : BitVec 1 := Scalar.cmpi .slt v22 c4_i32_10
  let c11_i32_11 : BitVec 32 := 11#32
  let v24 : BitVec 32 := Scalar.subi c11_i32_11 v22
  let v25 : BitVec 32 := Scalar.select v23 v22 v24
  let c_m3_i32 : BitVec 32 := 4294967293#32
  let v26 : BitVec 32 := Scalar.addi v5 c_m3_i32
  let c16_i32_12 : BitVec 32 := 16#32
  let v27 : BitVec 32 := Scalar.addi v26 c16_i32_12
  let c8_i32_13 : BitVec 32 := 8#32
  let v28 : BitVec 32 := Scalar.remsi v27 c8_i32_13
  let c4_i32_14 : BitVec 32 := 4#32
  let v29 : BitVec 1 := Scalar.cmpi .slt v28 c4_i32_14
  let c11_i32_15 : BitVec 32 := 11#32
  let v30 : BitVec 32 := Scalar.subi c11_i32_15 v28
  let v31 : BitVec 32 := Scalar.select v29 v28 v30
  let v32 : BitVec 32 := Scalar.select v7 v25 v31
  let c1_i32_176 : BitVec 32 := 1#32
  let v246 : BitVec 32 := Scalar.muli v32 c1_i32_176
  let v247 : BitVec 32 := Scalar.addi c0_i32_177 v246
  v247.toNat
def k0_off7 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v335 : Index := Scalar.indexCast v2
  let c0_212 : Index := 0#32
  let c0_213 : Index := 0#32
  let c0_214 : Index := 0#32
  ![v335.toNat, 0, 0, 0]
def k0_off8 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v344 : Index := Scalar.indexCast v2
  let c0_215 : Index := 0#32
  let c0_216 : Index := 0#32
  let c0_217 : Index := 0#32
  ![v344.toNat, 0, 0, 0]
def k0_off9 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v349 : Index := Scalar.indexCast v2
  let c1_219 : Index := 1#32
  let c0_220 : Index := 0#32
  let c0_221 : Index := 0#32
  ![v349.toNat, 1, 0, 0]
def k0_off10 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v430 : Index := Scalar.indexCast v2
  let c1_243 : Index := 1#32
  let c0_244 : Index := 0#32
  let c0_245 : Index := 0#32
  ![v430.toNat, 1, 0, 0]
def k0_off11 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v439 : Index := Scalar.indexCast v2
  let c0_246 : Index := 0#32
  let c1_247 : Index := 1#32
  let c0_248 : Index := 0#32
  ![v439.toNat, 0, 1, 0]
def k0_off12 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v444 : Index := Scalar.indexCast v2
  let c1_250 : Index := 1#32
  let c1_251 : Index := 1#32
  let c0_252 : Index := 0#32
  ![v444.toNat, 1, 1, 0]
def k0_off13 (d0 : Dev nD) (c_m1_i32_50 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v102 : BitVec 32 := Scalar.addi v5 c_m1_i32_50
  let c16_i32_51 : BitVec 32 := 16#32
  let v103 : BitVec 32 := Scalar.addi v102 c16_i32_51
  let c8_i32_52 : BitVec 32 := 8#32
  let v104 : BitVec 32 := Scalar.remsi v103 c8_i32_52
  let c4_i32_53 : BitVec 32 := 4#32
  let v105 : BitVec 1 := Scalar.cmpi .slt v104 c4_i32_53
  let c11_i32_54 : BitVec 32 := 11#32
  let v106 : BitVec 32 := Scalar.subi c11_i32_54 v104
  let v107 : BitVec 32 := Scalar.select v105 v104 v106
  let c0_i32_392 : BitVec 32 := 0#32
  let c0_i32_393 : BitVec 32 := 0#32
  let c0_i32_394 : BitVec 32 := 0#32
  ![v107.toNat, 0, 0, 0]
def k0_dev10 (d0 : Dev nD) : Nat :=
  let c0_i32_391 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v8 : BitVec 32 := Scalar.addi v5 c1_i32_0
  let c16_i32 : BitVec 32 := 16#32
  let v9 : BitVec 32 := Scalar.addi v8 c16_i32
  let c8_i32_1 : BitVec 32 := 8#32
  let v10 : BitVec 32 := Scalar.remsi v9 c8_i32_1
  let c4_i32_2 : BitVec 32 := 4#32
  let v11 : BitVec 1 := Scalar.cmpi .slt v10 c4_i32_2
  let c11_i32_3 : BitVec 32 := 11#32
  let v12 : BitVec 32 := Scalar.subi c11_i32_3 v10
  let v13 : BitVec 32 := Scalar.select v11 v10 v12
  let c1_i32_390 : BitVec 32 := 1#32
  let v609 : BitVec 32 := Scalar.muli v13 c1_i32_390
  let v610 : BitVec 32 := Scalar.addi c0_i32_391 v609
  v610.toNat
def k0_off14 (d0 : Dev nD) (c_m1_i32_50 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v102 : BitVec 32 := Scalar.addi v5 c_m1_i32_50
  let c16_i32_51 : BitVec 32 := 16#32
  let v103 : BitVec 32 := Scalar.addi v102 c16_i32_51
  let c8_i32_52 : BitVec 32 := 8#32
  let v104 : BitVec 32 := Scalar.remsi v103 c8_i32_52
  let c4_i32_53 : BitVec 32 := 4#32
  let v105 : BitVec 1 := Scalar.cmpi .slt v104 c4_i32_53
  let c11_i32_54 : BitVec 32 := 11#32
  let v106 : BitVec 32 := Scalar.subi c11_i32_54 v104
  let v107 : BitVec 32 := Scalar.select v105 v104 v106
  let c0_i32_402 : BitVec 32 := 0#32
  let c0_i32_403 : BitVec 32 := 0#32
  let c0_i32_404 : BitVec 32 := 0#32
  ![v107.toNat, 0, 0, 0]
def k0_dev11 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v8 : BitVec 32 := Scalar.addi v5 c1_i32_0
  let c16_i32 : BitVec 32 := 16#32
  let v9 : BitVec 32 := Scalar.addi v8 c16_i32
  let c8_i32_1 : BitVec 32 := 8#32
  let v10 : BitVec 32 := Scalar.remsi v9 c8_i32_1
  let c4_i32_2 : BitVec 32 := 4#32
  let v11 : BitVec 1 := Scalar.cmpi .slt v10 c4_i32_2
  let c11_i32_3 : BitVec 32 := 11#32
  let v12 : BitVec 32 := Scalar.subi c11_i32_3 v10
  let v13 : BitVec 32 := Scalar.select v11 v10 v12
  let c1_i32_400 : BitVec 32 := 1#32
  let v619 : BitVec 32 := Scalar.muli v13 c1_i32_400
  let v620 : BitVec 32 := Scalar.addi c0_i32_401 v619
  v620.toNat
def k0_dev12 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32 : BitVec 32 := 4294967295#32
  let v14 : BitVec 32 := Scalar.addi v5 c_m1_i32
  let c16_i32_4 : BitVec 32 := 16#32
  let v15 : BitVec 32 := Scalar.addi v14 c16_i32_4
  let c8_i32_5 : BitVec 32 := 8#32
  let v16 : BitVec 32 := Scalar.remsi v15 c8_i32_5
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_410 : BitVec 32 := 1#32
  let v629 : BitVec 32 := Scalar.muli v19 c1_i32_410
  let v630 : BitVec 32 := Scalar.addi c0_i32_411 v629
  v630.toNat
def k0_dev13 (d0 : Dev nD) : Nat :=
  let c0_i32_421 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32 : BitVec 32 := 4294967295#32
  let v14 : BitVec 32 := Scalar.addi v5 c_m1_i32
  let c16_i32_4 : BitVec 32 := 16#32
  let v15 : BitVec 32 := Scalar.addi v14 c16_i32_4
  let c8_i32_5 : BitVec 32 := 8#32
  let v16 : BitVec 32 := Scalar.remsi v15 c8_i32_5
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_420 : BitVec 32 := 1#32
  let v639 : BitVec 32 := Scalar.muli v19 c1_i32_420
  let v640 : BitVec 32 := Scalar.addi c0_i32_421 v639
  v640.toNat
def k0_off15 (d0 : Dev nD) (c_m1_i32_60 : BitVec 32) (c1_i32_65 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v6 : BitVec 32 := Scalar.remsi v5 c2_i32
  let c0_i32 : BitVec 32 := 0#32
  let v7 : BitVec 1 := Scalar.cmpi .eq v6 c0_i32
  let v114 : BitVec 32 := Scalar.addi v5 c_m1_i32_60
  let c16_i32_61 : BitVec 32 := 16#32
  let v115 : BitVec 32 := Scalar.addi v114 c16_i32_61
  let c8_i32_62 : BitVec 32 := 8#32
  let v116 : BitVec 32 := Scalar.remsi v115 c8_i32_62
  let c4_i32_63 : BitVec 32 := 4#32
  let v117 : BitVec 1 := Scalar.cmpi .slt v116 c4_i32_63
  let c11_i32_64 : BitVec 32 := 11#32
  let v118 : BitVec 32 := Scalar.subi c11_i32_64 v116
  let v119 : BitVec 32 := Scalar.select v117 v116 v118
  let v120 : BitVec 32 := Scalar.addi v5 c1_i32_65
  let c16_i32_66 : BitVec 32 := 16#32
  let v121 : BitVec 32 := Scalar.addi v120 c16_i32_66
  let c8_i32_67 : BitVec 32 := 8#32
  let v122 : BitVec 32 := Scalar.remsi v121 c8_i32_67
  let c4_i32_68 : BitVec 32 := 4#32
  let v123 : BitVec 1 := Scalar.cmpi .slt v122 c4_i32_68
  let c11_i32_69 : BitVec 32 := 11#32
  let v124 : BitVec 32 := Scalar.subi c11_i32_69 v122
  let v125 : BitVec 32 := Scalar.select v123 v122 v124
  let v126 : BitVec 32 := Scalar.select v7 v119 v125
  let c0_i32_432 : BitVec 32 := 0#32
  let c0_i32_433 : BitVec 32 := 0#32
  let c0_i32_434 : BitVec 32 := 0#32
  ![v126.toNat, 0, 0, 0]
def k0_off15_at (r : Fin 2) : BitVec 32 × BitVec 32 :=
  if r.val < 1 then
    (4294967295#32, 1#32)
  else
    (4294967294#32, 2#32)
def k0_dev14 (d0 : Dev nD) : Nat :=
  let c0_i32_431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v6 : BitVec 32 := Scalar.remsi v5 c2_i32
  let c0_i32 : BitVec 32 := 0#32
  let v7 : BitVec 1 := Scalar.cmpi .eq v6 c0_i32
  let c3_i32 : BitVec 32 := 3#32
  let v20 : BitVec 32 := Scalar.addi v5 c3_i32
  let c16_i32_8 : BitVec 32 := 16#32
  let v21 : BitVec 32 := Scalar.addi v20 c16_i32_8
  let c8_i32_9 : BitVec 32 := 8#32
  let v22 : BitVec 32 := Scalar.remsi v21 c8_i32_9
  let c4_i32_10 : BitVec 32 := 4#32
  let v23 : BitVec 1 := Scalar.cmpi .slt v22 c4_i32_10
  let c11_i32_11 : BitVec 32 := 11#32
  let v24 : BitVec 32 := Scalar.subi c11_i32_11 v22
  let v25 : BitVec 32 := Scalar.select v23 v22 v24
  let c_m3_i32 : BitVec 32 := 4294967293#32
  let v26 : BitVec 32 := Scalar.addi v5 c_m3_i32
  let c16_i32_12 : BitVec 32 := 16#32
  let v27 : BitVec 32 := Scalar.addi v26 c16_i32_12
  let c8_i32_13 : BitVec 32 := 8#32
  let v28 : BitVec 32 := Scalar.remsi v27 c8_i32_13
  let c4_i32_14 : BitVec 32 := 4#32
  let v29 : BitVec 1 := Scalar.cmpi .slt v28 c4_i32_14
  let c11_i32_15 : BitVec 32 := 11#32
  let v30 : BitVec 32 := Scalar.subi c11_i32_15 v28
  let v31 : BitVec 32 := Scalar.select v29 v28 v30
  let v32 : BitVec 32 := Scalar.select v7 v25 v31
  let c1_i32_430 : BitVec 32 := 1#32
  let v649 : BitVec 32 := Scalar.muli v32 c1_i32_430
  let v650 : BitVec 32 := Scalar.addi c0_i32_431 v649
  v650.toNat
def k0_off16 (d0 : Dev nD) (c_m1_i32_60 : BitVec 32) (c1_i32_65 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v6 : BitVec 32 := Scalar.remsi v5 c2_i32
  let c0_i32 : BitVec 32 := 0#32
  let v7 : BitVec 1 := Scalar.cmpi .eq v6 c0_i32
  let v114 : BitVec 32 := Scalar.addi v5 c_m1_i32_60
  let c16_i32_61 : BitVec 32 := 16#32
  let v115 : BitVec 32 := Scalar.addi v114 c16_i32_61
  let c8_i32_62 : BitVec 32 := 8#32
  let v116 : BitVec 32 := Scalar.remsi v115 c8_i32_62
  let c4_i32_63 : BitVec 32 := 4#32
  let v117 : BitVec 1 := Scalar.cmpi .slt v116 c4_i32_63
  let c11_i32_64 : BitVec 32 := 11#32
  let v118 : BitVec 32 := Scalar.subi c11_i32_64 v116
  let v119 : BitVec 32 := Scalar.select v117 v116 v118
  let v120 : BitVec 32 := Scalar.addi v5 c1_i32_65
  let c16_i32_66 : BitVec 32 := 16#32
  let v121 : BitVec 32 := Scalar.addi v120 c16_i32_66
  let c8_i32_67 : BitVec 32 := 8#32
  let v122 : BitVec 32 := Scalar.remsi v121 c8_i32_67
  let c4_i32_68 : BitVec 32 := 4#32
  let v123 : BitVec 1 := Scalar.cmpi .slt v122 c4_i32_68
  let c11_i32_69 : BitVec 32 := 11#32
  let v124 : BitVec 32 := Scalar.subi c11_i32_69 v122
  let v125 : BitVec 32 := Scalar.select v123 v122 v124
  let v126 : BitVec 32 := Scalar.select v7 v119 v125
  let c0_i32_442 : BitVec 32 := 0#32
  let c0_i32_443 : BitVec 32 := 0#32
  let c0_i32_444 : BitVec 32 := 0#32
  ![v126.toNat, 0, 0, 0]
def k0_off16_at (r : Fin 2) : BitVec 32 × BitVec 32 :=
  if r.val < 1 then
    (4294967295#32, 1#32)
  else
    (4294967294#32, 2#32)
def k0_dev15 (d0 : Dev nD) : Nat :=
  let c0_i32_441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v6 : BitVec 32 := Scalar.remsi v5 c2_i32
  let c0_i32 : BitVec 32 := 0#32
  let v7 : BitVec 1 := Scalar.cmpi .eq v6 c0_i32
  let c3_i32 : BitVec 32 := 3#32
  let v20 : BitVec 32 := Scalar.addi v5 c3_i32
  let c16_i32_8 : BitVec 32 := 16#32
  let v21 : BitVec 32 := Scalar.addi v20 c16_i32_8
  let c8_i32_9 : BitVec 32 := 8#32
  let v22 : BitVec 32 := Scalar.remsi v21 c8_i32_9
  let c4_i32_10 : BitVec 32 := 4#32
  let v23 : BitVec 1 := Scalar.cmpi .slt v22 c4_i32_10
  let c11_i32_11 : BitVec 32 := 11#32
  let v24 : BitVec 32 := Scalar.subi c11_i32_11 v22
  let v25 : BitVec 32 := Scalar.select v23 v22 v24
  let c_m3_i32 : BitVec 32 := 4294967293#32
  let v26 : BitVec 32 := Scalar.addi v5 c_m3_i32
  let c16_i32_12 : BitVec 32 := 16#32
  let v27 : BitVec 32 := Scalar.addi v26 c16_i32_12
  let c8_i32_13 : BitVec 32 := 8#32
  let v28 : BitVec 32 := Scalar.remsi v27 c8_i32_13
  let c4_i32_14 : BitVec 32 := 4#32
  let v29 : BitVec 1 := Scalar.cmpi .slt v28 c4_i32_14
  let c11_i32_15 : BitVec 32 := 11#32
  let v30 : BitVec 32 := Scalar.subi c11_i32_15 v28
  let v31 : BitVec 32 := Scalar.select v29 v28 v30
  let v32 : BitVec 32 := Scalar.select v7 v25 v31
  let c1_i32_440 : BitVec 32 := 1#32
  let v659 : BitVec 32 := Scalar.muli v32 c1_i32_440
  let v660 : BitVec 32 := Scalar.addi c0_i32_441 v659
  v660.toNat
def k0_off17 (d0 : Dev nD) (c_m1_i32_79 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v140 : BitVec 32 := Scalar.addi v5 c_m1_i32_79
  let c16_i32_80 : BitVec 32 := 16#32
  let v141 : BitVec 32 := Scalar.addi v140 c16_i32_80
  let c8_i32_81 : BitVec 32 := 8#32
  let v142 : BitVec 32 := Scalar.remsi v141 c8_i32_81
  let c4_i32_82 : BitVec 32 := 4#32
  let v143 : BitVec 1 := Scalar.cmpi .slt v142 c4_i32_82
  let c11_i32_83 : BitVec 32 := 11#32
  let v144 : BitVec 32 := Scalar.subi c11_i32_83 v142
  let v145 : BitVec 32 := Scalar.select v143 v142 v144
  let v682 : Index := Scalar.indexCast v145
  let c0_452 : Index := 0#32
  let c0_453 : Index := 0#32
  let c0_454 : Index := 0#32
  ![v682.toNat, 0, 0, 0]
def k0_off17_at (r : Fin 5) : BitVec 32 :=
  if r.val < 2 then
    if r.val < 1 then
      4294967295#32
    else
      1#32
  else
    if r.val < 3 then
      4294967294#32
    else
      if r.val < 4 then
        2#32
      else
        4#32
def k0_off18 (d0 : Dev nD) (c_m1_i32_79 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v140 : BitVec 32 := Scalar.addi v5 c_m1_i32_79
  let c16_i32_80 : BitVec 32 := 16#32
  let v141 : BitVec 32 := Scalar.addi v140 c16_i32_80
  let c8_i32_81 : BitVec 32 := 8#32
  let v142 : BitVec 32 := Scalar.remsi v141 c8_i32_81
  let c4_i32_82 : BitVec 32 := 4#32
  let v143 : BitVec 1 := Scalar.cmpi .slt v142 c4_i32_82
  let c11_i32_83 : BitVec 32 := 11#32
  let v144 : BitVec 32 := Scalar.subi c11_i32_83 v142
  let v145 : BitVec 32 := Scalar.select v143 v142 v144
  let v691 : Index := Scalar.indexCast v145
  let c0_455 : Index := 0#32
  let c0_456 : Index := 0#32
  let c0_457 : Index := 0#32
  ![v691.toNat, 0, 0, 0]
def k0_off18_at (r : Fin 5) : BitVec 32 :=
  if r.val < 2 then
    if r.val < 1 then
      4294967295#32
    else
      1#32
  else
    if r.val < 3 then
      4294967294#32
    else
      if r.val < 4 then
        2#32
      else
        4#32
def k0_off19 (d0 : Dev nD) (c_m1_i32_79 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v140 : BitVec 32 := Scalar.addi v5 c_m1_i32_79
  let c16_i32_80 : BitVec 32 := 16#32
  let v141 : BitVec 32 := Scalar.addi v140 c16_i32_80
  let c8_i32_81 : BitVec 32 := 8#32
  let v142 : BitVec 32 := Scalar.remsi v141 c8_i32_81
  let c4_i32_82 : BitVec 32 := 4#32
  let v143 : BitVec 1 := Scalar.cmpi .slt v142 c4_i32_82
  let c11_i32_83 : BitVec 32 := 11#32
  let v144 : BitVec 32 := Scalar.subi c11_i32_83 v142
  let v145 : BitVec 32 := Scalar.select v143 v142 v144
  let v696 : Index := Scalar.indexCast v145
  let c1_459 : Index := 1#32
  let c0_460 : Index := 0#32
  let c0_461 : Index := 0#32
  ![v696.toNat, 1, 0, 0]
def k0_off19_at (r : Fin 5) : BitVec 32 :=
  if r.val < 2 then
    if r.val < 1 then
      4294967295#32
    else
      1#32
  else
    if r.val < 3 then
      4294967294#32
    else
      if r.val < 4 then
        2#32
      else
        4#32
def k0_off20 (d0 : Dev nD) (c_m1_i32_79 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v140 : BitVec 32 := Scalar.addi v5 c_m1_i32_79
  let c16_i32_80 : BitVec 32 := 16#32
  let v141 : BitVec 32 := Scalar.addi v140 c16_i32_80
  let c8_i32_81 : BitVec 32 := 8#32
  let v142 : BitVec 32 := Scalar.remsi v141 c8_i32_81
  let c4_i32_82 : BitVec 32 := 4#32
  let v143 : BitVec 1 := Scalar.cmpi .slt v142 c4_i32_82
  let c11_i32_83 : BitVec 32 := 11#32
  let v144 : BitVec 32 := Scalar.subi c11_i32_83 v142
  let v145 : BitVec 32 := Scalar.select v143 v142 v144
  let v809 : Index := Scalar.indexCast v145
  let c1_483 : Index := 1#32
  let c0_484 : Index := 0#32
  let c0_485 : Index := 0#32
  ![v809.toNat, 1, 0, 0]
def k0_off20_at (r : Fin 5) : BitVec 32 :=
  if r.val < 2 then
    if r.val < 1 then
      4294967295#32
    else
      1#32
  else
    if r.val < 3 then
      4294967294#32
    else
      if r.val < 4 then
        2#32
      else
        4#32
def k0_off21 (d0 : Dev nD) (c_m1_i32_79 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v140 : BitVec 32 := Scalar.addi v5 c_m1_i32_79
  let c16_i32_80 : BitVec 32 := 16#32
  let v141 : BitVec 32 := Scalar.addi v140 c16_i32_80
  let c8_i32_81 : BitVec 32 := 8#32
  let v142 : BitVec 32 := Scalar.remsi v141 c8_i32_81
  let c4_i32_82 : BitVec 32 := 4#32
  let v143 : BitVec 1 := Scalar.cmpi .slt v142 c4_i32_82
  let c11_i32_83 : BitVec 32 := 11#32
  let v144 : BitVec 32 := Scalar.subi c11_i32_83 v142
  let v145 : BitVec 32 := Scalar.select v143 v142 v144
  let v818 : Index := Scalar.indexCast v145
  let c0_486 : Index := 0#32
  let c1_487 : Index := 1#32
  let c0_488 : Index := 0#32
  ![v818.toNat, 0, 1, 0]
def k0_off21_at (r : Fin 5) : BitVec 32 :=
  if r.val < 2 then
    if r.val < 1 then
      4294967295#32
    else
      1#32
  else
    if r.val < 3 then
      4294967294#32
    else
      if r.val < 4 then
        2#32
      else
        4#32
def k0_off22 (d0 : Dev nD) (c_m1_i32_79 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v140 : BitVec 32 := Scalar.addi v5 c_m1_i32_79
  let c16_i32_80 : BitVec 32 := 16#32
  let v141 : BitVec 32 := Scalar.addi v140 c16_i32_80
  let c8_i32_81 : BitVec 32 := 8#32
  let v142 : BitVec 32 := Scalar.remsi v141 c8_i32_81
  let c4_i32_82 : BitVec 32 := 4#32
  let v143 : BitVec 1 := Scalar.cmpi .slt v142 c4_i32_82
  let c11_i32_83 : BitVec 32 := 11#32
  let v144 : BitVec 32 := Scalar.subi c11_i32_83 v142
  let v145 : BitVec 32 := Scalar.select v143 v142 v144
  let v823 : Index := Scalar.indexCast v145
  let c1_490 : Index := 1#32
  let c1_491 : Index := 1#32
  let c0_492 : Index := 0#32
  ![v823.toNat, 1, 1, 0]
def k0_off22_at (r : Fin 5) : BitVec 32 :=
  if r.val < 2 then
    if r.val < 1 then
      4294967295#32
    else
      1#32
  else
    if r.val < 3 then
      4294967294#32
    else
      if r.val < 4 then
        2#32
      else
        4#32
def k0_off23 (d0 : Dev nD) (c3_i32_99 : BitVec 32) (c_m3_i32_104 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v6 : BitVec 32 := Scalar.remsi v5 c2_i32
  let c0_i32 : BitVec 32 := 0#32
  let v7 : BitVec 1 := Scalar.cmpi .eq v6 c0_i32
  let v164 : BitVec 32 := Scalar.addi v5 c3_i32_99
  let c16_i32_100 : BitVec 32 := 16#32
  let v165 : BitVec 32 := Scalar.addi v164 c16_i32_100
  let c8_i32_101 : BitVec 32 := 8#32
  let v166 : BitVec 32 := Scalar.remsi v165 c8_i32_101
  let c4_i32_102 : BitVec 32 := 4#32
  let v167 : BitVec 1 := Scalar.cmpi .slt v166 c4_i32_102
  let c11_i32_103 : BitVec 32 := 11#32
  let v168 : BitVec 32 := Scalar.subi c11_i32_103 v166
  let v169 : BitVec 32 := Scalar.select v167 v166 v168
  let v170 : BitVec 32 := Scalar.addi v5 c_m3_i32_104
  let c16_i32_105 : BitVec 32 := 16#32
  let v171 : BitVec 32 := Scalar.addi v170 c16_i32_105
  let c8_i32_106 : BitVec 32 := 8#32
  let v172 : BitVec 32 := Scalar.remsi v171 c8_i32_106
  let c4_i32_107 : BitVec 32 := 4#32
  let v173 : BitVec 1 := Scalar.cmpi .slt v172 c4_i32_107
  let c11_i32_108 : BitVec 32 := 11#32
  let v174 : BitVec 32 := Scalar.subi c11_i32_108 v172
  let v175 : BitVec 32 := Scalar.select v173 v172 v174
  let v176 : BitVec 32 := Scalar.select v7 v169 v175
  let v1216 : Index := Scalar.indexCast v176
  let c0_584 : Index := 0#32
  let c0_585 : Index := 0#32
  let c0_586 : Index := 0#32
  ![v1216.toNat, 0, 0, 0]
def k0_off23_at (r : Fin 2) : BitVec 32 × BitVec 32 :=
  if r.val < 1 then
    (3#32, 4294967293#32)
  else
    (4294967293#32, 3#32)
def k0_off24 (d0 : Dev nD) (c3_i32_99 : BitVec 32) (c_m3_i32_104 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v6 : BitVec 32 := Scalar.remsi v5 c2_i32
  let c0_i32 : BitVec 32 := 0#32
  let v7 : BitVec 1 := Scalar.cmpi .eq v6 c0_i32
  let v164 : BitVec 32 := Scalar.addi v5 c3_i32_99
  let c16_i32_100 : BitVec 32 := 16#32
  let v165 : BitVec 32 := Scalar.addi v164 c16_i32_100
  let c8_i32_101 : BitVec 32 := 8#32
  let v166 : BitVec 32 := Scalar.remsi v165 c8_i32_101
  let c4_i32_102 : BitVec 32 := 4#32
  let v167 : BitVec 1 := Scalar.cmpi .slt v166 c4_i32_102
  let c11_i32_103 : BitVec 32 := 11#32
  let v168 : BitVec 32 := Scalar.subi c11_i32_103 v166
  let v169 : BitVec 32 := Scalar.select v167 v166 v168
  let v170 : BitVec 32 := Scalar.addi v5 c_m3_i32_104
  let c16_i32_105 : BitVec 32 := 16#32
  let v171 : BitVec 32 := Scalar.addi v170 c16_i32_105
  let c8_i32_106 : BitVec 32 := 8#32
  let v172 : BitVec 32 := Scalar.remsi v171 c8_i32_106
  let c4_i32_107 : BitVec 32 := 4#32
  let v173 : BitVec 1 := Scalar.cmpi .slt v172 c4_i32_107
  let c11_i32_108 : BitVec 32 := 11#32
  let v174 : BitVec 32 := Scalar.subi c11_i32_108 v172
  let v175 : BitVec 32 := Scalar.select v173 v172 v174
  let v176 : BitVec 32 := Scalar.select v7 v169 v175
  let v1225 : Index := Scalar.indexCast v176
  let c0_587 : Index := 0#32
  let c0_588 : Index := 0#32
  let c0_589 : Index := 0#32
  ![v1225.toNat, 0, 0, 0]
def k0_off24_at (r : Fin 2) : BitVec 32 × BitVec 32 :=
  if r.val < 1 then
    (3#32, 4294967293#32)
  else
    (4294967293#32, 3#32)
def k0_off25 (d0 : Dev nD) (c3_i32_99 : BitVec 32) (c_m3_i32_104 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v6 : BitVec 32 := Scalar.remsi v5 c2_i32
  let c0_i32 : BitVec 32 := 0#32
  let v7 : BitVec 1 := Scalar.cmpi .eq v6 c0_i32
  let v164 : BitVec 32 := Scalar.addi v5 c3_i32_99
  let c16_i32_100 : BitVec 32 := 16#32
  let v165 : BitVec 32 := Scalar.addi v164 c16_i32_100
  let c8_i32_101 : BitVec 32 := 8#32
  let v166 : BitVec 32 := Scalar.remsi v165 c8_i32_101
  let c4_i32_102 : BitVec 32 := 4#32
  let v167 : BitVec 1 := Scalar.cmpi .slt v166 c4_i32_102
  let c11_i32_103 : BitVec 32 := 11#32
  let v168 : BitVec 32 := Scalar.subi c11_i32_103 v166
  let v169 : BitVec 32 := Scalar.select v167 v166 v168
  let v170 : BitVec 32 := Scalar.addi v5 c_m3_i32_104
  let c16_i32_105 : BitVec 32 := 16#32
  let v171 : BitVec 32 := Scalar.addi v170 c16_i32_105
  let c8_i32_106 : BitVec 32 := 8#32
  let v172 : BitVec 32 := Scalar.remsi v171 c8_i32_106
  let c4_i32_107 : BitVec 32 := 4#32
  let v173 : BitVec 1 := Scalar.cmpi .slt v172 c4_i32_107
  let c11_i32_108 : BitVec 32 := 11#32
  let v174 : BitVec 32 := Scalar.subi c11_i32_108 v172
  let v175 : BitVec 32 := Scalar.select v173 v172 v174
  let v176 : BitVec 32 := Scalar.select v7 v169 v175
  let v1230 : Index := Scalar.indexCast v176
  let c1_591 : Index := 1#32
  let c0_592 : Index := 0#32
  let c0_593 : Index := 0#32
  ![v1230.toNat, 1, 0, 0]
def k0_off25_at (r : Fin 2) : BitVec 32 × BitVec 32 :=
  if r.val < 1 then
    (3#32, 4294967293#32)
  else
    (4294967293#32, 3#32)
def k0_off26 (d0 : Dev nD) (c3_i32_99 : BitVec 32) (c_m3_i32_104 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v6 : BitVec 32 := Scalar.remsi v5 c2_i32
  let c0_i32 : BitVec 32 := 0#32
  let v7 : BitVec 1 := Scalar.cmpi .eq v6 c0_i32
  let v164 : BitVec 32 := Scalar.addi v5 c3_i32_99
  let c16_i32_100 : BitVec 32 := 16#32
  let v165 : BitVec 32 := Scalar.addi v164 c16_i32_100
  let c8_i32_101 : BitVec 32 := 8#32
  let v166 : BitVec 32 := Scalar.remsi v165 c8_i32_101
  let c4_i32_102 : BitVec 32 := 4#32
  let v167 : BitVec 1 := Scalar.cmpi .slt v166 c4_i32_102
  let c11_i32_103 : BitVec 32 := 11#32
  let v168 : BitVec 32 := Scalar.subi c11_i32_103 v166
  let v169 : BitVec 32 := Scalar.select v167 v166 v168
  let v170 : BitVec 32 := Scalar.addi v5 c_m3_i32_104
  let c16_i32_105 : BitVec 32 := 16#32
  let v171 : BitVec 32 := Scalar.addi v170 c16_i32_105
  let c8_i32_106 : BitVec 32 := 8#32
  let v172 : BitVec 32 := Scalar.remsi v171 c8_i32_106
  let c4_i32_107 : BitVec 32 := 4#32
  let v173 : BitVec 1 := Scalar.cmpi .slt v172 c4_i32_107
  let c11_i32_108 : BitVec 32 := 11#32
  let v174 : BitVec 32 := Scalar.subi c11_i32_108 v172
  let v175 : BitVec 32 := Scalar.select v173 v172 v174
  let v176 : BitVec 32 := Scalar.select v7 v169 v175
  let v1343 : Index := Scalar.indexCast v176
  let c1_615 : Index := 1#32
  let c0_616 : Index := 0#32
  let c0_617 : Index := 0#32
  ![v1343.toNat, 1, 0, 0]
def k0_off26_at (r : Fin 2) : BitVec 32 × BitVec 32 :=
  if r.val < 1 then
    (3#32, 4294967293#32)
  else
    (4294967293#32, 3#32)
def k0_off27 (d0 : Dev nD) (c3_i32_99 : BitVec 32) (c_m3_i32_104 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v6 : BitVec 32 := Scalar.remsi v5 c2_i32
  let c0_i32 : BitVec 32 := 0#32
  let v7 : BitVec 1 := Scalar.cmpi .eq v6 c0_i32
  let v164 : BitVec 32 := Scalar.addi v5 c3_i32_99
  let c16_i32_100 : BitVec 32 := 16#32
  let v165 : BitVec 32 := Scalar.addi v164 c16_i32_100
  let c8_i32_101 : BitVec 32 := 8#32
  let v166 : BitVec 32 := Scalar.remsi v165 c8_i32_101
  let c4_i32_102 : BitVec 32 := 4#32
  let v167 : BitVec 1 := Scalar.cmpi .slt v166 c4_i32_102
  let c11_i32_103 : BitVec 32 := 11#32
  let v168 : BitVec 32 := Scalar.subi c11_i32_103 v166
  let v169 : BitVec 32 := Scalar.select v167 v166 v168
  let v170 : BitVec 32 := Scalar.addi v5 c_m3_i32_104
  let c16_i32_105 : BitVec 32 := 16#32
  let v171 : BitVec 32 := Scalar.addi v170 c16_i32_105
  let c8_i32_106 : BitVec 32 := 8#32
  let v172 : BitVec 32 := Scalar.remsi v171 c8_i32_106
  let c4_i32_107 : BitVec 32 := 4#32
  let v173 : BitVec 1 := Scalar.cmpi .slt v172 c4_i32_107
  let c11_i32_108 : BitVec 32 := 11#32
  let v174 : BitVec 32 := Scalar.subi c11_i32_108 v172
  let v175 : BitVec 32 := Scalar.select v173 v172 v174
  let v176 : BitVec 32 := Scalar.select v7 v169 v175
  let v1352 : Index := Scalar.indexCast v176
  let c0_618 : Index := 0#32
  let c1_619 : Index := 1#32
  let c0_620 : Index := 0#32
  ![v1352.toNat, 0, 1, 0]
def k0_off27_at (r : Fin 2) : BitVec 32 × BitVec 32 :=
  if r.val < 1 then
    (3#32, 4294967293#32)
  else
    (4294967293#32, 3#32)
def k0_off28 (d0 : Dev nD) (c3_i32_99 : BitVec 32) (c_m3_i32_104 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v6 : BitVec 32 := Scalar.remsi v5 c2_i32
  let c0_i32 : BitVec 32 := 0#32
  let v7 : BitVec 1 := Scalar.cmpi .eq v6 c0_i32
  let v164 : BitVec 32 := Scalar.addi v5 c3_i32_99
  let c16_i32_100 : BitVec 32 := 16#32
  let v165 : BitVec 32 := Scalar.addi v164 c16_i32_100
  let c8_i32_101 : BitVec 32 := 8#32
  let v166 : BitVec 32 := Scalar.remsi v165 c8_i32_101
  let c4_i32_102 : BitVec 32 := 4#32
  let v167 : BitVec 1 := Scalar.cmpi .slt v166 c4_i32_102
  let c11_i32_103 : BitVec 32 := 11#32
  let v168 : BitVec 32 := Scalar.subi c11_i32_103 v166
  let v169 : BitVec 32 := Scalar.select v167 v166 v168
  let v170 : BitVec 32 := Scalar.addi v5 c_m3_i32_104
  let c16_i32_105 : BitVec 32 := 16#32
  let v171 : BitVec 32 := Scalar.addi v170 c16_i32_105
  let c8_i32_106 : BitVec 32 := 8#32
  let v172 : BitVec 32 := Scalar.remsi v171 c8_i32_106
  let c4_i32_107 : BitVec 32 := 4#32
  let v173 : BitVec 1 := Scalar.cmpi .slt v172 c4_i32_107
  let c11_i32_108 : BitVec 32 := 11#32
  let v174 : BitVec 32 := Scalar.subi c11_i32_108 v172
  let v175 : BitVec 32 := Scalar.select v173 v172 v174
  let v176 : BitVec 32 := Scalar.select v7 v169 v175
  let v1357 : Index := Scalar.indexCast v176
  let c1_622 : Index := 1#32
  let c1_623 : Index := 1#32
  let c0_624 : Index := 0#32
  ![v1357.toNat, 1, 1, 0]
def k0_off28_at (r : Fin 2) : BitVec 32 × BitVec 32 :=
  if r.val < 1 then
    (3#32, 4294967293#32)
  else
    (4294967293#32, 3#32)
def k0_dev16 (d0 : Dev nD) : Nat :=
  let c0_i32_763 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v6 : BitVec 32 := Scalar.remsi v5 c2_i32
  let c0_i32 : BitVec 32 := 0#32
  let v7 : BitVec 1 := Scalar.cmpi .eq v6 c0_i32
  let c3_i32 : BitVec 32 := 3#32
  let v20 : BitVec 32 := Scalar.addi v5 c3_i32
  let c16_i32_8 : BitVec 32 := 16#32
  let v21 : BitVec 32 := Scalar.addi v20 c16_i32_8
  let c8_i32_9 : BitVec 32 := 8#32
  let v22 : BitVec 32 := Scalar.remsi v21 c8_i32_9
  let c4_i32_10 : BitVec 32 := 4#32
  let v23 : BitVec 1 := Scalar.cmpi .slt v22 c4_i32_10
  let c11_i32_11 : BitVec 32 := 11#32
  let v24 : BitVec 32 := Scalar.subi c11_i32_11 v22
  let v25 : BitVec 32 := Scalar.select v23 v22 v24
  let c_m3_i32 : BitVec 32 := 4294967293#32
  let v26 : BitVec 32 := Scalar.addi v5 c_m3_i32
  let c16_i32_12 : BitVec 32 := 16#32
  let v27 : BitVec 32 := Scalar.addi v26 c16_i32_12
  let c8_i32_13 : BitVec 32 := 8#32
  let v28 : BitVec 32 := Scalar.remsi v27 c8_i32_13
  let c4_i32_14 : BitVec 32 := 4#32
  let v29 : BitVec 1 := Scalar.cmpi .slt v28 c4_i32_14
  let c11_i32_15 : BitVec 32 := 11#32
  let v30 : BitVec 32 := Scalar.subi c11_i32_15 v28
  let v31 : BitVec 32 := Scalar.select v29 v28 v30
  let v32 : BitVec 32 := Scalar.select v7 v25 v31
  let c1_i32_762 : BitVec 32 := 1#32
  let v1554 : BitVec 32 := Scalar.muli v32 c1_i32_762
  let v1555 : BitVec 32 := Scalar.addi c0_i32_763 v1554
  v1555.toNat
def k0_dev17 (d0 : Dev nD) : Nat :=
  let c0_i32_773 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v6 : BitVec 32 := Scalar.remsi v5 c2_i32
  let c0_i32 : BitVec 32 := 0#32
  let v7 : BitVec 1 := Scalar.cmpi .eq v6 c0_i32
  let c3_i32 : BitVec 32 := 3#32
  let v20 : BitVec 32 := Scalar.addi v5 c3_i32
  let c16_i32_8 : BitVec 32 := 16#32
  let v21 : BitVec 32 := Scalar.addi v20 c16_i32_8
  let c8_i32_9 : BitVec 32 := 8#32
  let v22 : BitVec 32 := Scalar.remsi v21 c8_i32_9
  let c4_i32_10 : BitVec 32 := 4#32
  let v23 : BitVec 1 := Scalar.cmpi .slt v22 c4_i32_10
  let c11_i32_11 : BitVec 32 := 11#32
  let v24 : BitVec 32 := Scalar.subi c11_i32_11 v22
  let v25 : BitVec 32 := Scalar.select v23 v22 v24
  let c_m3_i32 : BitVec 32 := 4294967293#32
  let v26 : BitVec 32 := Scalar.addi v5 c_m3_i32
  let c16_i32_12 : BitVec 32 := 16#32
  let v27 : BitVec 32 := Scalar.addi v26 c16_i32_12
  let c8_i32_13 : BitVec 32 := 8#32
  let v28 : BitVec 32 := Scalar.remsi v27 c8_i32_13
  let c4_i32_14 : BitVec 32 := 4#32
  let v29 : BitVec 1 := Scalar.cmpi .slt v28 c4_i32_14
  let c11_i32_15 : BitVec 32 := 11#32
  let v30 : BitVec 32 := Scalar.subi c11_i32_15 v28
  let v31 : BitVec 32 := Scalar.select v29 v28 v30
  let v32 : BitVec 32 := Scalar.select v7 v25 v31
  let c1_i32_772 : BitVec 32 := 1#32
  let v1564 : BitVec 32 := Scalar.muli v32 c1_i32_772
  let v1565 : BitVec 32 := Scalar.addi c0_i32_773 v1564
  v1565.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "score_step" => some ((1 / 1016 : ℝ) : EReal)
  | "value_step" => some ((1 / 127 : ℝ) : EReal)
  | _ => none
-- ==== ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩
abbrev S2x2048 : Shape := ⟨2, ![2, 2048]⟩
abbrev S2x2048x1x1 : Shape := ⟨4, ![2, 2048, 1, 1]⟩
abbrev S2x2048x256 : Shape := ⟨3, ![2, 2048, 256]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x4x2048x2048 : Shape := ⟨4, ![2, 4, 2048, 2048]⟩
abbrev S1x1x2048x2048 : Shape := ⟨4, ![1, 1, 2048, 2048]⟩
abbrev S2x4x2048 : Shape := ⟨3, ![2, 4, 2048]⟩
abbrev S2x4x2048x1 : Shape := ⟨4, ![2, 4, 2048, 1]⟩
abbrev S1x1x2048x1 : Shape := ⟨4, ![1, 1, 2048, 1]⟩
abbrev S2x4x64x2048 : Shape := ⟨4, ![2, 4, 64, 2048]⟩

abbrev nBuf : Space → Nat
  | .hbm => 183
  | .vmem => 0
  | .smem => 0
  | _ => 0

abbrev hbmTy0_0 (i : Nat) : BufTy := match i % 128 with
  | 0 => ⟨S2x2048x512, .f32⟩
  | 1 => ⟨S512x256, .f32⟩
  | 2 => ⟨S2x2048x4x64, .f32⟩
  | 3 => ⟨S2x2048x4x64, .f32⟩
  | 4 => ⟨S256x512, .f32⟩
  | 5 => ⟨S2x2048x4x64, .f32⟩
  | 6 => ⟨S_, .f32⟩
  | 7 => ⟨S2x2048, .f32⟩
  | 8 => ⟨S2x2048x1x1, .f32⟩
  | 9 => ⟨S_, .f32⟩
  | 10 => ⟨S2x2048x1x1, .f32⟩
  | 11 => ⟨S2x2048x1x1, .f32⟩
  | 12 => ⟨S_, .f32⟩
  | 13 => ⟨S2x2048x1x1, .f32⟩
  | 14 => ⟨S2x2048x1x1, .f32⟩
  | 15 => ⟨S2x2048x4x64, .f32⟩
  | 16 => ⟨S2x2048x4x64, .f32⟩
  | 17 => ⟨S2x2048x4x64, .f32⟩
  | 18 => ⟨S_, .f32⟩
  | 19 => ⟨S_, .f32⟩
  | 20 => ⟨S_, .f32⟩
  | 21 => ⟨S2x2048x4x64, .f32⟩
  | 22 => ⟨S2x2048x4x64, .f32⟩
  | 23 => ⟨S_, .f32⟩
  | 24 => ⟨S2x2048x4x64, .f32⟩
  | 25 => ⟨S2x2048x4x64, .f32⟩
  | 26 => ⟨S2x2048x4x64, .i32⟩
  | 27 => ⟨S2x2048x4x64, .i8⟩
  | 28 => ⟨S2x2048x4x64, .i32⟩
  | 29 => ⟨S2x2048x4x64, .f32⟩
  | 30 => ⟨S_, .f32⟩
  | 31 => ⟨S2x2048x1x1, .f32⟩
  | 32 => ⟨S2x2048x1x1, .f32⟩
  | 33 => ⟨S2x2048x4x64, .f32⟩
  | 34 => ⟨S2x2048x4x64, .f32⟩
  | 35 => ⟨S2x2048x4x64, .f32⟩
  | 36 => ⟨S_, .f32⟩
  | 37 => ⟨S2x2048, .f32⟩
  | 38 => ⟨S2x2048x1x1, .f32⟩
  | 39 => ⟨S_, .f32⟩
  | 40 => ⟨S2x2048x1x1, .f32⟩
  | 41 => ⟨S2x2048x1x1, .f32⟩
  | 42 => ⟨S_, .f32⟩
  | 43 => ⟨S2x2048x1x1, .f32⟩
  | 44 => ⟨S2x2048x1x1, .f32⟩
  | 45 => ⟨S2x2048x4x64, .f32⟩
  | 46 => ⟨S2x2048x4x64, .f32⟩
  | 47 => ⟨S2x2048x4x64, .f32⟩
  | 48 => ⟨S_, .f32⟩
  | 49 => ⟨S_, .f32⟩
  | 50 => ⟨S_, .f32⟩
  | 51 => ⟨S2x2048x4x64, .f32⟩
  | 52 => ⟨S2x2048x4x64, .f32⟩
  | 53 => ⟨S_, .f32⟩
  | 54 => ⟨S2x2048x4x64, .f32⟩
  | 55 => ⟨S2x2048x4x64, .f32⟩
  | 56 => ⟨S2x2048x4x64, .i32⟩
  | 57 => ⟨S2x2048x4x64, .i8⟩
  | 58 => ⟨S2x2048x4x64, .i32⟩
  | 59 => ⟨S2x2048x4x64, .f32⟩
  | 60 => ⟨S_, .f32⟩
  | 61 => ⟨S2x2048x1x1, .f32⟩
  | 62 => ⟨S2x2048x1x1, .f32⟩
  | 63 => ⟨S2x2048x4x64, .f32⟩
  | 64 => ⟨S2x2048x4x64, .f32⟩
  | 65 => ⟨S2x2048x256, .f32⟩
  | 66 => ⟨S2x2048x4x64, .f32⟩
  | 67 => ⟨S2048, .i32⟩
  | 68 => ⟨S_, .i32⟩
  | 69 => ⟨S_, .i32⟩
  | 70 => ⟨S2048, .i32⟩
  | 71 => ⟨S2048, .i32⟩
  | 72 => ⟨S2048, .i32⟩
  | 73 => ⟨S_, .i32⟩
  | 74 => ⟨S2048, .i32⟩
  | 75 => ⟨S2048, .i1⟩
  | 76 => ⟨S2048, .i32⟩
  | 77 => ⟨S2048, .i32⟩
  | 78 => ⟨S_, .i32⟩
  | 79 => ⟨S2048, .i32⟩
  | 80 => ⟨S2048, .i1⟩
  | 81 => ⟨S2048, .i1⟩
  | 82 => ⟨S_, .i32⟩
  | 83 => ⟨S2048, .i32⟩
  | 84 => ⟨S2048, .i32⟩
  | 85 => ⟨S2048, .i32⟩
  | 86 => ⟨S2048x1, .i32⟩
  | 87 => ⟨S2048, .i32⟩
  | 88 => ⟨S_, .i32⟩
  | 89 => ⟨S_, .i32⟩
  | 90 => ⟨S2048, .i32⟩
  | 91 => ⟨S2048, .i32⟩
  | 92 => ⟨S2048, .i32⟩
  | 93 => ⟨S_, .i32⟩
  | 94 => ⟨S2048, .i32⟩
  | 95 => ⟨S2048, .i1⟩
  | 96 => ⟨S2048, .i32⟩
  | 97 => ⟨S2048, .i32⟩
  | 98 => ⟨S_, .i32⟩
  | 99 => ⟨S2048, .i32⟩
  | 100 => ⟨S2048, .i1⟩
  | 101 => ⟨S2048, .i1⟩
  | 102 => ⟨S_, .i32⟩
  | 103 => ⟨S2048, .i32⟩
  | 104 => ⟨S2048, .i32⟩
  | 105 => ⟨S2048, .i32⟩
  | 106 => ⟨S1x2048, .i32⟩
  | 107 => ⟨S2048x2048, .i32⟩
  | 108 => ⟨S2048x2048, .i32⟩
  | 109 => ⟨S2048x2048, .i1⟩
  | 110 => ⟨S_, .i32⟩
  | 111 => ⟨S1x2048, .i32⟩
  | 112 => ⟨S1x2048, .i1⟩
  | 113 => ⟨S2048x2048, .i1⟩
  | 114 => ⟨S2048x2048, .i1⟩
  | 115 => ⟨S2048x2048, .i32⟩
  | 116 => ⟨S2048x2048, .i32⟩
  | 117 => ⟨S2048x2048, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S2048x2048, .i32⟩
  | 125 => ⟨S2048x2048, .i32⟩
  | 126 => ⟨S_, .i32⟩
  | 127 => ⟨S2048x2048, .i32⟩
  | _ => ⟨S2x2048x512, .f32⟩

abbrev hbmTy0_1 (i : Nat) : BufTy := match i % 128 with
  | 0 => ⟨S2048x2048, .i1⟩
  | 1 => ⟨S_, .i32⟩
  | 2 => ⟨S2048x2048, .i32⟩
  | 3 => ⟨S2048x2048, .i1⟩
  | 4 => ⟨S_, .i32⟩
  | 5 => ⟨S_, .i1⟩
  | 6 => ⟨S2048x2048, .i1⟩
  | 7 => ⟨S2048x2048, .i1⟩
  | 8 => ⟨S2048x2048, .i1⟩
  | 9 => ⟨S2048x2048, .i32⟩
  | 10 => ⟨S2048x2048, .i32⟩
  | 11 => ⟨S2048x2048, .i32⟩
  | 12 => ⟨S_, .i32⟩
  | 13 => ⟨S2048x2048, .i32⟩
  | 14 => ⟨S2048x2048, .i1⟩
  | 15 => ⟨S2048x2048, .i1⟩
  | 16 => ⟨S2x4x2048x2048, .f32⟩
  | 17 => ⟨S_, .f32⟩
  | 18 => ⟨S2x4x2048x2048, .f32⟩
  | 19 => ⟨S2x4x2048x2048, .f32⟩
  | 20 => ⟨S1x1x2048x2048, .i1⟩
  | 21 => ⟨S_, .f32⟩
  | 22 => ⟨S_, .f32⟩
  | 23 => ⟨S2x4x2048x2048, .i1⟩
  | 24 => ⟨S2x4x2048x2048, .f32⟩
  | 25 => ⟨S2x4x2048x2048, .f32⟩
  | 26 => ⟨S_, .f32⟩
  | 27 => ⟨S2x4x2048, .f32⟩
  | 28 => ⟨S2x4x2048x1, .f32⟩
  | 29 => ⟨S2x4x2048x2048, .f32⟩
  | 30 => ⟨S2x4x2048x2048, .f32⟩
  | 31 => ⟨S2x4x2048x2048, .f32⟩
  | 32 => ⟨S_, .i1⟩
  | 33 => ⟨S2048, .i1⟩
  | 34 => ⟨S1x1x2048x1, .i1⟩
  | 35 => ⟨S_, .f32⟩
  | 36 => ⟨S2x4x2048, .f32⟩
  | 37 => ⟨S2x4x2048x1, .f32⟩
  | 38 => ⟨S_, .f32⟩
  | 39 => ⟨S_, .f32⟩
  | 40 => ⟨S2x4x2048x1, .i1⟩
  | 41 => ⟨S2x4x2048x1, .f32⟩
  | 42 => ⟨S2x4x2048x1, .f32⟩
  | 43 => ⟨S2x4x2048x2048, .f32⟩
  | 44 => ⟨S2x4x2048x2048, .f32⟩
  | 45 => ⟨S1x1x2048x1, .i1⟩
  | 46 => ⟨S_, .f32⟩
  | 47 => ⟨S_, .f32⟩
  | 48 => ⟨S2x4x2048x2048, .i1⟩
  | 49 => ⟨S2x4x2048x2048, .f32⟩
  | 50 => ⟨S2x4x2048x2048, .f32⟩
  | 51 => ⟨S2x4x64x2048, .f32⟩
  | 52 => ⟨S2x2048x4x64, .f32⟩
  | 53 => ⟨S2x2048x256, .f32⟩
  | 54 => ⟨S2x2048x512, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_cst_9 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_10 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_call4_v5 : Ref sig .tc := ⟨.hbm, 74, rfl⟩
abbrev main_call4_v6 : Ref sig .tc := ⟨.hbm, 75, rfl⟩
abbrev main_call4_v7 : Ref sig .tc := ⟨.hbm, 76, rfl⟩
abbrev main_call4_v8 : Ref sig .tc := ⟨.hbm, 77, rfl⟩
abbrev main_call4_c : Ref sig .tc := ⟨.hbm, 78, rfl⟩
abbrev main_call4_v9 : Ref sig .tc := ⟨.hbm, 79, rfl⟩
abbrev main_call4_v10 : Ref sig .tc := ⟨.hbm, 80, rfl⟩
abbrev main_call4_v11 : Ref sig .tc := ⟨.hbm, 81, rfl⟩
abbrev main_call4_c_0 : Ref sig .tc := ⟨.hbm, 82, rfl⟩
abbrev main_call4_v12 : Ref sig .tc := ⟨.hbm, 83, rfl⟩
abbrev main_call4_v13 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_c_11 : Ref sig .tc := ⟨.hbm, 88, rfl⟩
abbrev main_call5_v0 : Ref sig .tc := ⟨.hbm, 89, rfl⟩
abbrev main_call5_v1 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_call5_v5 : Ref sig .tc := ⟨.hbm, 94, rfl⟩
abbrev main_call5_v6 : Ref sig .tc := ⟨.hbm, 95, rfl⟩
abbrev main_call5_v7 : Ref sig .tc := ⟨.hbm, 96, rfl⟩
abbrev main_call5_v8 : Ref sig .tc := ⟨.hbm, 97, rfl⟩
abbrev main_call5_c : Ref sig .tc := ⟨.hbm, 98, rfl⟩
abbrev main_call5_v9 : Ref sig .tc := ⟨.hbm, 99, rfl⟩
abbrev main_call5_v10 : Ref sig .tc := ⟨.hbm, 100, rfl⟩
abbrev main_call5_v11 : Ref sig .tc := ⟨.hbm, 101, rfl⟩
abbrev main_call5_c_0 : Ref sig .tc := ⟨.hbm, 102, rfl⟩
abbrev main_call5_v12 : Ref sig .tc := ⟨.hbm, 103, rfl⟩
abbrev main_call5_v13 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_c_12 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_c_13 : Ref sig .tc := ⟨.hbm, 118, rfl⟩
abbrev main_call6_v0 : Ref sig .tc := ⟨.hbm, 119, rfl⟩
abbrev main_call6_c : Ref sig .tc := ⟨.hbm, 120, rfl⟩
abbrev main_call6_v1 : Ref sig .tc := ⟨.hbm, 121, rfl⟩
abbrev main_call6_c_0 : Ref sig .tc := ⟨.hbm, 122, rfl⟩
abbrev main_call6_v2 : Ref sig .tc := ⟨.hbm, 123, rfl⟩
abbrev main_call6_v3 : Ref sig .tc := ⟨.hbm, 124, rfl⟩
abbrev main_call6_v4 : Ref sig .tc := ⟨.hbm, 125, rfl⟩
abbrev main_call6_c_1 : Ref sig .tc := ⟨.hbm, 126, rfl⟩
abbrev main_call6_v5 : Ref sig .tc := ⟨.hbm, 127, rfl⟩
abbrev main_call6_v6 : Ref sig .tc := ⟨.hbm, 128, rfl⟩
abbrev main_call6_c_2 : Ref sig .tc := ⟨.hbm, 129, rfl⟩
abbrev main_call6_v7 : Ref sig .tc := ⟨.hbm, 130, rfl⟩
abbrev main_call6_v8 : Ref sig .tc := ⟨.hbm, 131, rfl⟩
abbrev main_call6_c_3 : Ref sig .tc := ⟨.hbm, 132, rfl⟩
abbrev main_call6_v9 : Ref sig .tc := ⟨.hbm, 133, rfl⟩
abbrev main_call6_v10 : Ref sig .tc := ⟨.hbm, 134, rfl⟩
abbrev main_call6_v11 : Ref sig .tc := ⟨.hbm, 135, rfl⟩
abbrev main_call6_v12 : Ref sig .tc := ⟨.hbm, 136, rfl⟩
abbrev main_call6_v13 : Ref sig .tc := ⟨.hbm, 137, rfl⟩
abbrev main_call6_v14 : Ref sig .tc := ⟨.hbm, 138, rfl⟩
abbrev main_v56 : Ref sig .tc := ⟨.hbm, 139, rfl⟩
abbrev main_c_14 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_cst_15 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_cst_16 : Ref sig .tc := ⟨.hbm, 149, rfl⟩
abbrev main_call7_v0 : Ref sig .tc := ⟨.hbm, 150, rfl⟩
abbrev main_call7_v1 : Ref sig .tc := ⟨.hbm, 151, rfl⟩
abbrev main_call7_v2 : Ref sig .tc := ⟨.hbm, 152, rfl⟩
abbrev main_v64 : Ref sig .tc := ⟨.hbm, 153, rfl⟩
abbrev main_cst_17 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_c_18 : Ref sig .tc := ⟨.hbm, 160, rfl⟩
abbrev main_v70 : Ref sig .tc := ⟨.hbm, 161, rfl⟩
abbrev main_v71 : Ref sig .tc := ⟨.hbm, 162, rfl⟩
abbrev main_cst_19 : Ref sig .tc := ⟨.hbm, 163, rfl⟩
abbrev main_v72 : Ref sig .tc := ⟨.hbm, 164, rfl⟩
abbrev main_v73 : Ref sig .tc := ⟨.hbm, 165, rfl⟩
abbrev main_cst_20 : Ref sig .tc := ⟨.hbm, 166, rfl⟩
abbrev main_call8_v0 : Ref sig .tc := ⟨.hbm, 167, rfl⟩
abbrev main_call8_v1 : Ref sig .tc := ⟨.hbm, 168, rfl⟩
abbrev main_call8_v2 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_cst_21 : Ref sig .tc := ⟨.hbm, 174, rfl⟩
abbrev main_call9_v0 : Ref sig .tc := ⟨.hbm, 175, rfl⟩
abbrev main_call9_v1 : Ref sig .tc := ⟨.hbm, 176, rfl⟩
abbrev main_call9_v2 : Ref sig .tc := ⟨.hbm, 177, rfl⟩
abbrev main_v78 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩

abbrev nD : Nat := 1
abbrev τ : Topo := Topo.v7x

variable {F : FTy → Type} [FloatOps F]
-- ==== Proof.ProgramIdeal.lean ====
/- The kernel's body written with loops unrolled into named pieces: the quantiser, the sends, the waits, the loads of a
   chunk, and one step of the running softmax per head. `body_eq` says that the printed body is this program. -/
module

public import proofs.«01_k».proof.Proof.Gen.KernelIdeal
public import proofs.«01_k».proof.Proof.Gen.KernelIdeal.Skeleton
public import Idealize.ShloMosaic.Lib.Pipeline.Regions

@[expose] public section

noncomputable section

namespace Cert.KernelIdeal.Prg

open Cert.KernelIdeal Cert.KernelIdeal.Gen Idealize.ShloMosaic Idealize.ShloMosaic.TcCoe Idealize.SL.Sem

variable {F : FTy → Type} [FloatOps F] [Named F]

/-- The factor 0.125/127 on the key scales. -/
def scoreStep : F .f32 := Named.named κ "score_step" 0x3A810204#32
/-- The factor 1/127 on the value scales. -/
def valueStep : F .f32 := Named.named κ "value_step" 0x3C010204#32

/-! ## The pure functions -/

/-- The block of K or V as rows of 256. -/
def rows (x : Vec F S2x256x4x64 .f32) : FVec F S2x256x256 .f32 :=
  shapeCast S2x256x256 (shapeCast S2x256x4x64 x shapeCasts_S2x256x4x64_S2x256x4x64 : FVec F S2x256x4x64 .f32) shapeCasts_S2x256x4x64_S2x256x256
/-- The largest magnitude of each row, at least 1e-9. -/
def top (x : Vec F S2x256x4x64 .f32) : FVec F S2x256x1 .f32 :=
  maximumf (shapeCast S2x256x1 (multiReduction .maximumf [2] S2x256 (absf (rows x)) 0xFF800000#32 reduces_S2x256x256_S2x256 (.inl rfl) rfl) shapeCasts_S2x256_S2x256x1)
    (broadcast S2x256x1 (Scalar.ofBits .f32 0x3089705F#32))
/-- The codes: each row scaled to ±127, rounded and clipped. -/
def codes (x : Vec F S2x256x4x64 .f32) : IVec S2x256x256 8 :=
  fptosi 8 (minimumf (broadcast S2x256x256 (Scalar.sitofp .f32 127#32 : F .f32)) (maximumf (broadcast S2x256x256 (Scalar.sitofp .f32 4294967169#32 : F .f32))
    (roundeven (mulf (rows x) (broadcastTo S2x256x256 (divf (broadcast S2x256x1 (Scalar.ofBits .f32 0x42FE0000#32)) (top x)) broadcasts_S2x256x1_S2x256x256)))))
def codesOut (x : Vec F S2x256x4x64 .f32) : IVec S1x2x256x256 8 :=
  shapeCast S1x2x256x256 (shapeCast S1x2x256x256 (codes x) shapeCasts_S2x256x256_S1x2x256x256 : IVec S1x2x256x256 8) shapeCasts_S1x2x256x256_S1x2x256x256
def topOut (x : Vec F S2x256x4x64 .f32) : FVec F S1x1x2x256 .f32 :=
  shapeCast S1x1x2x256 (shapeCast S1x2x256 (shapeCast S2x256 (top x) shapeCasts_S2x256x1_S2x256 : FVec F S2x256 .f32) shapeCasts_S2x256_S1x2x256 : FVec F S1x2x256 .f32) shapeCasts_S1x2x256_S1x1x2x256

/-- The queries of one batch. -/
def queries (wq : Vec F S512x256 .f32) (x : Vec F S1x256x512 .f32) : FVec F S256x256 .bf16 :=
  truncf .bf16 (matmul dot_S256x512_S512x256_S256x256_1_0_0_1_n_n none (truncf .bf16 (shapeCast S256x512 x shapeCasts_S1x256x512_S256x512 : FVec F S256x512 .f32) bitsLt_bf16_f32)
    (truncf .bf16 (shapeCast S512x256 wq shapeCasts_S512x256_S512x256 : FVec F S512x256 .f32) bitsLt_bf16_f32) (constant S256x256 .f32 0x00000000#32)) bitsLt_bf16_f32

/-- The word of device `d`'s position on the mesh, and its place on the ring. -/
def myW (d : Dev nD) : BitVec 32 := Scalar.remsi (Scalar.divsi (Dev.word d) 1#32) 8#32
def grayW (w : BitVec 32) : BitVec 32 := Scalar.select (Scalar.cmpi .slt w 4#32) w (Scalar.subi 11#32 w)
def placeW (d : Dev nD) : BitVec 32 := grayW (myW d)
/-- The device `k` places further around the ring. -/
def cycW (d : Dev nD) (k : BitVec 32) : BitVec 32 := grayW (Scalar.remsi (Scalar.addi (Scalar.addi (placeW d) k) 16#32) 8#32)
/-- One of two words by the parity of the place. -/
def selW (d : Dev nD) (a b : BitVec 32) : BitVec 32 := Scalar.select (Scalar.cmpi .eq (Scalar.remsi (placeW d) 2#32) 0#32) a b

/-- Rounded-down division by 64, as printed. -/
def blockOf (v : IVec S256x256 32) : IVec S256x256 32 :=
  select (andi (cmpi .ne (subi (extui 32 (cmpi .sgt v (broadcast S256x256 0#32)) natLt_1_32) (extui 32 (cmpi .slt v (broadcast S256x256 0#32)) natLt_1_32))
        (broadcast S256x256 (Scalar.subi (Scalar.extui (Scalar.cmpi .sgt 64#32 0#32)) (Scalar.extui (Scalar.cmpi .slt 64#32 0#32)))))
      (cmpi .ne (remsi v (broadcast S256x256 64#32)) (broadcast S256x256 0#32)))
    (subi (divsi v (broadcast S256x256 64#32)) (broadcast S256x256 1#32)) (divsi v (broadcast S256x256 64#32))
def qBlock (d : Dev nD) : IVec S256x256 32 :=
  addi (broadcast S256x256 (Scalar.muli (myW d) 4#32)) (blockOf (iota .tc S256x256 32 [0] iota_S256x256_d0_w32))
def kBlock (w : BitVec 32) : IVec S256x256 32 :=
  addi (broadcast S256x256 (Scalar.muli w 4#32)) (blockOf (iota .tc S256x256 32 [1] iota_S256x256_d1_w32))
/-- Which keys of chunk `w` each query of device `d` may see. -/
def mask (d : Dev nD) (w : BitVec 32) : IVec S256x256 1 :=
  ori (ori (cmpi .eq (qBlock d) (kBlock w)) (cmpi .eq (kBlock w) (broadcast S256x256 0#32)))
    (cmpi .eq (remsi (addi (qBlock d) (kBlock w)) (broadcast S256x256 3#32)) (broadcast S256x256 0#32))

/-- One batch of one chunk as loaded: codes, key scales, value scales. -/
structure Blk (F : FTy → Type) where
  kv : Vec F S1x1x256x512 .i8
  sk : Vec F S1x1x1x256 .f32
  sv : Vec F S1x1x1x256 .f32

def Blk.codesAt (B : Blk F) : IVec S1x256x512 8 := shapeCast S1x256x512 B.kv shapeCasts_S1x1x256x512_S1x256x512
def Blk.keys (B : Blk F) : FVec F S256x256 .bf16 :=
  sitofp .bf16 (shapeCast S256x256 (extractStridedSlice S1x256x256 ![0, 0, 0] B.codesAt slices_S1x256x512_o0_0_0_S1x256x256 : IVec S1x256x256 8) shapeCasts_S1x256x256_S256x256 : IVec S256x256 8)
def Blk.vals (B : Blk F) : FVec F S256x256 .bf16 :=
  sitofp .bf16 (shapeCast S256x256 (extractStridedSlice S1x256x256 ![0, 0, 256] B.codesAt slices_S1x256x512_o0_0_256_S1x256x256 : IVec S1x256x256 8) shapeCasts_S1x256x256_S256x256 : IVec S256x256 8)
def Blk.skf (B : Blk F) : FVec F S1x256 .f32 := mulf (shapeCast S1x256 B.sk shapeCasts_S1x1x1x256_S1x256) (broadcast S1x256 scoreStep)
def Blk.svf (B : Blk F) : FVec F S1x256 .f32 := mulf (shapeCast S1x256 B.sv shapeCasts_S1x1x1x256_S1x256) (broadcast S1x256 valueStep)

theorem headSlice (h : Fin 4) : S256x256.Slices ![0, 64 * h.val] S256x64 := by revert h; decide
def headOf (h : Fin 4) (v : FVec F S256x256 .bf16) : FVec F S256x64 .bf16 := extractStridedSlice S256x64 ![0, 64 * h.val] v (headSlice h)

def scores (h : Fin 4) (q : FVec F S256x256 .bf16) (mk : IVec S256x256 1) (B : Blk F) : FVec F S256x256 .f32 :=
  select mk (mulf (matmul dot_S256x64_S256x64_S256x256_1_1_0_0_n_n none (headOf h q) (headOf h B.keys) (constant S256x256 .f32 0x00000000#32))
    (broadcastTo S256x256 B.skf broadcasts_S1x256_S256x256)) (broadcast S256x256 (Scalar.ofBits .f32 0xCE6E6B28#32))
def rowMax (s : FVec F S256x256 .f32) : FVec F S256x1 .f32 :=
  shapeCast S256x1 (multiReduction .maximumf [1] S256 s 0xFF800000#32 reduces_S256x256_S256 (.inl rfl) rfl) shapeCasts_S256_S256x1
def rowSum (s : FVec F S256x256 .f32) : FVec F S256x1 .f32 :=
  shapeCast S256x1 (multiReduction .add [1] S256 s 0x00000000#32 reduces_S256x256_S256 (.inl rfl) rfl) shapeCasts_S256_S256x1
def weights (s : FVec F S256x256 .f32) (m : FVec F S256x1 .f32) : FVec F S256x256 .f32 :=
  exp (subf s (broadcastTo S256x256 m broadcasts_S256x1_S256x256))
def weigh (h : Fin 4) (p : FVec F S256x256 .f32) (B : Blk F) : FVec F S256x64 .f32 :=
  matmul dot_S256x256_S256x64_S256x64_1_0_0_1_n_n none (truncf .bf16 (mulf p (broadcastTo S256x256 B.svf broadcasts_S1x256_S256x256)) bitsLt_bf16_f32)
    (headOf h B.vals) (constant S256x64 .f32 0x00000000#32)

/-- The running softmax of one head: row maximum, sum of weights, weighted sum of values. -/
structure Run (F : FTy → Type) where
  m : FVec F S256x1 .f32
  l : FVec F S256x1 .f32
  acc : FVec F S256x64 .f32

def firstMax (h : Fin 4) (q : FVec F S256x256 .bf16) (mk : IVec S256x256 1) (B : Blk F) : FVec F S256x1 .f32 := rowMax (scores h q mk B)
def first (h : Fin 4) (q : FVec F S256x256 .bf16) (mk : IVec S256x256 1) (B : Blk F) : Run F where
  m := firstMax h q mk B
  l := rowSum (weights (scores h q mk B) (firstMax h q mk B))
  acc := weigh h (weights (scores h q mk B) (firstMax h q mk B)) B
def nextMax (h : Fin 4) (q : FVec F S256x256 .bf16) (mk : IVec S256x256 1) (B : Blk F) (m : FVec F S256x1 .f32) : FVec F S256x1 .f32 :=
  maximumf m (rowMax (scores h q mk B))
def fade (h : Fin 4) (q : FVec F S256x256 .bf16) (mk : IVec S256x256 1) (B : Blk F) (m : FVec F S256x1 .f32) : FVec F S256x1 .f32 :=
  exp (subf m (nextMax h q mk B m))
def next (h : Fin 4) (q : FVec F S256x256 .bf16) (mk : IVec S256x256 1) (B : Blk F) (R : Run F) : Run F where
  m := nextMax h q mk B R.m
  l := addf (mulf R.l (fade h q mk B R.m)) (rowSum (weights (scores h q mk B) (nextMax h q mk B R.m)))
  acc := addf (mulf R.acc (broadcastTo S256x64 (fade h q mk B R.m) broadcasts_S256x1_S256x64)) (weigh h (weights (scores h q mk B) (nextMax h q mk B R.m)) B)

/-- One head's result. -/
def ctx (R : Run F) : FVec F S256x64 .bf16 := truncf .bf16 (divf R.acc (broadcastTo S256x64 R.l broadcasts_S256x1_S256x64)) bitsLt_bf16_f32
/-- One batch's output block. -/
def project (wo : Vec F S256x512 .f32) (R0 R1 R2 R3 : Run F) : FVec F S1x256x512 .f32 :=
  shapeCast S1x256x512 (matmul dot_S256x256_S256x512_S256x512_1_0_0_1_n_n none
    (concatenate S256x256 1 [⟨S256x64, ctx R0⟩, ⟨S256x64, ctx R1⟩, ⟨S256x64, ctx R2⟩, ⟨S256x64, ctx R3⟩] concatenates_S256x64_S256x64_S256x64_S256x64_S256x256_d1)
    (truncf .bf16 (shapeCast S256x512 wo shapeCasts_S256x512_S256x512 : FVec F S256x512 .f32) bitsLt_bf16_f32) (constant S256x512 .f32 0x00000000#32) : FVec F S256x512 .f32) shapeCasts_S256x512_S1x256x512

/-- The eight chunks of one batch with their words, in the order they are taken. -/
structure Chunks (F : FTy → Type) where
  w0 : BitVec 32
  w1 : BitVec 32
  w2 : BitVec 32
  w3 : BitVec 32
  w4 : BitVec 32
  w5 : BitVec 32
  w6 : BitVec 32
  w7 : BitVec 32
  b0 : Blk F
  b1 : Blk F
  b2 : Blk F
  b3 : Blk F
  b4 : Blk F
  b5 : Blk F
  b6 : Blk F
  b7 : Blk F

def runAll (h : Fin 4) (q : FVec F S256x256 .bf16) (d : Dev nD) (C : Chunks F) : Run F :=
  next h q (mask d C.w7) C.b7 (next h q (mask d C.w6) C.b6 (next h q (mask d C.w5) C.b5 (next h q (mask d C.w4) C.b4
    (next h q (mask d C.w3) C.b3 (next h q (mask d C.w2) C.b2 (next h q (mask d C.w1) C.b1 (first h q (mask d C.w0) C.b0)))))))
/-- One batch's output block from its inputs. -/
def outBlock (wq : Vec F S512x256 .f32) (x : Vec F S1x256x512 .f32) (wo : Vec F S256x512 .f32) (d : Dev nD) (C : Chunks F) : FVec F S1x256x512 .f32 :=
  project wo (runAll 0 (queries wq x) d C) (runAll 1 (queries wq x) d C) (runAll 2 (queries wq x) d C) (runAll 3 (queries wq x) d C)

/-! ## The effects -/

abbrev Eff := TpuEff nD τ sig (Elt F) Λ₀ .tc

section Effects
variable (a6 : Memref sig .tc .vmem S8x2x256x512 .i8) (h6 : a6.IsWhole) (a7 : Memref sig .tc .vmem S8x2x2x256 .f32) (h7 : a7.IsWhole)

/-- A slot of the codes and a slot of the scales. -/
abbrev kvS (off : Fin 4 → Nat) (inb : ∀ a, off a + S1x2x256x512.size a ≤ S8x2x256x512.size a) : Memref sig .tc .vmem S2x256x512 .i8 :=
  (a6.slice (Rect.unit (s := S8x2x256x512) off S1x2x256x512.size inb) (fun _ => rfl)).squeeze S2x256x512 squeezes_S1x2x256x512_S2x256x512
abbrev scS (off : Fin 4 → Nat) (inb : ∀ a, off a + S1x2x2x256.size a ≤ S8x2x2x256.size a) : Memref sig .tc .vmem S2x2x256 .f32 :=
  (a7.slice (Rect.unit (s := S8x2x2x256) off S1x2x2x256.size inb) (fun _ => rfl)).squeeze S2x2x256 squeezes_S1x2x2x256_S2x2x256

abbrev WW (off : Fin 4 → Nat) (inb : ∀ a, off a + S1x2x256x512.size a ≤ S8x2x256x512.size a) : Prop :=
  (Rect.unit (s := S8x2x256x512) off S1x2x256x512.size inb).WholeWords (EltTy.packing .i8)

def sendKV (dev : Dev nD) (off : Fin 4 → Nat) (inb : ∀ a, off a + S1x2x256x512.size a ≤ S8x2x256x512.size a) (ww : WW off inb) (ss rs : DmaSem sig) : Prog (Eff (F := F)) PUnit :=
  Prog.lift (.enqueueDma (kvS a6 off inb) (.remote (Dev.tc dev) (kvS a6 off inb) (.dma ss)) (.dma rs) ((h6.wordExact_slice rfl _ ww).reshape _ _) ((h6.wordExact_slice rfl _ ww).reshape _ _) ⟨⟨rfl, Or.inl rfl⟩, trivial⟩)
def sendSc (dev : Dev nD) (off : Fin 4 → Nat) (inb : ∀ a, off a + S1x2x2x256.size a ≤ S8x2x2x256.size a) (ss rs : DmaSem sig) : Prog (Eff (F := F)) PUnit :=
  Prog.lift (.enqueueDma (scS a7 off inb) (.remote (Dev.tc dev) (scS a7 off inb) (.dma ss)) (.dma rs) ((View.wordExact_bits rfl).reshape _ _) ((View.wordExact_bits rfl).reshape _ _) ⟨⟨rfl, Or.inl rfl⟩, trivial⟩)
def waitKV (off : Fin 4 → Nat) (inb : ∀ a, off a + S1x2x256x512.size a ≤ S8x2x256x512.size a) (ww : WW off inb) (s : DmaSem sig) : Prog (Eff (F := F)) PUnit :=
  Prog.lift (.waitDma2 s (kvS a6 off inb) (kvS a6 off inb) ((h6.wordExact_slice rfl _ ww).reshape _ _) ((h6.wordExact_slice rfl _ ww).reshape _ _))
def waitSc (off : Fin 4 → Nat) (inb : ∀ a, off a + S1x2x2x256.size a ≤ S8x2x2x256.size a) (s : DmaSem sig) : Prog (Eff (F := F)) PUnit :=
  Prog.lift (.waitDma2 s (scS a7 off inb) (scS a7 off inb) ((View.wordExact_bits rfl).reshape _ _) ((View.wordExact_bits rfl).reshape _ _))

/-- The four waits of one transfer: the data's send and receive, then the scales'. -/
def waitPair (o : Fin 4 → Nat) (inb : ∀ a, o a + S1x2x256x512.size a ≤ S8x2x256x512.size a) (ww : WW o inb)
    (o' : Fin 4 → Nat) (inb' : ∀ a, o' a + S1x2x2x256.size a ≤ S8x2x2x256.size a) (ss rs ss' rs' : DmaSem sig) : Prog (Eff (F := F)) PUnit := do
  waitKV a6 h6 o inb ww ss
  waitKV a6 h6 o inb ww rs
  waitSc a7 o' inb' ss'
  waitSc a7 o' inb' rs'
def sendPair (dev dev' : Dev nD) (o : Fin 4 → Nat) (inb : ∀ a, o a + S1x2x256x512.size a ≤ S8x2x256x512.size a) (ww : WW o inb)
    (o' : Fin 4 → Nat) (inb' : ∀ a, o' a + S1x2x2x256.size a ≤ S8x2x2x256.size a) (ss rs ss' rs' : DmaSem sig) : Prog (Eff (F := F)) PUnit := do
  sendKV a6 h6 dev o inb ww ss rs
  sendSc a7 dev' o' inb' ss' rs'

def loadBlk (o : Fin 4 → Nat) (inb : ∀ a, o a + S1x1x256x512.size a ≤ S8x2x256x512.size a) (o1 : Fin 4 → Nat) (inb1 : ∀ a, o1 a + S1x1x1x256.size a ≤ S8x2x2x256.size a)
    (o2 : Fin 4 → Nat) (inb2 : ∀ a, o2 a + S1x1x1x256.size a ≤ S8x2x2x256.size a) : Prog (Eff (F := F)) (Blk F) := do
  let v : Vec F S1x1x256x512 .i8 ← Prog.lift (.load a6 (Rect.unit (s := S8x2x256x512) o S1x1x256x512.size inb).toLoadRect (View.loadsAt_vmem h_S1x1x256x512))
  let s : Vec F S1x1x1x256 .f32 ← Prog.lift (.load a7 (Rect.unit (s := S8x2x2x256) o1 S1x1x1x256.size inb1).toLoadRect (View.loadsAt_vmem h_S1x1x1x256))
  let t : Vec F S1x1x1x256 .f32 ← Prog.lift (.load a7 (Rect.unit (s := S8x2x2x256) o2 S1x1x1x256.size inb2).toLoadRect (View.loadsAt_vmem h_S1x1x1x256))
  pure ⟨v, s, t⟩

end Effects

abbrev sem2 (a : DmaSems sig S2) : Fin 2 → DmaSem sig
  | 0 => ((a.slice (Rect.unit (s := S2) ![0] S1.size inb_S2_S1_0)).squeeze S_ squeezes_S1_S_).sem
  | 1 => ((a.slice (Rect.unit (s := S2) ![1] S1.size inb_S2_S1_1)).squeeze S_ squeezes_S1_S_).sem
abbrev sem3 (a : DmaSems sig S3) : Fin 3 → DmaSem sig
  | 0 => ((a.slice (Rect.unit (s := S3) ![0] S1.size inb_S3_S1_0)).squeeze S_ squeezes_S1_S_).sem
  | 1 => ((a.slice (Rect.unit (s := S3) ![1] S1.size inb_S3_S1_1)).squeeze S_ squeezes_S1_S_).sem
  | 2 => ((a.slice (Rect.unit (s := S3) ![2] S1.size inb_S3_S1_2)).squeeze S_ squeezes_S1_S_).sem

section Body
variable (arg0 : Memref sig .tc .vmem S2x256x512 .f32) (harg0 : arg0.IsWhole) (arg1 : Memref sig .tc .vmem S512x256 .f32) (harg1 : arg1.IsWhole) (arg2 : Memref sig .tc .vmem S2x256x4x64 .f32) (harg2 : arg2.IsWhole) (arg3 : Memref sig .tc .vmem S2x256x4x64 .f32) (harg3 : arg3.IsWhole) (arg4 : Memref sig .tc .vmem S256x512 .f32) (harg4 : arg4.IsWhole) (arg5 : Memref sig .tc .vmem S2x256x512 .f32) (harg5 : arg5.IsWhole) (arg6 : Memref sig .tc .vmem S8x2x256x512 .i8) (harg6 : arg6.IsWhole) (arg7 : Memref sig .tc .vmem S8x2x2x256 .f32) (harg7 : arg7.IsWhole) (arg8 arg9 arg10 arg11 : DmaSems sig S2) (arg12 arg13 : DmaSems sig S3) (arg14 arg15 arg16 arg17 : DmaSems sig S2) (arg18 arg19 : DmaSems sig S3)

/-- The device's own block, quantised into its slot. -/
def quantise (d0 : Dev nD) : Prog (Eff (F := F)) PUnit := do
  let v33 : Vec F S2x256x4x64 .f32 ← Prog.lift (.load arg2 (Rect.unit (s := S2x256x4x64) ![0, 0, 0, 0] S2x256x4x64.size inb_S2x256x4x64_S2x256x4x64_0_0_0_0).toLoadRect (View.loadsAt_vmem h_S2x256x4x64))
  let v55 : Vec F S1x2x256x256 .i8 ← Prog.lift (.load arg6 (Rect.unit (s := S8x2x256x512) (k0_off1 d0) S1x2x256x256.size (k0_off1_inb d0)).toLoadRect (View.loadsAt_vmem h_S1x2x256x256))
  Prog.lift (.store arg6 (Rect.unit (s := S8x2x256x512) (k0_off1 d0) S1x2x256x256.size (k0_off1_inb d0)) (codesOut v33) Finset.univ (View.stores_vmem h_S1x2x256x256 (harg6.storeExact_slice rfl _ (k0_off1_packedi8 d0)) (fun _ => rfl)) (.inl rfl))
  let v61 : Vec F S1x1x2x256 .f32 ← Prog.lift (.load arg7 (Rect.unit (s := S8x2x2x256) (k0_off2 d0) S1x1x2x256.size (k0_off2_inb d0)).toLoadRect (View.loadsAt_vmem h_S1x1x2x256))
  Prog.lift (.store arg7 (Rect.unit (s := S8x2x2x256) (k0_off2 d0) S1x1x2x256.size (k0_off2_inb d0)) (topOut v33) Finset.univ (View.stores_vmem_bits_univ h_S1x1x2x256 rfl) (.inl rfl))
  let v64 : Vec F S2x256x4x64 .f32 ← Prog.lift (.load arg3 (Rect.unit (s := S2x256x4x64) ![0, 0, 0, 0] S2x256x4x64.size inb_S2x256x4x64_S2x256x4x64_0_0_0_0).toLoadRect (View.loadsAt_vmem h_S2x256x4x64))
  let v86 : Vec F S1x2x256x256 .i8 ← Prog.lift (.load arg6 (Rect.unit (s := S8x2x256x512) (k0_off3 d0) S1x2x256x256.size (k0_off3_inb d0)).toLoadRect (View.loadsAt_vmem h_S1x2x256x256))
  Prog.lift (.store arg6 (Rect.unit (s := S8x2x256x512) (k0_off3 d0) S1x2x256x256.size (k0_off3_inb d0)) (codesOut v64) Finset.univ (View.stores_vmem h_S1x2x256x256 (harg6.storeExact_slice rfl _ (k0_off3_packedi8 d0)) (fun _ => rfl)) (.inl rfl))
  let v92 : Vec F S1x1x2x256 .f32 ← Prog.lift (.load arg7 (Rect.unit (s := S8x2x2x256) (k0_off4 d0) S1x1x2x256.size (k0_off4_inb d0)).toLoadRect (View.loadsAt_vmem h_S1x1x2x256))
  Prog.lift (.store arg7 (Rect.unit (s := S8x2x2x256) (k0_off4 d0) S1x1x2x256.size (k0_off4_inb d0)) (topOut v64) Finset.univ (View.stores_vmem_bits_univ h_S1x1x2x256 rfl) (.inl rfl))

/-- The handshake with the three neighbours. -/
def shake (d0 : Dev nD) : Prog (Eff (F := F)) PUnit := do
  semSignalWord (⟨k0_dev1 d0, k0_dev1_lt d0⟩ : Dev nD) (SemArray.scalar (sig.barrier 0 rfl) : Sems sig S_).sem 1#32
  semSignalWord (⟨k0_dev2 d0, k0_dev2_lt d0⟩ : Dev nD) (SemArray.scalar (sig.barrier 0 rfl) : Sems sig S_).sem 1#32
  semSignalWord (⟨k0_dev3 d0, k0_dev3_lt d0⟩ : Dev nD) (SemArray.scalar (sig.barrier 0 rfl) : Sems sig S_).sem 1#32
  semWaitWord (SemArray.scalar (sig.barrier 0 rfl) : Sems sig S_).sem 3#32

def sends0 (d0 : Dev nD) : Prog (Eff (F := F)) PUnit := do
  sendPair arg6 harg6 arg7 ⟨k0_dev4 d0, k0_dev4_lt d0⟩ ⟨k0_dev5 d0, k0_dev5_lt d0⟩ (k0_off5 d0) (k0_off5_inb d0) (k0_off5_wordsi8 d0) (k0_off6 d0) (k0_off6_inb d0) (sem2 arg8 0) (sem2 arg9 0) (sem2 arg14 0) (sem2 arg15 0)
  sendPair arg6 harg6 arg7 ⟨k0_dev6 d0, k0_dev6_lt d0⟩ ⟨k0_dev7 d0, k0_dev7_lt d0⟩ (k0_off5 d0) (k0_off5_inb d0) (k0_off5_wordsi8 d0) (k0_off6 d0) (k0_off6_inb d0) (sem2 arg10 0) (sem2 arg11 0) (sem2 arg16 0) (sem2 arg17 0)
  sendPair arg6 harg6 arg7 ⟨k0_dev8 d0, k0_dev8_lt d0⟩ ⟨k0_dev9 d0, k0_dev9_lt d0⟩ (k0_off5 d0) (k0_off5_inb d0) (k0_off5_wordsi8 d0) (k0_off6 d0) (k0_off6_inb d0) (sem3 arg12 0) (sem3 arg13 0) (sem3 arg18 0) (sem3 arg19 0)
def waits0 (d0 : Dev nD) : Prog (Eff (F := F)) PUnit := do
  waitPair arg6 harg6 arg7 (k0_off5 d0) (k0_off5_inb d0) (k0_off5_wordsi8 d0) (k0_off6 d0) (k0_off6_inb d0) (sem2 arg8 0) (sem2 arg9 0) (sem2 arg14 0) (sem2 arg15 0)
  waitPair arg6 harg6 arg7 (k0_off5 d0) (k0_off5_inb d0) (k0_off5_wordsi8 d0) (k0_off6 d0) (k0_off6_inb d0) (sem2 arg10 0) (sem2 arg11 0) (sem2 arg16 0) (sem2 arg17 0)
  waitPair arg6 harg6 arg7 (k0_off5 d0) (k0_off5_inb d0) (k0_off5_wordsi8 d0) (k0_off6 d0) (k0_off6_inb d0) (sem3 arg12 0) (sem3 arg13 0) (sem3 arg18 0) (sem3 arg19 0)
def sends1 (d0 : Dev nD) : Prog (Eff (F := F)) PUnit := do
  sendPair arg6 harg6 arg7 ⟨k0_dev10 d0, k0_dev10_lt d0⟩ ⟨k0_dev11 d0, k0_dev11_lt d0⟩ (k0_off13 d0 4294967295#32) (k0_off13_inb d0 1) (k0_off13_wordsi8 d0 1) (k0_off14 d0 4294967295#32) (k0_off14_inb d0 1) (sem2 arg8 1) (sem2 arg9 1) (sem2 arg14 1) (sem2 arg15 1)
  sendPair arg6 harg6 arg7 ⟨k0_dev12 d0, k0_dev12_lt d0⟩ ⟨k0_dev13 d0, k0_dev13_lt d0⟩ (k0_off13 d0 1#32) (k0_off13_inb d0 0) (k0_off13_wordsi8 d0 0) (k0_off14 d0 1#32) (k0_off14_inb d0 0) (sem2 arg10 1) (sem2 arg11 1) (sem2 arg16 1) (sem2 arg17 1)
  sendPair arg6 harg6 arg7 ⟨k0_dev14 d0, k0_dev14_lt d0⟩ ⟨k0_dev15 d0, k0_dev15_lt d0⟩ (k0_off15 d0 4294967295#32 1#32) (k0_off15_inb d0 0) (k0_off15_wordsi8 d0 0) (k0_off16 d0 4294967295#32 1#32) (k0_off16_inb d0 0) (sem3 arg12 1) (sem3 arg13 1) (sem3 arg18 1) (sem3 arg19 1)
def waits1 (d0 : Dev nD) : Prog (Eff (F := F)) PUnit := do
  waitPair arg6 harg6 arg7 (k0_off13 d0 4294967295#32) (k0_off13_inb d0 1) (k0_off13_wordsi8 d0 1) (k0_off14 d0 4294967295#32) (k0_off14_inb d0 1) (sem2 arg8 1) (sem2 arg9 1) (sem2 arg14 1) (sem2 arg15 1)
  waitPair arg6 harg6 arg7 (k0_off13 d0 1#32) (k0_off13_inb d0 0) (k0_off13_wordsi8 d0 0) (k0_off14 d0 1#32) (k0_off14_inb d0 0) (sem2 arg10 1) (sem2 arg11 1) (sem2 arg16 1) (sem2 arg17 1)
  waitPair arg6 harg6 arg7 (k0_off15 d0 4294967295#32 1#32) (k0_off15_inb d0 0) (k0_off15_wordsi8 d0 0) (k0_off16 d0 4294967295#32 1#32) (k0_off16_inb d0 0) (sem3 arg12 1) (sem3 arg13 1) (sem3 arg18 1) (sem3 arg19 1)
def sends2 (d0 : Dev nD) : Prog (Eff (F := F)) PUnit :=
  sendPair arg6 harg6 arg7 ⟨k0_dev16 d0, k0_dev16_lt d0⟩ ⟨k0_dev17 d0, k0_dev17_lt d0⟩ (k0_off15 d0 4294967294#32 2#32) (k0_off15_inb d0 1) (k0_off15_wordsi8 d0 1) (k0_off16 d0 4294967294#32 2#32) (k0_off16_inb d0 1) (sem3 arg12 2) (sem3 arg13 2) (sem3 arg18 2) (sem3 arg19 2)
def waits2 (d0 : Dev nD) : Prog (Eff (F := F)) PUnit :=
  waitPair arg6 harg6 arg7 (k0_off15 d0 4294967294#32 2#32) (k0_off15_inb d0 1) (k0_off15_wordsi8 d0 1) (k0_off16 d0 4294967294#32 2#32) (k0_off16_inb d0 1) (sem3 arg12 2) (sem3 arg13 2) (sem3 arg18 2) (sem3 arg19 2)

/-- The two batches of a chunk. -/
def loadOwn (d0 : Dev nD) : Prog (Eff (F := F)) (Blk F × Blk F) := do
  let a ← loadBlk arg6 arg7 (k0_off7 d0) (k0_off7_inb d0) (k0_off8 d0) (k0_off8_inb d0) (k0_off9 d0) (k0_off9_inb d0)
  let b ← loadBlk arg6 arg7 (k0_off10 d0) (k0_off10_inb d0) (k0_off11 d0) (k0_off11_inb d0) (k0_off12 d0) (k0_off12_inb d0)
  pure (a, b)
def loadCyc (d0 : Dev nD) (r : Fin 5) : Prog (Eff (F := F)) (Blk F × Blk F) := do
  let a ← loadBlk arg6 arg7 (k0_off17 d0 (k0_off17_at r)) (k0_off17_inb d0 r) (k0_off18 d0 (k0_off18_at r)) (k0_off18_inb d0 r) (k0_off19 d0 (k0_off19_at r)) (k0_off19_inb d0 r)
  let b ← loadBlk arg6 arg7 (k0_off20 d0 (k0_off20_at r)) (k0_off20_inb d0 r) (k0_off21 d0 (k0_off21_at r)) (k0_off21_inb d0 r) (k0_off22 d0 (k0_off22_at r)) (k0_off22_inb d0 r)
  pure (a, b)
def loadSel (d0 : Dev nD) (r : Fin 2) : Prog (Eff (F := F)) (Blk F × Blk F) := do
  let a ← loadBlk arg6 arg7 (k0_off23 d0 (k0_off23_at r).1 (k0_off23_at r).2) (k0_off23_inb d0 r) (k0_off24 d0 (k0_off24_at r).1 (k0_off24_at r).2) (k0_off24_inb d0 r) (k0_off25 d0 (k0_off25_at r).1 (k0_off25_at r).2) (k0_off25_inb d0 r)
  let b ← loadBlk arg6 arg7 (k0_off26 d0 (k0_off26_at r).1 (k0_off26_at r).2) (k0_off26_inb d0 r) (k0_off27 d0 (k0_off27_at r).1 (k0_off27_at r).2) (k0_off27_inb d0 r) (k0_off28 d0 (k0_off28_at r).1 (k0_off28_at r).2) (k0_off28_inb d0 r)
  pure (a, b)

/-- The words of the eight chunks, in the order they are taken. -/
def chunks (d0 : Dev nD) (b0 b1 b2 b3 b4 b5 b6 b7 : Blk F) : Chunks F where
  w0 := myW d0
  w1 := cycW d0 4294967295#32
  w2 := cycW d0 1#32
  w3 := selW d0 (cycW d0 3#32) (cycW d0 4294967293#32)
  w4 := cycW d0 4294967294#32
  w5 := cycW d0 2#32
  w6 := cycW d0 4#32
  w7 := selW d0 (cycW d0 4294967293#32) (cycW d0 3#32)
  b0 := b0
  b1 := b1
  b2 := b2
  b3 := b3
  b4 := b4
  b5 := b5
  b6 := b6
  b7 := b7

/-- The two stores of the result. -/
def finish (d0 : Dev nD) (wq : Vec F S512x256 .f32) (x0 x1 : Vec F S1x256x512 .f32) (C0 C1 : Chunks F) : Prog (Eff (F := F)) PUnit := do
  let w0 : Vec F S256x512 .f32 ← Prog.lift (.load arg4 (Rect.unit (s := S256x512) ![0, 0] S256x512.size inb_S256x512_S256x512_0_0).toLoadRect (View.loadsAt_vmem h_S256x512))
  let v2687 : Vec F S1x256x512 .f32 ← Prog.lift (.load arg5 (Rect.unit (s := S2x256x512) ![0, 0, 0] S1x256x512.size inb_S2x256x512_S1x256x512_0_0_0).toLoadRect (View.loadsAt_vmem h_S1x256x512))
  Prog.lift (.store arg5 (Rect.unit (s := S2x256x512) ![0, 0, 0] S1x256x512.size inb_S2x256x512_S1x256x512_0_0_0) (outBlock wq x0 w0 d0 C0) Finset.univ (View.stores_vmem_bits_univ h_S1x256x512 rfl) (.inl rfl))
  let w1 : Vec F S256x512 .f32 ← Prog.lift (.load arg4 (Rect.unit (s := S256x512) ![0, 0] S256x512.size inb_S256x512_S256x512_0_0).toLoadRect (View.loadsAt_vmem h_S256x512))
  let v2707 : Vec F S1x256x512 .f32 ← Prog.lift (.load arg5 (Rect.unit (s := S2x256x512) ![1, 0, 0] S1x256x512.size inb_S2x256x512_S1x256x512_1_0_0).toLoadRect (View.loadsAt_vmem h_S1x256x512))
  Prog.lift (.store arg5 (Rect.unit (s := S2x256x512) ![1, 0, 0] S1x256x512.size inb_S2x256x512_S1x256x512_1_0_0) (outBlock wq x1 w1 d0 C1) Finset.univ (View.stores_vmem_bits_univ h_S1x256x512 rfl) (.inl rfl))

/-- The whole body. -/
def prog : Prog (Eff (F := F)) PUnit := do
  let d0 : Dev nD ← Prog.lift .deviceId
  quantise arg2 arg3 arg6 harg6 arg7 d0
  shake d0
  sends0 arg6 harg6 arg7 arg8 arg9 arg10 arg11 arg12 arg13 arg14 arg15 arg16 arg17 arg18 arg19 d0
  let wq : Vec F S512x256 .f32 ← Prog.lift (.load arg1 (Rect.unit (s := S512x256) ![0, 0] S512x256.size inb_S512x256_S512x256_0_0).toLoadRect (View.loadsAt_vmem h_S512x256))
  let x0 : Vec F S1x256x512 .f32 ← Prog.lift (.load arg0 (Rect.unit (s := S2x256x512) ![0, 0, 0] S1x256x512.size inb_S2x256x512_S1x256x512_0_0_0).toLoadRect (View.loadsAt_vmem h_S1x256x512))
  let x1 : Vec F S1x256x512 .f32 ← Prog.lift (.load arg0 (Rect.unit (s := S2x256x512) ![1, 0, 0] S1x256x512.size inb_S2x256x512_S1x256x512_1_0_0).toLoadRect (View.loadsAt_vmem h_S1x256x512))
  let c0 ← loadOwn arg6 arg7 d0
  waits0 arg6 harg6 arg7 arg8 arg9 arg10 arg11 arg12 arg13 arg14 arg15 arg16 arg17 arg18 arg19 d0
  sends1 arg6 harg6 arg7 arg8 arg9 arg10 arg11 arg12 arg13 arg14 arg15 arg16 arg17 arg18 arg19 d0
  let c1 ← loadCyc arg6 arg7 d0 0
  let c2 ← loadCyc arg6 arg7 d0 1
  let c3 ← loadSel arg6 arg7 d0 0
  waits1 arg6 harg6 arg7 arg8 arg9 arg10 arg11 arg12 arg13 arg14 arg15 arg16 arg17 arg18 arg19 d0
  sends2 arg6 harg6 arg7 arg12 arg13 arg18 arg19 d0
  let c4 ← loadCyc arg6 arg7 d0 2
  let c5 ← loadCyc arg6 arg7 d0 3
  let c6 ← loadCyc arg6 arg7 d0 4
  waits2 arg6 harg6 arg7 arg12 arg13 arg18 arg19 d0
  let c7 ← loadSel arg6 arg7 d0 1
  finish arg4 arg5 d0 wq x0 x1 (chunks d0 c0.1 c1.1 c2.1 c3.1 c4.1 c5.1 c6.1 c7.1) (chunks d0 c0.2 c1.2 c2.2 c3.2 c4.2 c5.2 c6.2 c7.2)

/-- The printed body is this program. -/
theorem body_eq : cc0_body (F := F) arg0 harg0 arg1 harg1 arg2 harg2 arg3 harg3 arg4 harg4 arg5 harg5 arg6 harg6 arg7 harg7 arg8 arg9 arg10 arg11 arg12 arg13 arg14 arg15 arg16 arg17 arg18 arg19
    = prog arg0 arg1 arg2 arg3 arg4 arg5 arg6 harg6 arg7 arg8 arg9 arg10 arg11 arg12 arg13 arg14 arg15 arg16 arg17 arg18 arg19 := by
  chain_rfl

end Body

end Cert.KernelIdeal.Prg

end
-- ==== Proof.RingIdeal.lean ====
/- The ring of eight devices, its chords, and which slot each transfer carries; the printed device and offset
   computations in closed form. -/
module

public import proofs.«01_k».proof.Proof.ProgramIdeal

@[expose] public section

namespace Cert.KernelIdeal.Prg

open Cert.KernelIdeal Cert.KernelIdeal.Gen Idealize.ShloMosaic Idealize.ShloMosaic.TcCoe

/-- The order around the ring: 0 1 2 3 7 6 5 4. -/
def gray (d : Dev nD) : Dev nD := ![0, 1, 2, 3, 7, 6, 5, 4] d
/-- The device `k` places on. -/
def cyc (k d : Dev nD) : Dev nD := gray (gray d + k)
/-- The chord of a device: three places on from an even place, three back from an odd one. -/
def chord (d : Dev nD) : Dev nD := if (gray d).val % 2 = 0 then cyc 3 d else cyc 5 d
/-- The slot a chord carries at its hops. -/
def pick (a b d : Dev nD) : Dev nD := if (gray d).val % 2 = 0 then cyc a d else cyc b d

/-- The neighbour in each direction: right, left, chord; and the one whose neighbour one is. -/
def nbr (j : Fin 3) (d : Dev nD) : Dev nD := match j with | 0 => cyc 1 d | 1 => cyc 7 d | 2 => chord d
def inb (j : Fin 3) (d : Dev nD) : Dev nD := match j with | 0 => cyc 7 d | 1 => cyc 1 d | 2 => chord d

/-- The seven transfers of a device: right, left, chord; right, left, chord; chord. Direction and slot sent. -/
def dir (t : Fin 7) : Fin 3 := ![0, 1, 2, 0, 1, 2, 2] t
def sent (t : Fin 7) (d : Dev nD) : Dev nD := match t with
  | 0 => d | 1 => d | 2 => d | 3 => cyc 7 d | 4 => cyc 1 d | 5 => pick 7 1 d | 6 => pick 6 2 d
/-- The slot that arrives by transfer `t`. -/
def got (t : Fin 7) (d : Dev nD) : Dev nD := match t with
  | 0 => cyc 7 d | 1 => cyc 1 d | 2 => chord d | 3 => cyc 6 d | 4 => cyc 2 d | 5 => cyc 4 d | 6 => pick 5 3 d

theorem nbr_inb (j : Fin 3) (d : Dev nD) : nbr j (inb j d) = d := by revert j d; decide
theorem inb_nbr (j : Fin 3) (d : Dev nD) : inb j (nbr j d) = d := by revert j d; decide
theorem got_nbr (t : Fin 7) (d : Dev nD) : got t (nbr (dir t) d) = sent t d := by revert t d; decide
theorem sent_inb (t : Fin 7) (d : Dev nD) : sent t (inb (dir t) d) = got t d := by revert t d; decide

/-- Every slot is the own one or arrives once. -/
theorem slots_perm (d : Dev nD) : (Finset.univ : Finset (Dev nD)) = {d, got 0 d, got 1 d, got 2 d, got 3 d, got 4 d, got 5 d, got 6 d} := by revert d; decide
theorem slots_nodup (d : Dev nD) : [d, got 0 d, got 1 d, got 2 d, got 3 d, got 4 d, got 5 d, got 6 d].Nodup := by revert d; decide

/-! ## Printed devices and offsets -/

theorem dev1_eq (c : Dev nD) : (⟨k0_dev1 c, k0_dev1_lt c⟩ : Dev nD) = inb 0 c := by revert c; decide +kernel
theorem dev2_eq (c : Dev nD) : (⟨k0_dev2 c, k0_dev2_lt c⟩ : Dev nD) = inb 1 c := by revert c; decide +kernel
theorem dev3_eq (c : Dev nD) : (⟨k0_dev3 c, k0_dev3_lt c⟩ : Dev nD) = inb 2 c := by revert c; decide +kernel
theorem dev4_eq (c : Dev nD) : (⟨k0_dev4 c, k0_dev4_lt c⟩ : Dev nD) = nbr 0 c := by revert c; decide +kernel
theorem dev5_eq (c : Dev nD) : (⟨k0_dev5 c, k0_dev5_lt c⟩ : Dev nD) = nbr 0 c := by revert c; decide +kernel
theorem dev6_eq (c : Dev nD) : (⟨k0_dev6 c, k0_dev6_lt c⟩ : Dev nD) = nbr 1 c := by revert c; decide +kernel
theorem dev7_eq (c : Dev nD) : (⟨k0_dev7 c, k0_dev7_lt c⟩ : Dev nD) = nbr 1 c := by revert c; decide +kernel
theorem dev8_eq (c : Dev nD) : (⟨k0_dev8 c, k0_dev8_lt c⟩ : Dev nD) = nbr 2 c := by revert c; decide +kernel
theorem dev9_eq (c : Dev nD) : (⟨k0_dev9 c, k0_dev9_lt c⟩ : Dev nD) = nbr 2 c := by revert c; decide +kernel
theorem dev10_eq (c : Dev nD) : (⟨k0_dev10 c, k0_dev10_lt c⟩ : Dev nD) = nbr 0 c := by revert c; decide +kernel
theorem dev11_eq (c : Dev nD) : (⟨k0_dev11 c, k0_dev11_lt c⟩ : Dev nD) = nbr 0 c := by revert c; decide +kernel
theorem dev12_eq (c : Dev nD) : (⟨k0_dev12 c, k0_dev12_lt c⟩ : Dev nD) = nbr 1 c := by revert c; decide +kernel
theorem dev13_eq (c : Dev nD) : (⟨k0_dev13 c, k0_dev13_lt c⟩ : Dev nD) = nbr 1 c := by revert c; decide +kernel
theorem dev14_eq (c : Dev nD) : (⟨k0_dev14 c, k0_dev14_lt c⟩ : Dev nD) = nbr 2 c := by revert c; decide +kernel
theorem dev15_eq (c : Dev nD) : (⟨k0_dev15 c, k0_dev15_lt c⟩ : Dev nD) = nbr 2 c := by revert c; decide +kernel
theorem dev16_eq (c : Dev nD) : (⟨k0_dev16 c, k0_dev16_lt c⟩ : Dev nD) = nbr 2 c := by revert c; decide +kernel
theorem dev17_eq (c : Dev nD) : (⟨k0_dev17 c, k0_dev17_lt c⟩ : Dev nD) = nbr 2 c := by revert c; decide +kernel

theorem off1_eq (c : Dev nD) : k0_off1 c = ![c.val, 0, 0, 0] := by revert c; decide +kernel
theorem off2_eq (c : Dev nD) : k0_off2 c = ![c.val, 0, 0, 0] := by revert c; decide +kernel
theorem off3_eq (c : Dev nD) : k0_off3 c = ![c.val, 0, 0, 256] := by revert c; decide +kernel
theorem off4_eq (c : Dev nD) : k0_off4 c = ![c.val, 1, 0, 0] := by revert c; decide +kernel
theorem off5_eq (c : Dev nD) : k0_off5 c = ![c.val, 0, 0, 0] := by revert c; decide +kernel
theorem off6_eq (c : Dev nD) : k0_off6 c = ![c.val, 0, 0, 0] := by revert c; decide +kernel
theorem off7_eq (c : Dev nD) : k0_off7 c = ![c.val, 0, 0, 0] := by revert c; decide +kernel
theorem off8_eq (c : Dev nD) : k0_off8 c = ![c.val, 0, 0, 0] := by revert c; decide +kernel
theorem off9_eq (c : Dev nD) : k0_off9 c = ![c.val, 1, 0, 0] := by revert c; decide +kernel
theorem off10_eq (c : Dev nD) : k0_off10 c = ![c.val, 1, 0, 0] := by revert c; decide +kernel
theorem off11_eq (c : Dev nD) : k0_off11 c = ![c.val, 0, 1, 0] := by revert c; decide +kernel
theorem off12_eq (c : Dev nD) : k0_off12 c = ![c.val, 1, 1, 0] := by revert c; decide +kernel
theorem off13_m1 (c : Dev nD) : k0_off13 c 4294967295#32 = ![(sent 3 c).val, 0, 0, 0] := by revert c; decide +kernel
theorem off13_p1 (c : Dev nD) : k0_off13 c 1#32 = ![(sent 4 c).val, 0, 0, 0] := by revert c; decide +kernel
theorem off14_m1 (c : Dev nD) : k0_off14 c 4294967295#32 = ![(sent 3 c).val, 0, 0, 0] := by revert c; decide +kernel
theorem off14_p1 (c : Dev nD) : k0_off14 c 1#32 = ![(sent 4 c).val, 0, 0, 0] := by revert c; decide +kernel
theorem off15_1 (c : Dev nD) : k0_off15 c 4294967295#32 1#32 = ![(sent 5 c).val, 0, 0, 0] := by revert c; decide +kernel
theorem off15_2 (c : Dev nD) : k0_off15 c 4294967294#32 2#32 = ![(sent 6 c).val, 0, 0, 0] := by revert c; decide +kernel
theorem off16_1 (c : Dev nD) : k0_off16 c 4294967295#32 1#32 = ![(sent 5 c).val, 0, 0, 0] := by revert c; decide +kernel
theorem off16_2 (c : Dev nD) : k0_off16 c 4294967294#32 2#32 = ![(sent 6 c).val, 0, 0, 0] := by revert c; decide +kernel

/-- The slots read by the ring loads and by the chord loads. -/
def cycSlot (r : Fin 5) (c : Dev nD) : Dev nD := match r with | 0 => got 0 c | 1 => got 1 c | 2 => got 3 c | 3 => got 4 c | 4 => got 5 c
def selSlot (r : Fin 2) (c : Dev nD) : Dev nD := match r with | 0 => got 2 c | 1 => got 6 c
theorem off17_eq (c : Dev nD) (r : Fin 5) : k0_off17 c (k0_off17_at r) = ![(cycSlot r c).val, 0, 0, 0] := by revert c r; decide +kernel
theorem off18_eq (c : Dev nD) (r : Fin 5) : k0_off18 c (k0_off18_at r) = ![(cycSlot r c).val, 0, 0, 0] := by revert c r; decide +kernel
theorem off19_eq (c : Dev nD) (r : Fin 5) : k0_off19 c (k0_off19_at r) = ![(cycSlot r c).val, 1, 0, 0] := by revert c r; decide +kernel
theorem off20_eq (c : Dev nD) (r : Fin 5) : k0_off20 c (k0_off20_at r) = ![(cycSlot r c).val, 1, 0, 0] := by revert c r; decide +kernel
theorem off21_eq (c : Dev nD) (r : Fin 5) : k0_off21 c (k0_off21_at r) = ![(cycSlot r c).val, 0, 1, 0] := by revert c r; decide +kernel
theorem off22_eq (c : Dev nD) (r : Fin 5) : k0_off22 c (k0_off22_at r) = ![(cycSlot r c).val, 1, 1, 0] := by revert c r; decide +kernel
theorem off23_eq (c : Dev nD) (r : Fin 2) : k0_off23 c (k0_off23_at r).1 (k0_off23_at r).2 = ![(selSlot r c).val, 0, 0, 0] := by revert c r; decide +kernel
theorem off24_eq (c : Dev nD) (r : Fin 2) : k0_off24 c (k0_off24_at r).1 (k0_off24_at r).2 = ![(selSlot r c).val, 0, 0, 0] := by revert c r; decide +kernel
theorem off25_eq (c : Dev nD) (r : Fin 2) : k0_off25 c (k0_off25_at r).1 (k0_off25_at r).2 = ![(selSlot r c).val, 1, 0, 0] := by revert c r; decide +kernel
theorem off26_eq (c : Dev nD) (r : Fin 2) : k0_off26 c (k0_off26_at r).1 (k0_off26_at r).2 = ![(selSlot r c).val, 1, 0, 0] := by revert c r; decide +kernel
theorem off27_eq (c : Dev nD) (r : Fin 2) : k0_off27 c (k0_off27_at r).1 (k0_off27_at r).2 = ![(selSlot r c).val, 0, 1, 0] := by revert c r; decide +kernel
theorem off28_eq (c : Dev nD) (r : Fin 2) : k0_off28 c (k0_off28_at r).1 (k0_off28_at r).2 = ![(selSlot r c).val, 1, 1, 0] := by revert c r; decide +kernel

/-- The words of the chunks name the slots. -/
theorem words (c : Dev nD) : myW c = BitVec.ofNat 32 c.val ∧ cycW c 4294967295#32 = BitVec.ofNat 32 (got 0 c).val ∧ cycW c 1#32 = BitVec.ofNat 32 (got 1 c).val
    ∧ selW c (cycW c 3#32) (cycW c 4294967293#32) = BitVec.ofNat 32 (got 2 c).val ∧ cycW c 4294967294#32 = BitVec.ofNat 32 (got 3 c).val
    ∧ cycW c 2#32 = BitVec.ofNat 32 (got 4 c).val ∧ cycW c 4#32 = BitVec.ofNat 32 (got 5 c).val
    ∧ selW c (cycW c 4294967293#32) (cycW c 3#32) = BitVec.ofNat 32 (got 6 c).val := by revert c; decide +kernel

end Cert.KernelIdeal.Prg
-- ==== Proof.BuffersIdeal.lean ====
/- The two scratch buffers by slots: what they hold at the end, who owns which part, and what the kernel's accesses
   to them read and write. -/
module

public import proofs.«01_k».proof.Proof.RingIdeal
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Prg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- What each input window's staging buffer holds. -/
def stgX (c : Dev nD) : Vec F S2x256x512 .f32 := (win0_0.blk (0 : Fin 1)).view.read (Elt F) (m ((c : Thread nD τ).loc main_arg0))
def stgWq (c : Dev nD) : Vec F S512x256 .f32 := (win0_1.blk (0 : Fin 1)).view.read (Elt F) (m ((c : Thread nD τ).loc main_arg1))
def stgK (c : Dev nD) : Vec F S2x256x4x64 .f32 := (win0_2.blk (0 : Fin 1)).view.read (Elt F) (m ((c : Thread nD τ).loc main_arg2))
def stgV (c : Dev nD) : Vec F S2x256x4x64 .f32 := (win0_3.blk (0 : Fin 1)).view.read (Elt F) (m ((c : Thread nD τ).loc main_arg3))
def stgWo (c : Dev nD) : Vec F S256x512 .f32 := (win0_4.blk (0 : Fin 1)).view.read (Elt F) (m ((c : Thread nD τ).loc main_arg4))

def i3 {n0 n1 n2 : Nat} (a : Fin n0) (b : Fin n1) (c : Fin n2) : (⟨3, ![n0, n1, n2]⟩ : Shape).Idx := fun | 0 => a | 1 => b | 2 => c
def i4 {n0 n1 n2 n3 : Nat} (a : Fin n0) (b : Fin n1) (c : Fin n2) (d : Fin n3) : (⟨4, ![n0, n1, n2, n3]⟩ : Shape).Idx := fun | 0 => a | 1 => b | 2 => c | 3 => d

/-- Element of the codes' buffer: keys in columns 0–255, values in columns 256–511. -/
def kvAt (s : Dev nD) (b : Fin 2) (t : Fin 256) (j : Fin 512) : Elt F .i8 :=
  if h : j.val < 256 then codesOut (stgK m s) (i4 (0 : Fin 1) b t (⟨j.val, h⟩ : Fin 256))
  else codesOut (stgV m s) (i4 (0 : Fin 1) b t (⟨j.val - 256, by have := j.isLt; omega⟩ : Fin 256))
def scAt (s : Dev nD) (w : Fin 2) (b : Fin 2) (t : Fin 256) : Elt F .f32 :=
  if w = 0 then topOut (stgK m s) (i4 (0 : Fin 1) (0 : Fin 1) b t) else topOut (stgV m s) (i4 (0 : Fin 1) (0 : Fin 1) b t)
def kvAll : (cc0_scratch0 : Ref sig .tc).ty.Contents (Elt F) := fun (i : S8x2x256x512.Idx) => kvAt m (i 0) (i 1) (i 2) (i 3)
def scAll : (cc0_scratch1 : Ref sig .tc).ty.Contents (Elt F) := fun (i : S8x2x2x256.Idx) => scAt m (i 0) (i 1) (i 2) (i 3)

/-- Batch `b` of chunk `s` as loaded. -/
def blkOf (s : Dev nD) (b : Fin 2) : Blk F where
  kv := fun (i : S1x1x256x512.Idx) => kvAt m s b (i 2) (i 3)
  sk := fun (i : S1x1x1x256.Idx) => scAt m s 0 b (i 3)
  sv := fun (i : S1x1x1x256.Idx) => scAt m s 1 b (i 3)

/-! ## Slots -/

abbrev kvM : Memref sig .tc .vmem S8x2x256x512 .i8 := Memref.whole cc0_scratch0
abbrev scM : Memref sig .tc .vmem S8x2x2x256 .f32 := Memref.whole cc0_scratch1

def kvSet (s : Dev nD) : Finset S8x2x256x512.Idx := Finset.univ.filter fun i => (i 0).val = s.val
def scSet (s : Dev nD) : Finset S8x2x2x256.Idx := Finset.univ.filter fun i => (i 0).val = s.val

def kvP (c s : Dev nD) (q : PosShare TreeShare) (f : Buf (Elt F) ((c : Thread nD τ).loc cc0_scratch0)) : sProp 𝕄 :=
  ((c : Thread nD τ).loc cc0_scratch0) ↦[kvSet s]{q} f
def scP (c s : Dev nD) (q : PosShare TreeShare) (f : Buf (Elt F) ((c : Thread nD τ).loc cc0_scratch1)) : sProp 𝕄 :=
  ((c : Thread nD τ).loc cc0_scratch1) ↦[scSet s]{q} f
instance kvP_storable (c s : Dev nD) (q) (f) : BI.Storable (upEmb : UEmb _ 𝕄) (kvP (F := F) c s q f) := by unfold kvP; infer_instance
instance scP_storable (c s : Dev nD) (q) (f) : BI.Storable (upEmb : UEmb _ 𝕄) (scP (F := F) c s q f) := by unfold scP; infer_instance

/-- The share of a slot lent to each direction, and the one kept for loads. -/
def sh (j : Fin 4) : PosShare TreeShare := match j with
  | 0 => fullShare.left.left | 1 => fullShare.left.right | 2 => fullShare.right.left | 3 => fullShare.right.right

/-- A landing slot with any contents; a slot complete; a share of one. -/
def land (c s : Dev nD) : sProp 𝕄 := iprop((∃ f, kvP c s fullShare f) ∗ ∃ f, scP c s fullShare f)
def slot (c s : Dev nD) : sProp 𝕄 := iprop(kvP c s fullShare (kvAll m) ∗ scP c s fullShare (scAll m))
def part (j : Fin 4) (c s : Dev nD) : sProp 𝕄 := iprop(kvP c s (sh j) (kvAll m) ∗ scP c s (sh j) (scAll m))
instance land_storable (c s : Dev nD) : BI.Storable (upEmb : UEmb _ 𝕄) (land (F := F) c s) := by unfold land; infer_instance

theorem split4 {ℓ : Loc nD τ sig} (I : Finset (Idx ℓ)) (f : Buf (Elt F) ℓ) :
    (ℓ ↦[I]{fullShare} f : sProp 𝕄) ⊣⊢ iprop((ℓ ↦[I]{sh 0} f) ∗ (ℓ ↦[I]{sh 1} f) ∗ (ℓ ↦[I]{sh 2} f) ∗ ℓ ↦[I]{sh 3} f) := by
  have h0 : (ℓ ↦[I]{fullShare} f : sProp 𝕄) ⊣⊢ _ := pointsTo_share (PosShare.mem_left_op_right fullShare)
  have h1 : (ℓ ↦[I]{fullShare.left} f : sProp 𝕄) ⊣⊢ _ := pointsTo_share (PosShare.mem_left_op_right fullShare.left)
  have h2 : (ℓ ↦[I]{fullShare.right} f : sProp 𝕄) ⊣⊢ _ := pointsTo_share (PosShare.mem_left_op_right fullShare.right)
  constructor
  · iintro H
    ihave H := h0.1 $$ H
    icases H with ⟨Ha, Hb⟩
    ihave Ha := h1.1 $$ Ha
    ihave Hb := h2.1 $$ Hb
    icases Ha with ⟨H0, H1⟩
    icases Hb with ⟨H2, H3⟩
    isplitl [H0]; · iexact H0
    isplitl [H1]; · iexact H1
    isplitl [H2]; · iexact H2
    iexact H3
  · iintro ⟨H0, H1, H2, H3⟩
    iapply h0.2
    isplitl [H0 H1]
    · iapply h1.2
      isplitl [H0]; · iexact H0
      iexact H1
    · iapply h2.2
      isplitl [H2]; · iexact H2
      iexact H3

theorem slot_split (c s : Dev nD) : slot m c s ⊢ iprop(part m 0 c s ∗ part m 1 c s ∗ part m 2 c s ∗ part m 3 c s) := by
  unfold slot part kvP scP
  iintro ⟨Ha, Hb⟩
  ihave Ha := (split4 _ _).1 $$ Ha
  ihave Hb := (split4 _ _).1 $$ Hb
  icases Ha with ⟨a0, a1, a2, a3⟩
  icases Hb with ⟨b0, b1, b2, b3⟩
  isplitl [a0 b0]; · isplitl [a0] <;> iassumption
  isplitl [a1 b1]; · isplitl [a1] <;> iassumption
  isplitl [a2 b2]; · isplitl [a2] <;> iassumption
  isplitl [a3] <;> iassumption

theorem slot_join (c s : Dev nD) : iprop(part m 0 c s ∗ part m 1 c s ∗ part m 2 c s ∗ part m 3 c s) ⊢ slot m c s := by
  unfold slot part kvP scP
  iintro ⟨⟨a0, b0⟩, ⟨a1, b1⟩, ⟨a2, b2⟩, a3, b3⟩
  isplitl [a0 a1 a2 a3]
  · iapply (split4 _ _).2
    isplitl [a0]; · iexact a0
    isplitl [a1]; · iexact a1
    isplitl [a2] <;> iassumption
  · iapply (split4 _ _).2
    isplitl [b0]; · iexact b0
    isplitl [b1]; · iexact b1
    isplitl [b2] <;> iassumption

/-- A buffer is its eight slots. -/
theorem kv_cover : (Finset.univ : Finset (Dev nD)).biUnion kvSet = (Finset.univ : Finset S8x2x256x512.Idx) := by
  ext i
  simp only [Finset.mem_biUnion, Finset.mem_univ, true_and, iff_true]
  exact ⟨(i 0 : Fin 8), Finset.mem_filter.mpr ⟨Finset.mem_univ _, rfl⟩⟩
theorem sc_cover : (Finset.univ : Finset (Dev nD)).biUnion scSet = (Finset.univ : Finset S8x2x2x256.Idx) := by
  ext i
  simp only [Finset.mem_biUnion, Finset.mem_univ, true_and, iff_true]
  exact ⟨(i 0 : Fin 8), Finset.mem_filter.mpr ⟨Finset.mem_univ _, rfl⟩⟩
theorem kv_disj (s s' : Dev nD) (h : s ≠ s') : Disjoint (kvSet s) (kvSet s') := by
  refine Finset.disjoint_left.mpr fun i hi hi' => h (Fin.ext ?_)
  exact (Finset.mem_filter.mp hi).2.symm.trans (Finset.mem_filter.mp hi').2
theorem sc_disj (s s' : Dev nD) (h : s ≠ s') : Disjoint (scSet s) (scSet s') := by
  refine Finset.disjoint_left.mpr fun i hi hi' => h (Fin.ext ?_)
  exact (Finset.mem_filter.mp hi).2.symm.trans (Finset.mem_filter.mp hi').2

theorem kv_slots (c : Dev nD) (f : Buf (Elt F) ((c : Thread nD τ).loc cc0_scratch0)) :
    (((c : Thread nD τ).loc cc0_scratch0) ↦{fullShare} f : sProp 𝕄) = bigSep Finset.univ fun s : Dev nD => kvP c s fullShare f := by
  have h := pointsTo_biUnion (Ix := Unit) (Name := ℕ) (U := UU) (Lvl := ℕ) (ℓ := (c : Thread nD τ).loc cc0_scratch0) (q := fullShare) (f := f) (Finset.univ : Finset (Dev nD)) kvSet (fun s _ s' _ h => kv_disj s s' h)
  rw [kv_cover] at h
  exact h
theorem sc_slots (c : Dev nD) (f : Buf (Elt F) ((c : Thread nD τ).loc cc0_scratch1)) :
    (((c : Thread nD τ).loc cc0_scratch1) ↦{fullShare} f : sProp 𝕄) = bigSep Finset.univ fun s : Dev nD => scP c s fullShare f := by
  have h := pointsTo_biUnion (Ix := Unit) (Name := ℕ) (U := UU) (Lvl := ℕ) (ℓ := (c : Thread nD τ).loc cc0_scratch1) (q := fullShare) (f := f) (Finset.univ : Finset (Dev nD)) scSet (fun s _ s' _ h => sc_disj s s' h)
  rw [sc_cover] at h
  exact h

/-- The eight slots in the order of arrival. -/
theorem slots_eq (c : Dev nD) (Φ : Dev nD → sProp 𝕄) :
    bigSep Finset.univ Φ = iprop(Φ c ∗ Φ (got 0 c) ∗ Φ (got 1 c) ∗ Φ (got 2 c) ∗ Φ (got 3 c) ∗ Φ (got 4 c) ∗ Φ (got 5 c) ∗ Φ (got 6 c)) := by
  refine bigSep_univ_eq_bigSepL [c, got 0 c, got 1 c, got 2 c, got 3 c, got 4 c, got 5 c, got 6 c] ?_ (slots_nodup c) Φ
  revert c; decide

/-! ## Views -/

abbrev kvV (s : Dev nD) (ib : ∀ a, (![s.val, 0, 0, 0] : Fin 4 → Nat) a + S1x2x256x512.size a ≤ S8x2x256x512.size a) := kvS kvM (![s.val, 0, 0, 0]) ib
abbrev scV (s : Dev nD) (ib : ∀ a, (![s.val, 0, 0, 0] : Fin 4 → Nat) a + S1x2x2x256.size a ≤ S8x2x2x256.size a) := scS scM (![s.val, 0, 0, 0]) ib

theorem kvV_set (s : Dev nD) (ib) : ((kvV s ib).view.set : Finset S8x2x256x512.Idx) = kvSet s := by
  show (((View.whole cc0_scratch0).slice (Rect.unit (s := S8x2x256x512) ![s.val, 0, 0, 0] S1x2x256x512.size ib)).reshape S2x256x512 _).set = _
  rw [View.set_reshape, View.set_slice_whole]
  refine Finset.ext fun (i : S8x2x256x512.Idx) => ?_
  have h1 : (i 1).val < 2 := (i 1).isLt
  have h2 : (i 2).val < 256 := (i 2).isLt
  have h3 : (i 3).val < 512 := (i 3).isLt
  refine Rect.mem_set_unit.trans ⟨fun h => ?_, fun h a => ?_⟩
  · have := h 0
    exact Finset.mem_filter.mpr ⟨Finset.mem_univ _, by simp at this; omega⟩
  · have := (Finset.mem_filter.mp h).2
    match a with
    | 0 => show s.val ≤ (i 0).val ∧ (i 0).val < s.val + 1; omega
    | 1 => show 0 ≤ (i 1).val ∧ (i 1).val < 0 + 2; omega
    | 2 => show 0 ≤ (i 2).val ∧ (i 2).val < 0 + 256; omega
    | 3 => show 0 ≤ (i 3).val ∧ (i 3).val < 0 + 512; omega
theorem scV_set (s : Dev nD) (ib) : ((scV s ib).view.set : Finset S8x2x2x256.Idx) = scSet s := by
  show (((View.whole cc0_scratch1).slice (Rect.unit (s := S8x2x2x256) ![s.val, 0, 0, 0] S1x2x2x256.size ib)).reshape S2x2x256 _).set = _
  rw [View.set_reshape, View.set_slice_whole]
  refine Finset.ext fun (i : S8x2x2x256.Idx) => ?_
  have h1 : (i 1).val < 2 := (i 1).isLt
  have h2 : (i 2).val < 2 := (i 2).isLt
  have h3 : (i 3).val < 256 := (i 3).isLt
  refine Rect.mem_set_unit.trans ⟨fun h => ?_, fun h a => ?_⟩
  · have := h 0
    exact Finset.mem_filter.mpr ⟨Finset.mem_univ _, by simp at this; omega⟩
  · have := (Finset.mem_filter.mp h).2
    match a with
    | 0 => show s.val ≤ (i 0).val ∧ (i 0).val < s.val + 1; omega
    | 1 => show 0 ≤ (i 1).val ∧ (i 1).val < 0 + 2; omega
    | 2 => show 0 ≤ (i 2).val ∧ (i 2).val < 0 + 2; omega
    | 3 => show 0 ≤ (i 3).val ∧ (i 3).val < 0 + 256; omega

theorem kv_copy (s : Dev nD) (ib) (fd fs : (cc0_scratch0 : Ref sig .tc).ty.Contents (Elt F)) :
    ∀ i ∈ (kvV s ib).view.set, (kvV s ib).view.write (Elt F) fd ((kvV s ib).view.read (Elt F) fs) Finset.univ i = fs i := by
  intro i hi
  obtain ⟨x, -, rfl⟩ := Finset.mem_map.mp hi
  rw [View.write_emb_of_mem _ _ (Finset.mem_univ x), View.read_apply]; rfl
theorem sc_copy (s : Dev nD) (ib) (fd fs : (cc0_scratch1 : Ref sig .tc).ty.Contents (Elt F)) :
    ∀ i ∈ (scV s ib).view.set, (scV s ib).view.write (Elt F) fd ((scV s ib).view.read (Elt F) fs) Finset.univ i = fs i := by
  intro i hi
  obtain ⟨x, -, rfl⟩ := Finset.mem_map.mp hi
  rw [View.write_emb_of_mem _ _ (Finset.mem_univ x), View.read_apply]; rfl

/-! ## The loads of a chunk -/

theorem kv_load_set (s : Dev nD) (b : Fin 2) (ib) :
    (kvM.view.setOn (Rect.unit (s := S8x2x256x512) ![s.val, b.val, 0, 0] S1x1x256x512.size ib).toLoadRect.set : Finset S8x2x256x512.Idx) ⊆ kvSet s := by
  intro i hi
  obtain ⟨x, hx, rfl⟩ := Finset.mem_map.mp hi
  have := (Rect.mem_set_unit.mp hx) 0
  refine Finset.mem_filter.mpr ⟨Finset.mem_univ _, ?_⟩
  show (x 0).val = s.val
  simp at this; omega
theorem sc_load_set (s : Dev nD) (w b : Fin 2) (ib) :
    (scM.view.setOn (Rect.unit (s := S8x2x2x256) ![s.val, w.val, b.val, 0] S1x1x1x256.size ib).toLoadRect.set : Finset S8x2x2x256.Idx) ⊆ scSet s := by
  intro i hi
  obtain ⟨x, hx, rfl⟩ := Finset.mem_map.mp hi
  have := (Rect.mem_set_unit.mp hx) 0
  refine Finset.mem_filter.mpr ⟨Finset.mem_univ _, ?_⟩
  show (x 0).val = s.val
  simp at this; omega

theorem kv_load (s : Dev nD) (b : Fin 2) (ib) :
    (kvM.view.readAt (Elt F) (Rect.unit (s := S8x2x256x512) ![s.val, b.val, 0, 0] S1x1x256x512.size ib).toLoadRect (kvAll m) : Vec F S1x1x256x512 .i8) = (blkOf m s b).kv := by
  funext x
  have h0 : (x 0).val < 1 := (x 0).isLt
  have h1 : (x 1).val < 1 := (x 1).isLt
  have e0 : ((Rect.unit (s := S8x2x256x512) ![s.val, b.val, 0, 0] S1x1x256x512.size ib).emb x 0 : Fin 8) = s := Fin.ext (by show _ + 1 * (x 0).val = s.val; simp; omega)
  have e1 : ((Rect.unit (s := S8x2x256x512) ![s.val, b.val, 0, 0] S1x1x256x512.size ib).emb x 1 : Fin 2) = b := Fin.ext (by show _ + 1 * (x 1).val = b.val; simp; omega)
  have e2 : ((Rect.unit (s := S8x2x256x512) ![s.val, b.val, 0, 0] S1x1x256x512.size ib).emb x 2 : Fin 256) = x 2 := Fin.ext (by show _ + 1 * (x 2).val = (x 2).val; simp)
  have e3 : ((Rect.unit (s := S8x2x256x512) ![s.val, b.val, 0, 0] S1x1x256x512.size ib).emb x 3 : Fin 512) = x 3 := Fin.ext (by show _ + 1 * (x 3).val = (x 3).val; simp)
  show kvAt m ((Rect.unit (s := S8x2x256x512) ![s.val, b.val, 0, 0] S1x1x256x512.size ib).emb x 0) ((Rect.unit (s := S8x2x256x512) ![s.val, b.val, 0, 0] S1x1x256x512.size ib).emb x 1)
    ((Rect.unit (s := S8x2x256x512) ![s.val, b.val, 0, 0] S1x1x256x512.size ib).emb x 2) ((Rect.unit (s := S8x2x256x512) ![s.val, b.val, 0, 0] S1x1x256x512.size ib).emb x 3) = kvAt m s b (x 2) (x 3)
  rw [e0, e1, e2, e3]
theorem sc_load (s : Dev nD) (w b : Fin 2) (ib) :
    (scM.view.readAt (Elt F) (Rect.unit (s := S8x2x2x256) ![s.val, w.val, b.val, 0] S1x1x1x256.size ib).toLoadRect (scAll m) : Vec F S1x1x1x256 .f32) = fun i => scAt m s w b (i 3) := by
  funext x
  have h0 : (x 0).val < 1 := (x 0).isLt
  have h1 : (x 1).val < 1 := (x 1).isLt
  have h2 : (x 2).val < 1 := (x 2).isLt
  have e0 : ((Rect.unit (s := S8x2x2x256) ![s.val, w.val, b.val, 0] S1x1x1x256.size ib).emb x 0 : Fin 8) = s := Fin.ext (by show _ + 1 * (x 0).val = s.val; simp; omega)
  have e1 : ((Rect.unit (s := S8x2x2x256) ![s.val, w.val, b.val, 0] S1x1x1x256.size ib).emb x 1 : Fin 2) = w := Fin.ext (by show _ + 1 * (x 1).val = w.val; simp; omega)
  have e2 : ((Rect.unit (s := S8x2x2x256) ![s.val, w.val, b.val, 0] S1x1x1x256.size ib).emb x 2 : Fin 2) = b := Fin.ext (by show _ + 1 * (x 2).val = b.val; simp; omega)
  have e3 : ((Rect.unit (s := S8x2x2x256) ![s.val, w.val, b.val, 0] S1x1x1x256.size ib).emb x 3 : Fin 256) = x 3 := Fin.ext (by show _ + 1 * (x 3).val = (x 3).val; simp)
  show scAt m ((Rect.unit (s := S8x2x2x256) ![s.val, w.val, b.val, 0] S1x1x1x256.size ib).emb x 0) ((Rect.unit (s := S8x2x2x256) ![s.val, w.val, b.val, 0] S1x1x1x256.size ib).emb x 1)
    ((Rect.unit (s := S8x2x2x256) ![s.val, w.val, b.val, 0] S1x1x1x256.size ib).emb x 2) ((Rect.unit (s := S8x2x2x256) ![s.val, w.val, b.val, 0] S1x1x1x256.size ib).emb x 3) = scAt m s w b (x 3)
  rw [e0, e1, e2, e3]

/-! ## The stores of the own block -/

abbrev rK (c : Dev nD) (ib : ∀ a, (![c.val, 0, 0, 0] : Fin 4 → Nat) a + S1x2x256x256.size a ≤ S8x2x256x512.size a) : Rect S8x2x256x512 := Rect.unit (s := S8x2x256x512) ![c.val, 0, 0, 0] S1x2x256x256.size ib
abbrev rV (c : Dev nD) (ib : ∀ a, (![c.val, 0, 0, 256] : Fin 4 → Nat) a + S1x2x256x256.size a ≤ S8x2x256x512.size a) : Rect S8x2x256x512 := Rect.unit (s := S8x2x256x512) ![c.val, 0, 0, 256] S1x2x256x256.size ib
abbrev rSk (c : Dev nD) (ib : ∀ a, (![c.val, 0, 0, 0] : Fin 4 → Nat) a + S1x1x2x256.size a ≤ S8x2x2x256.size a) : Rect S8x2x2x256 := Rect.unit (s := S8x2x2x256) ![c.val, 0, 0, 0] S1x1x2x256.size ib
abbrev rSv (c : Dev nD) (ib : ∀ a, (![c.val, 1, 0, 0] : Fin 4 → Nat) a + S1x1x2x256.size a ≤ S8x2x2x256.size a) : Rect S8x2x2x256 := Rect.unit (s := S8x2x2x256) ![c.val, 1, 0, 0] S1x1x2x256.size ib

theorem kv_store_set (c : Dev nD) (j : Nat) (ib) : ((kvM.access (Rect.unit (s := S8x2x256x512) ![c.val, 0, 0, j] S1x2x256x256.size ib)).setOn Finset.univ : Finset S8x2x256x512.Idx) ⊆ kvSet c := by
  intro i hi
  have hi' : i ∈ (Rect.unit (s := S8x2x256x512) ![c.val, 0, 0, j] S1x2x256x256.size ib).set := by
    have : ((kvM.access (Rect.unit (s := S8x2x256x512) ![c.val, 0, 0, j] S1x2x256x256.size ib)).set : Finset S8x2x256x512.Idx) = _ := View.set_slice_whole cc0_scratch0 _
    rw [← this]; exact hi
  have := (Rect.mem_set_unit.mp hi') 0
  refine Finset.mem_filter.mpr ⟨Finset.mem_univ _, ?_⟩
  simp at this; omega
theorem sc_store_set (c : Dev nD) (j : Nat) (ib) : ((scM.access (Rect.unit (s := S8x2x2x256) ![c.val, j, 0, 0] S1x1x2x256.size ib)).setOn Finset.univ : Finset S8x2x2x256.Idx) ⊆ scSet c := by
  intro i hi
  have hi' : i ∈ (Rect.unit (s := S8x2x2x256) ![c.val, j, 0, 0] S1x1x2x256.size ib).set := by
    have : ((scM.access (Rect.unit (s := S8x2x2x256) ![c.val, j, 0, 0] S1x1x2x256.size ib)).set : Finset S8x2x2x256.Idx) = _ := View.set_slice_whole cc0_scratch1 _
    rw [← this]; exact hi
  have := (Rect.mem_set_unit.mp hi') 0
  refine Finset.mem_filter.mpr ⟨Finset.mem_univ _, ?_⟩
  simp at this; omega

/-- A write through a unit rectangle of a whole buffer, at an index inside and at one outside. -/
theorem write_in {b : Ref sig .tc} (r : Rect b.ty.shape) (f : b.ty.Contents (Elt F)) (w : r.shape.Idx → Elt F b.ty.elt) (x : r.shape.Idx) :
    ((Memref.whole b).access r : View sig .tc _ _ _).write (Elt F) f w Finset.univ (r.emb x) = w x :=
  View.write_emb_of_mem (v := (Memref.whole b).access r) f w (Finset.mem_univ x)
theorem write_out {b : Ref sig .tc} (r : Rect b.ty.shape) (f : b.ty.Contents (Elt F)) (w : r.shape.Idx → Elt F b.ty.elt) (i : b.ty.shape.Idx) (h : i ∉ r.set) :
    ((Memref.whole b).access r : View sig .tc _ _ _).write (Elt F) f w Finset.univ i = f i := by
  refine View.write_of_not_mem (v := (Memref.whole b).access r) f w Finset.univ fun hi => h ?_
  have : (((Memref.whole b).access r : View sig .tc _ _ _).set : Finset b.ty.shape.Idx) = _ := View.set_slice_whole b r
  rw [← this]; exact hi

theorem kv_stored (c : Dev nD) (ib1 ib2) (f : (cc0_scratch0 : Ref sig .tc).ty.Contents (Elt F)) :
    ∀ i ∈ kvSet c, (kvM.access (rV c ib2)).write (Elt F) ((kvM.access (rK c ib1)).write (Elt F) f (codesOut (stgK m c)) Finset.univ) (codesOut (stgV m c)) Finset.univ i = kvAll m i := by
  intro i hi
  have hi0 := (Finset.mem_filter.mp hi).2
  have hs : (i 0 : Fin 8) = c := Fin.ext hi0
  by_cases h : (i 3).val < 256
  · rw [write_out (b := cc0_scratch0) (rV c ib2) _ _ i (fun hm => by have := (Rect.mem_set_unit.mp hm) 3; simp at this; omega)]
    have e : i = (rK c ib1).emb (i4 (0 : Fin 1) (i 1 : Fin 2) (i 2 : Fin 256) (⟨(i 3).val, h⟩ : Fin 256)) := by
      funext a; refine Fin.ext ?_
      fin_cases a <;> simp [i4] <;> omega
    conv_lhs => rw [e]
    rw [write_in (b := cc0_scratch0)]
    show _ = kvAt m (i 0) (i 1) (i 2) (i 3)
    unfold kvAt; rw [dif_pos h, hs]
  · have e : i = (rV c ib2).emb (i4 (0 : Fin 1) (i 1 : Fin 2) (i 2 : Fin 256) (⟨(i 3).val - 256, by have : (i 3).val < 512 := (i 3).isLt; omega⟩ : Fin 256)) := by
      funext a; refine Fin.ext ?_
      fin_cases a <;> simp [i4] <;> omega
    conv_lhs => rw [e]
    rw [write_in (b := cc0_scratch0)]
    show _ = kvAt m (i 0) (i 1) (i 2) (i 3)
    unfold kvAt; rw [dif_neg h, hs]

theorem sc_stored (c : Dev nD) (ib1 ib2) (f : (cc0_scratch1 : Ref sig .tc).ty.Contents (Elt F)) :
    ∀ i ∈ scSet c, (scM.access (rSv c ib2)).write (Elt F) ((scM.access (rSk c ib1)).write (Elt F) f (topOut (stgK m c)) Finset.univ) (topOut (stgV m c)) Finset.univ i = scAll m i := by
  intro i hi
  have hi0 := (Finset.mem_filter.mp hi).2
  have hs : (i 0 : Fin 8) = c := Fin.ext hi0
  have h2 : (i 1).val < 2 := (i 1).isLt
  by_cases h : (i 1).val = 0
  · rw [write_out (b := cc0_scratch1) (rSv c ib2) _ _ i (fun hm => by have := (Rect.mem_set_unit.mp hm) 1; simp at this; omega)]
    have e : i = (rSk c ib1).emb (i4 (0 : Fin 1) (0 : Fin 1) (i 2 : Fin 2) (i 3 : Fin 256)) := by
      funext a; refine Fin.ext ?_
      fin_cases a <;> simp [i4] <;> omega
    conv_lhs => rw [e]
    rw [write_in (b := cc0_scratch1)]
    show _ = scAt m (i 0) (i 1) (i 2) (i 3)
    unfold scAt; rw [hs]; exact (if_pos (@Fin.ext 2 (i 1) 0 h)).symm
  · have e : i = (rSv c ib2).emb (i4 (0 : Fin 1) (0 : Fin 1) (i 2 : Fin 2) (i 3 : Fin 256)) := by
      funext a; refine Fin.ext ?_
      fin_cases a <;> simp [i4] <;> omega
    conv_lhs => rw [e]
    rw [write_in (b := cc0_scratch1)]
    show _ = scAt m (i 0) (i 1) (i 2) (i 3)
    unfold scAt; rw [hs]; exact (if_neg (fun h' : @Eq (Fin 2) (i 1) 0 => h (congrArg Fin.val h'))).symm

end Cert.KernelIdeal.Prg

end
-- ==== Proof.ProtocolIdeal.lean ====
/- The transfer protocol: the cells, what each duty hands over, what a device owes, the levels. -/
module

public import proofs.«01_k».proof.Proof.BuffersIdeal

@[expose] public section

set_option maxRecDepth 16384

noncomputable section

namespace Cert.KernelIdeal.Prg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## Cells -/

abbrev barS : Sem sig := (SemArray.scalar (sig.barrier 0 rfl) : Sems sig S_).sem
/-- The four semaphores of transfer `t`: codes sent, codes received, scales sent, scales received. -/
def dsem (t : Fin 7) (k : Fin 4) : DmaSem sig :=
  (![![6, 10, 14, 7, 11, 15, 16], ![8, 12, 17, 9, 13, 18, 19], ![20, 24, 28, 21, 25, 29, 30], ![22, 26, 31, 23, 27, 32, 33]] k t : Fin 34)
def tOf (q : DmaSem sig) : Fin 7 :=
  (![0, 0, 0, 0, 0, 0, 0, 3, 0, 3, 1, 4, 1, 4, 2, 5, 6, 2, 5, 6, 0, 3, 0, 3, 1, 4, 1, 4, 2, 5, 6, 2, 5, 6] : Fin 34 → Fin 7) q
def kOf (q : DmaSem sig) : Fin 4 :=
  (![0, 0, 0, 0, 0, 0, 0, 0, 1, 1, 0, 0, 1, 1, 0, 0, 0, 1, 1, 1, 2, 2, 3, 3, 2, 2, 3, 3, 2, 2, 2, 3, 3, 3] : Fin 34 → Fin 4) q
theorem tOf_dsem (t : Fin 7) (k : Fin 4) : tOf (dsem t k) = t := by revert t k; decide
theorem kOf_dsem (t : Fin 7) (k : Fin 4) : kOf (dsem t k) = k := by revert t k; decide
theorem six_le_dsem (t : Fin 7) (k : Fin 4) : 6 ≤ (dsem t k).val := by revert t k; decide
theorem dsem_tOf (q : DmaSem sig) (h : 6 ≤ q.val) : dsem (tOf q) (kOf q) = q := by revert q; decide

abbrev barCell (c : Dev nD) : GSem nD τ sig := ((c : Thread nD τ), .reg barS)
abbrev cell (c : Dev nD) (t : Fin 7) (k : Fin 4) : GSem nD τ sig := ((c : Thread nD τ), .dma (dsem t k))
abbrev osem (i : Fin 7 × Fin 4) : SemLoc sig := .dma (dsem i.1 i.2)
abbrev csem (i : Option (Fin 7 × Fin 4)) : SemLoc sig := match i with | none => .reg barS | some i => osem i
abbrev kcell (ck : Dev nD × Option (Fin 7 × Fin 4)) : GSem nD τ sig := ((ck.1 : Thread nD τ), csem ck.2)

abbrev Nkv : ℕ := (kvV (0 : Fin 8) (by decide)).view.dmaCredit
abbrev Nsc : ℕ := (scV (0 : Fin 8) (by decide)).view.dmaCredit
theorem Nkv_pos : 0 < Nkv := View.dmaCredit_pos _ (by decide)
theorem Nsc_pos : 0 < Nsc := View.dmaCredit_pos _ (by decide)
def amt (k : Fin 4) : ℕ := match k with | 0 => Nkv | 1 => Nkv | 2 => Nsc | 3 => Nsc
theorem amt_pos (k : Fin 4) : 0 < amt k := by
  match k with
  | 0 => exact Nkv_pos
  | 1 => exact Nkv_pos
  | 2 => exact Nsc_pos
  | 3 => exact Nsc_pos

/-! ## The schedule -/

/-- The share of a slot transfer `t` borrows. -/
def lend (t : Fin 7) : Fin 4 := (dir t).castSucc

/-- What the device whose neighbour `c` is not, but which is `c`'s neighbour in direction `j`, hands over: the slots
    the transfers of that direction land in. -/
def barPay (j : Fin 3) (c : Dev nD) : sProp 𝕄 := match j with
  | 0 => iprop(land (nbr 0 c) (sent 0 c) ∗ land (nbr 0 c) (sent 3 c))
  | 1 => iprop(land (nbr 1 c) (sent 1 c) ∗ land (nbr 1 c) (sent 4 c))
  | 2 => iprop(land (nbr 2 c) (sent 2 c) ∗ land (nbr 2 c) (sent 5 c) ∗ land (nbr 2 c) (sent 6 c))
def dmaPay (c : Dev nD) (t : Fin 7) (k : Fin 4) : sProp 𝕄 := match k with
  | 0 => kvP c (sent t c) (sh (lend t)) (kvAll m)
  | 1 => kvP c (got t c) fullShare (kvAll m)
  | 2 => scP c (sent t c) (sh (lend t)) (scAll m)
  | 3 => scP c (got t c) fullShare (scAll m)
instance barPay_storable (j : Fin 3) (c : Dev nD) : BI.Storable (upEmb : UEmb _ 𝕄) (barPay (F := F) j c) := by
  unfold barPay; split <;> infer_instance
instance dmaPay_storable (c : Dev nD) (t : Fin 7) (k : Fin 4) : BI.Storable (upEmb : UEmb _ 𝕄) (dmaPay m c t k) := by
  unfold dmaPay; split <;> infer_instance

def dutiesOf (s : SemLoc sig) : Finset (Fin 3) := match s with
  | .reg _ => Finset.univ
  | .dma q => if 6 ≤ q.val then {0} else ∅
def amountOf (s : SemLoc sig) : ℕ := match s with
  | .reg _ => 1
  | .dma q => amt (kOf q)
def payOf (c : Dev nD) (s : SemLoc sig) (d : Fin 3) : sProp 𝕄 := match s with
  | .reg _ => barPay d c
  | .dma q => dmaPay m c (tOf q) (kOf q)

/-- One round, round 0: a barrier cell has one duty of one unit per direction; a transfer's cell one duty, its credit. -/
def ringRd : Rounds.Schedule (GSem nD τ sig) (Fin 3) 𝕄 where
  duties g r := if r = 0 ∧ g.1.2 = .tc then dutiesOf g.2 else ∅
  unitless _ := False
  amount g _ _ := amountOf g.2
  payload g _ d := payOf m g.1.1 g.2 d
  amount_pos g _ _ _ := by
    rcases g with ⟨_, s | q⟩
    · exact Nat.one_pos
    · exact amt_pos _

instance ringRd_payload_storable (g : GSem nD τ sig) (r : ℕ) (d : Fin 3) :
    BI.Storable (upEmb : UEmb _ 𝕄) ((ringRd m).payload g r d) := by
  show BI.Storable upEmb (payOf m g.1.1 g.2 d)
  unfold payOf; split <;> infer_instance

section Sched
variable (c : Dev nD) (t : Fin 7) (k : Fin 4)

theorem duties_bar : (ringRd m).duties (barCell c) 0 = Finset.univ := by dsimp only [ringRd]; exact if_pos ⟨rfl, rfl⟩
theorem duties_dma : (ringRd m).duties (cell c t k) 0 = {0} := by
  dsimp only [ringRd]; rw [if_pos ⟨rfl, rfl⟩]; exact if_pos (six_le_dsem t k)
theorem duties_later (g : GSem nD τ sig) : ∀ r, 1 ≤ r → (ringRd m).duties g r = ∅ :=
  fun r hr => by dsimp only [ringRd]; rw [if_neg fun h => by omega]
theorem amount_bar (d : Fin 3) : (ringRd m).amount (barCell c) 0 d = 1 := rfl
theorem amount_dma (d : Fin 3) : (ringRd m).amount (cell c t k) 0 d = amt k := by
  show amt (kOf (dsem t k)) = _; rw [kOf_dsem]
theorem expect_bar : (ringRd m).expect (barCell c) 0 = 3 := by
  unfold Schedule.expect Schedule.amountOf
  rw [duties_bar, Finset.sum_congr rfl fun d _ => amount_bar m c d, Finset.sum_const, Finset.card_univ, Fintype.card_fin, smul_eq_mul]
theorem expect_dma : (ringRd m).expect (cell c t k) 0 = amt k := by
  unfold Schedule.expect Schedule.amountOf; rw [duties_dma, Finset.sum_singleton, amount_dma]
theorem payload_bar (d : Fin 3) : (ringRd m).payload (barCell c) 0 d = barPay d c := rfl
theorem payload_dma (d : Fin 3) : (ringRd m).payload (cell c t k) 0 d = dmaPay m c t k := by
  show dmaPay m c (tOf (dsem t k)) (kOf (dsem t k)) = _; rw [tOf_dsem, kOf_dsem]
theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem rest_bar : bigSep ((ringRd m).duties (barCell c) 0 \ ∅) (fun d => (ringRd m).payload (barCell c) 0 d)
    = iprop(barPay 0 c ∗ barPay 1 c ∗ barPay 2 c) := by
  rw [Finset.sdiff_empty, duties_bar, bigSep_fin3]; rfl
theorem rest_dma : bigSep ((ringRd m).duties (cell c t k) 0 \ ∅) (fun d => (ringRd m).payload (cell c t k) 0 d) = dmaPay m c t k := by
  rw [Finset.sdiff_empty, duties_dma, bigSep_singleton, payload_dma]

end Sched

/-! ## What each core owes; the levels -/

/-- What `c` owes for the transfers `ts` not yet started. -/
def Ow (c : Dev nD) : List (Fin 7) → CellTallies nD τ sig Unit
  | [] => 0
  | t :: ts => (Ow c ts + tallyAt (cell (nbr (dir t) c) t 3) () (amt 3)) + tallyAt (cell (nbr (dir t) c) t 1) () (amt 1)
abbrev all7 : List (Fin 7) := [0, 1, 2, 3, 4, 5, 6]
def Ob (c : Dev nD) : List (Fin 3) → CellTallies nD τ sig Unit
  | [] => Ow c all7
  | j :: js => Ob c js + tallyAt (barCell (inb j c)) () 1
def O₀ (c : Dev nD) : CellTallies nD τ sig Unit := Ob c [0, 1, 2]

def L (g : GSem nD τ sig) : Finset Unit := if g.1.2 = .tc then {()} else ∅
def hop (t : Fin 7) : ℕ := ![0, 0, 0, 1, 1, 1, 2] t
def lvs (s : SemLoc sig) : ℕ := match s with
  | .reg _ => 1
  | .dma q => if 6 ≤ q.val ∧ (kOf q).val % 2 = 1 then 2 + hop (tOf q) else 0
/-- Barrier cells at 1, receive cells from 2 on by hop, everything else at 0. -/
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl
theorem lvs_recv (t : Fin 7) (k : Fin 4) (hk : k.val % 2 = 1) : lvs (.dma (dsem t k)) = 2 + hop t := by
  revert t k; decide

theorem tally_pos {g g' : GSem nD τ sig} {n : ℕ} {u : Unit} (h : 0 < tallyAt g' () n g u) : g = g' := by
  rw [tallyAt_apply] at h
  by_contra hn
  rw [if_neg fun h' => hn h'.1] at h
  exact Nat.lt_irrefl 0 h

theorem Ow_pos {c : Dev nD} {g : GSem nD τ sig} {u : Unit} (ts : List (Fin 7)) (h : 0 < Ow c ts g u) :
    ∃ t ∈ ts, ∃ k : Fin 4, k.val % 2 = 1 ∧ g = cell (nbr (dir t) c) t k := by
  induction ts with
  | nil => exact absurd h (Nat.lt_irrefl 0)
  | cons t ts ih =>
    have h' : 0 < (Ow c ts g u + tallyAt (cell (nbr (dir t) c) t 3) () (amt 3) g u) + tallyAt (cell (nbr (dir t) c) t 1) () (amt 1) g u := h
    rcases Nat.pos_of_ne_zero (by omega : Ow c ts g u + tallyAt (cell (nbr (dir t) c) t 3) () (amt 3) g u + tallyAt (cell (nbr (dir t) c) t 1) () (amt 1) g u ≠ 0) with _
    by_cases h1 : 0 < Ow c ts g u
    · obtain ⟨t', ht, k, hk, e⟩ := ih h1
      exact ⟨t', List.mem_cons_of_mem _ ht, k, hk, e⟩
    · by_cases h3 : 0 < tallyAt (cell (nbr (dir t) c) t 3) () (amt 3) g u
      · exact ⟨t, List.mem_cons_self, 3, rfl, tally_pos h3⟩
      · exact ⟨t, List.mem_cons_self, 1, rfl, tally_pos (by omega : 0 < tallyAt (cell (nbr (dir t) c) t 1) () (amt 1) g u)⟩

theorem Ob_pos {c : Dev nD} {g : GSem nD τ sig} {u : Unit} (js : List (Fin 3)) (h : 0 < Ob c js g u) :
    (∃ t ∈ all7, ∃ k : Fin 4, k.val % 2 = 1 ∧ g = cell (nbr (dir t) c) t k) ∨ ∃ j, g = barCell (inb j c) := by
  induction js with
  | nil => exact .inl (Ow_pos _ h)
  | cons j js ih =>
    have h' : 0 < Ob c js g u + tallyAt (barCell (inb j c)) () 1 g u := h
    by_cases h1 : 0 < Ob c js g u
    · exact ih h1
    · exact .inr ⟨j, tally_pos (by omega : 0 < tallyAt (barCell (inb j c)) () 1 g u)⟩

/-- A device may wait at a cell below every receive cell it still owes. -/
theorem mayWait (c : Dev nD) (sm : SemLoc sig) (ts : List (Fin 7)) (b : ℕ) (hb : lvs sm ≤ b) (ht : ∀ t ∈ ts, b < 2 + hop t) :
    (levAts L lv : sProp 𝕄) ⊢ MayWait (c : Thread nD τ) sm () (Ow c ts) :=
  MayOwe.of_cut (L := L) (lev := lv) b (fun p hp => by rw [Finset.mem_singleton.mp hp, L_tc]; exact Finset.mem_singleton_self _)
    (fun g u hg => by obtain ⟨t, _, k, _, rfl⟩ := Ow_pos ts hg; exact Finset.mem_singleton_self _)
    (fun p hp => by rw [Finset.mem_singleton.mp hp]; exact hb)
    (fun g u hg => by
      obtain ⟨t, h, k, hk, rfl⟩ := Ow_pos ts hg
      show b < lvs (.dma (dsem t k))
      rw [lvs_recv t k hk]; exact ht t h)

theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases Ob_pos _ hg with ⟨t, _, k, _, rfl⟩ | ⟨j, rfl⟩ <;> exact Finset.mem_singleton_self _)
      (fun p hp => by rw [Finset.mem_singleton.mp hp]; show lvs (.dma q) ≤ 0; exact le_of_eq (if_neg fun h => by omega))
      (fun g u hg => by
        rcases Ob_pos _ hg with ⟨t, _, k, hk, rfl⟩ | ⟨j, rfl⟩
        · show 0 < lvs (.dma (dsem t k)); rw [lvs_recv t k hk]; omega
        · exact Nat.one_pos)
  · rw [MayWait_zero]; iintro -; iempintro

/-! ## Ghost state -/

variable (K : Dev nD × Option (Fin 7 × Fin 4) → ℕ)

def records : sProp 𝕄 :=
  iprop((bigSep Finset.univ fun ck : Dev nD × Option (Fin 7 × Fin 4) => cellInv ER (ringRd m) (K ck) (kcell ck))
    ∗ bigSep Finset.univ fun ck : Dev nD × Option (Fin 7 × Fin 4) => reached ER (kcell ck) 0)
instance records_persistent : BI.Persistent (records m K) := by unfold records; infer_instance

theorem inv_at (ck : Dev nD × Option (Fin 7 × Fin 4)) : records m K ⊢ cellInv ER (ringRd m) (K ck) (kcell ck) := by
  unfold records
  have h : (bigSep Finset.univ fun ck : Dev nD × Option (Fin 7 × Fin 4) => (cellInv ER (ringRd m) (K ck) (kcell ck) : sProp 𝕄)) ⊢ cellInv ER (ringRd m) (K ck) (kcell ck) :=
    bigSep_elim (Finset.mem_univ ck)
  iintro ⟨H, -⟩
  iapply h
  iexact H
theorem reached_at (ck : Dev nD × Option (Fin 7 × Fin 4)) : records m K ⊢ reached ER (kcell ck) 0 := by
  unfold records
  have h : (bigSep Finset.univ fun ck : Dev nD × Option (Fin 7 × Fin 4) => (reached ER (kcell ck) 0 : sProp 𝕄)) ⊢ reached ER (kcell ck) 0 :=
    bigSep_elim (Finset.mem_univ ck)
  iintro ⟨-, H⟩
  iapply h
  iexact H

/-- Per transfer: the positions at one's own cells, the tokens one pays with, the launch credits, the credits of a
    started transfer, the closed cells. -/
def pos (c : Dev nD) (t : Fin 7) : sProp 𝕄 := bigSep Finset.univ fun k : Fin 4 => atPos ER (cell c t k) 0 ∅ 0
def pay (c : Dev nD) (t : Fin 7) : sProp 𝕄 :=
  iprop(dutyTok ER (cell c t 0) 0 0 ∗ dutyTok ER (cell (nbr (dir t) c) t 1) 0 0 ∗ dutyTok ER (cell c t 2) 0 0 ∗ dutyTok ER (cell (nbr (dir t) c) t 3) 0 0)
def crd (c : Dev nD) (t : Fin 7) : sProp 𝕄 := iprop(cred (tallyAt (cell c t 1) () (amt 1)) ∗ cred (tallyAt (cell c t 3) () (amt 3)))
def scrd (c : Dev nD) (t : Fin 7) : sProp 𝕄 := iprop(cred (tallyAt (cell c t 0) () (amt 0)) ∗ cred (tallyAt (cell c t 2) () (amt 2)))
def zer (c : Dev nD) (t : Fin 7) : sProp 𝕄 := bigSep Finset.univ fun k : Fin 4 => semVal (cell c t k) 0
def owing (c : Dev nD) (O : CellTallies nD τ sig Unit) : sProp 𝕄 := iprop(∃ W, owes (c : Thread nD τ) O W)

def linear (c : Dev nD) : sProp 𝕄 :=
  iprop(atPos ER (barCell c) 0 ∅ 0 ∗ (bigSep Finset.univ fun t => pos c t)
    ∗ (bigSep Finset.univ fun j : Fin 3 => dutyTok ER (barCell (inb j c)) 0 j) ∗ bigSep Finset.univ fun t => pay c t)
def creds (c : Dev nD) : sProp 𝕄 := iprop(cred (tallyAt (barCell c) () 3) ∗ bigSep Finset.univ fun t => crd c t)

end Cert.KernelIdeal.Prg

end
-- ==== Proof.StepsIdeal.lean ====
/- The steps of the body: starting a transfer, waiting for one, loading a chunk, quantising, the handshake. -/
module

public import proofs.«01_k».proof.Proof.ProtocolIdeal

@[expose] public section

set_option maxRecDepth 16384

noncomputable section

namespace Cert.KernelIdeal.Prg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Option (Fin 7 × Fin 4) → ℕ)

abbrev 𝒱₀ : Variants := Variants.none
/-- The weakest precondition of a program on device `c`. -/
abbrev WP (c : Dev nD) {α : Type} (p : Prog (Eff (F := F)) α) (Q : α → sProp 𝕄) : sProp 𝕄 :=
  wp frame (wpE (defs₀ (F := F)) 𝒱₀ (c : Thread nD τ) none) Set.univ p Q

theorem kvP_view (c s : Dev nD) (ib) (q : PosShare TreeShare) (f : Buf (Elt F) ((c : Thread nD τ).loc cc0_scratch0)) :
    kvP c s q f = ((kvV s ib).view.loc (c : Thread nD τ) ↦[(kvV s ib).view.set]{q} f : sProp 𝕄) := by
  rw [kvV_set]; rfl
theorem scP_view (c s : Dev nD) (ib) (q : PosShare TreeShare) (f : Buf (Elt F) ((c : Thread nD τ).loc cc0_scratch1)) :
    scP c s q f = ((scV s ib).view.loc (c : Thread nD τ) ↦[(scV s ib).view.set]{q} f : sProp 𝕄) := by
  rw [scV_set]; rfl

/-! ## Starting a transfer -/

theorem amt_one : amt 1 = amt 0 := by unfold amt; rfl
theorem amt_three : amt 3 = amt 2 := by unfold amt; rfl
theorem amt_kv (o : Fin 4 → Nat) (ib : ∀ a, o a + S1x2x256x512.size a ≤ S8x2x256x512.size a) (q : DmaSem sig) : (kvS kvM o ib).view.amount (.dma q) = amt 0 := by
  unfold amt; rfl
theorem amt_sc (o : Fin 4 → Nat) (ib : ∀ a, o a + S1x2x2x256.size a ≤ S8x2x2x256.size a) (q : DmaSem sig) : (scS scM o ib).view.amount (.dma q) = amt 2 := by
  unfold amt; rfl

theorem step_sendKV (c : Dev nD) (t : Fin 7) (h6 : (kvM : Memref sig .tc .vmem S8x2x256x512 .i8).IsWhole) (n : Dev nD) (hn : n = nbr (dir t) c)
    (o : Fin 4 → Nat) (ib : ∀ a, o a + S1x2x256x512.size a ≤ S8x2x256x512.size a) (ww : WW o ib) (ho : o = ![(sent t c).val, 0, 0, 0])
    (ss rs : DmaSem sig) (hs : ss = dsem t 0) (hr : rs = dsem t 1) (O : CellTallies nD τ sig Unit) (W : Waits sig Unit) (Q : PUnit → sProp 𝕄) :
    iprop(records m K ∗ kvP c (sent t c) (sh (lend t)) (kvAll m) ∗ (∃ f, kvP (nbr (dir t) c) (sent t c) fullShare f)
        ∗ owes (c : Thread nD τ) (O + tallyAt (cell (nbr (dir t) c) t 1) () (amt 1)) W
        ∗ dutyTok ER (cell c t 0) 0 0 ∗ dutyTok ER (cell (nbr (dir t) c) t 1) 0 0)
      ⊢ iprop(((cred (tallyAt (cell c t 0) () (amt 0)) ∗ owes (c : Thread nD τ) O W) -∗ Q ⟨⟩) -∗ WP c (sendKV kvM h6 n o ib ww ss rs) Q) := by
  subst hn ho hs hr
  unfold sendKV Prog.lift
  rw [amt_one]
  iintro ⟨#HR, Hs, ⟨%f, Hd⟩, HO, Ht0, Ht1⟩ Hk
  ihave Hs := (Entails.of_eq (kvP_view c (sent t c) ib (sh (lend t)) (kvAll m))) $$ Hs
  ihave Hd := (Entails.of_eq (kvP_view (nbr (dir t) c) (sent t c) ib fullShare f)) $$ Hd
  ihave #HI0 := (inv_at m K (c, some (t, 0))) $$ HR
  ihave #HI1 := (inv_at m K (nbr (dir t) c, some (t, 1))) $$ HR
  ihave #HR0 := (reached_at m K (c, some (t, 0))) $$ HR
  ihave #HR1 := (reached_at m K (nbr (dir t) c, some (t, 1))) $$ HR
  iapply (Rounds.wp_send_pointsTo 𝒱₀ ER (ringRd m) (c : Thread nD τ) none (κ₁ := K (c, some (t, 0))) (κ₂ := K (nbr (dir t) c, some (t, 1)))
    (r₁ := 0) (r₂ := 0) (d₁ := 0) (d₂ := 0) (fd := f)
    (by rw [duties_dma]; exact Finset.mem_singleton_self _) (by rw [duties_dma]; exact Finset.mem_singleton_self _)
    () () (amt 0) (amt_kv _ ib _) (amount_dma m c t 0 0) ((amount_dma m (nbr (dir t) c) t 1 0).trans amt_one) O rfl (W := W)
    (by rw [payload_dma, ← kvP_view c (sent t c) ib]; exact BI.Entails.refl _)
    (by
      rw [payload_dma]
      refine (Entails.of_eq (pointsTo_congr (g := kvAll m) fun i hi => kv_copy (sent t c) ib f (kvAll m) i hi)).trans ?_
      rw [← kvP_view (nbr (dir t) c) (sent t c) ib]
      show _ ⊢ kvP (nbr (dir t) c) (got t (nbr (dir t) c)) fullShare (kvAll m)
      rw [got_nbr])) $$ [Hs Hd HO Ht0 Ht1]
  · isplitr; · iexact HI0
    isplitr; · iexact HI1
    isplitl [Hs]; · iexact Hs
    isplitl [Hd]; · iexact Hd
    isplitl [HO]; · iexact HO
    isplitl [Ht0]; · iexact Ht0
    isplitr; · iexact HR0
    isplitl [Ht1]; · iexact Ht1
    iexact HR1
  iintro H
  rw [wp_ret]; imodintro
  iapply Hk; iexact H

theorem step_sendSc (c : Dev nD) (t : Fin 7) (n : Dev nD) (hn : n = nbr (dir t) c)
    (o : Fin 4 → Nat) (ib : ∀ a, o a + S1x2x2x256.size a ≤ S8x2x2x256.size a) (ho : o = ![(sent t c).val, 0, 0, 0])
    (ss rs : DmaSem sig) (hs : ss = dsem t 2) (hr : rs = dsem t 3) (O : CellTallies nD τ sig Unit) (W : Waits sig Unit) (Q : PUnit → sProp 𝕄) :
    iprop(records m K ∗ scP c (sent t c) (sh (lend t)) (scAll m) ∗ (∃ f, scP (nbr (dir t) c) (sent t c) fullShare f)
        ∗ owes (c : Thread nD τ) (O + tallyAt (cell (nbr (dir t) c) t 3) () (amt 3)) W
        ∗ dutyTok ER (cell c t 2) 0 0 ∗ dutyTok ER (cell (nbr (dir t) c) t 3) 0 0)
      ⊢ iprop(((cred (tallyAt (cell c t 2) () (amt 2)) ∗ owes (c : Thread nD τ) O W) -∗ Q ⟨⟩) -∗ WP c (sendSc scM n o ib ss rs) Q) := by
  subst hn ho hs hr
  unfold sendSc Prog.lift
  rw [amt_three]
  iintro ⟨#HR, Hs, ⟨%f, Hd⟩, HO, Ht0, Ht1⟩ Hk
  ihave Hs := (Entails.of_eq (scP_view c (sent t c) ib (sh (lend t)) (scAll m))) $$ Hs
  ihave Hd := (Entails.of_eq (scP_view (nbr (dir t) c) (sent t c) ib fullShare f)) $$ Hd
  ihave #HI0 := (inv_at m K (c, some (t, 2))) $$ HR
  ihave #HI1 := (inv_at m K (nbr (dir t) c, some (t, 3))) $$ HR
  ihave #HR0 := (reached_at m K (c, some (t, 2))) $$ HR
  ihave #HR1 := (reached_at m K (nbr (dir t) c, some (t, 3))) $$ HR
  iapply (Rounds.wp_send_pointsTo 𝒱₀ ER (ringRd m) (c : Thread nD τ) none (κ₁ := K (c, some (t, 2))) (κ₂ := K (nbr (dir t) c, some (t, 3)))
    (r₁ := 0) (r₂ := 0) (d₁ := 0) (d₂ := 0) (fd := f)
    (by rw [duties_dma]; exact Finset.mem_singleton_self _) (by rw [duties_dma]; exact Finset.mem_singleton_self _)
    () () (amt 2) (amt_sc _ ib _) (amount_dma m c t 2 0) ((amount_dma m (nbr (dir t) c) t 3 0).trans amt_three) O rfl (W := W)
    (by rw [payload_dma, ← scP_view c (sent t c) ib]; exact BI.Entails.refl _)
    (by
      rw [payload_dma]
      refine (Entails.of_eq (pointsTo_congr (g := scAll m) fun i hi => sc_copy (sent t c) ib f (scAll m) i hi)).trans ?_
      rw [← scP_view (nbr (dir t) c) (sent t c) ib]
      show _ ⊢ scP (nbr (dir t) c) (got t (nbr (dir t) c)) fullShare (scAll m)
      rw [got_nbr])) $$ [Hs Hd HO Ht0 Ht1]
  · isplitr; · iexact HI0
    isplitr; · iexact HI1
    isplitl [Hs]; · iexact Hs
    isplitl [Hd]; · iexact Hd
    isplitl [HO]; · iexact HO
    isplitl [Ht0]; · iexact Ht0
    isplitr; · iexact HR0
    isplitl [Ht1]; · iexact Ht1
    iexact HR1
  iintro H
  rw [wp_ret]; imodintro
  iapply Hk; iexact H

theorem step_send (c : Dev nD) (t : Fin 7) (ts : List (Fin 7)) (h6 : (kvM : Memref sig .tc .vmem S8x2x256x512 .i8).IsWhole)
    (n n' : Dev nD) (hn : n = nbr (dir t) c) (hn' : n' = nbr (dir t) c)
    (o : Fin 4 → Nat) (ib : ∀ a, o a + S1x2x256x512.size a ≤ S8x2x256x512.size a) (ww : WW o ib) (ho : o = ![(sent t c).val, 0, 0, 0])
    (o' : Fin 4 → Nat) (ib' : ∀ a, o' a + S1x2x2x256.size a ≤ S8x2x2x256.size a) (ho' : o' = ![(sent t c).val, 0, 0, 0])
    (s0 s1 s2 s3 : DmaSem sig) (h0 : s0 = dsem t 0) (h1 : s1 = dsem t 1) (h2 : s2 = dsem t 2) (h3 : s3 = dsem t 3) (Q : PUnit → sProp 𝕄) :
    iprop(records m K ∗ part m (lend t) c (sent t c) ∗ land (nbr (dir t) c) (sent t c) ∗ pay c t ∗ owing c (Ow c (t :: ts)))
      ⊢ iprop(((scrd c t ∗ owing c (Ow c ts)) -∗ Q ⟨⟩) -∗ WP c (sendPair kvM h6 scM n n' o ib ww o' ib' s0 s1 s2 s3) Q) := by
  unfold sendPair owing part land pay scrd
  unfold WP
  rw [wp_bind]
  iintro ⟨#HR, ⟨Ha, Hb⟩, ⟨Hda, Hdb⟩, ⟨T0, T1, T2, T3⟩, ⟨%W, HO⟩⟩ Hk
  iapply (step_sendKV m K c t h6 n hn o ib ww ho s0 s1 h0 h1 (Ow c ts + tallyAt (cell (nbr (dir t) c) t 3) () (amt 3)) W) $$ [Ha Hda HO T0 T1]
  · isplitr; · iexact HR
    isplitl [Ha]; · iexact Ha
    isplitl [Hda]; · iexact Hda
    isplitl [HO]; · iexact HO
    isplitl [T0]; · iexact T0
    iexact T1
  iintro ⟨Hc0, HO⟩
  iapply (step_sendSc m K c t n' hn' o' ib' ho' s2 s3 h2 h3 (Ow c ts) W) $$ [Hb Hdb HO T2 T3]
  · isplitr; · iexact HR
    isplitl [Hb]; · iexact Hb
    isplitl [Hdb]; · iexact Hdb
    isplitl [HO]; · iexact HO
    isplitl [T2]; · iexact T2
    iexact T3
  iintro ⟨Hc2, HO⟩
  iapply Hk
  isplitl [Hc0 Hc2]
  · isplitl [Hc0] <;> iassumption
  iexists W; iexact HO

/-! ## Waiting for a transfer -/

theorem lvs_le (t : Fin 7) (k : Fin 4) : lvs (.dma (dsem t k)) ≤ 2 + hop t := by revert t k; decide

theorem step_wait (c : Dev nD) (t : Fin 7) (k : Fin 4) (ts : List (Fin 7)) (hh : ∀ t' ∈ ts, hop t < hop t') (q : DmaSem sig) (hq : q = dsem t k)
    {s : Shape} {e : EltTy} {src dst : Memref sig .tc .vmem s e} {hsrc : src.view.WordExact} {hdst : dst.view.WordExact}
    (hN : dst.view.dmaCredit = amt k) (Q : PUnit → sProp 𝕄) :
    iprop(records m K ∗ levAts L lv ∗ cred (tallyAt (cell c t k) () (amt k)) ∗ atPos ER (cell c t k) 0 ∅ 0 ∗ owing c (Ow c ts))
      ⊢ iprop(((owing c (Ow c ts) ∗ semVal (cell c t k) 0 ∗ dmaPay m c t k) -∗ Q ⟨⟩) -∗ WP c (Prog.lift (.waitDma2 q src dst hsrc hdst)) Q) := by
  subst hq
  unfold owing Prog.lift
  iintro ⟨#HR, #HL, Hc, Hat, ⟨%W, HO⟩⟩ Hk
  ihave #HI := (inv_at m K (c, some (t, k))) $$ HR
  iapply (Rounds.wp_wait_rest_token 𝒱₀ ER (ringRd m) (c : Thread nD τ) none (κ := K (c, some (t, k)))
      (wpE_waitDma2_eq 𝒱₀ (c : Thread nD τ) none Set.univ) (Set.mem_univ _) () (O := Ow c ts) (W := W) (R := 0) (m := 0) (T := ∅)
      (by rw [Nat.zero_add, hN, expect_dma])) $$ [Hc HO Hat]
  · isplitr; · iexact HI
    isplitl [Hc]; · rw [hN]; iexact Hc
    isplitl [HO]; · iexact HO
    isplitr
    · iapply (mayWait c (.dma (dsem t k)) ts (2 + hop t) (lvs_le t k) fun t' h => Nat.add_lt_add_left (hh t' h) 2); iexact HL
    iexact Hat
  iintro ⟨HO, Hat, -, Hpay⟩
  ihave Hpay := (Entails.of_eq (rest_dma m c t k)) $$ Hpay
  imod (Rounds.cell_close ER (ringRd m) (Set.mem_univ (K (c, some (t, k)))) (fun h => h) (R := 0 + 1) (duties_later m (cell c t k))) $$ [Hat] with Hz
  · isplitr; · iexact HI
    iexact Hat
  rw [wp_ret]; imodintro
  iapply Hk
  isplitl [HO]; · iexists _; iexact HO
  isplitl [Hz] <;> iassumption

theorem step_waits (c : Dev nD) (t : Fin 7) (ts : List (Fin 7)) (hh : ∀ t' ∈ ts, hop t < hop t') (h6 : (kvM : Memref sig .tc .vmem S8x2x256x512 .i8).IsWhole)
    (o : Fin 4 → Nat) (ib : ∀ a, o a + S1x2x256x512.size a ≤ S8x2x256x512.size a) (ww : WW o ib)
    (o' : Fin 4 → Nat) (ib' : ∀ a, o' a + S1x2x2x256.size a ≤ S8x2x2x256.size a)
    (s0 s1 s2 s3 : DmaSem sig) (h0 : s0 = dsem t 0) (h1 : s1 = dsem t 1) (h2 : s2 = dsem t 2) (h3 : s3 = dsem t 3) (Q : PUnit → sProp 𝕄) :
    iprop(records m K ∗ levAts L lv ∗ scrd c t ∗ crd c t ∗ pos c t ∗ owing c (Ow c ts))
      ⊢ iprop(((owing c (Ow c ts) ∗ zer c t ∗ part m (lend t) c (sent t c) ∗ slot m c (got t c)) -∗ Q ⟨⟩)
          -∗ WP c (waitPair kvM h6 scM o ib ww o' ib' s0 s1 s2 s3) Q) := by
  unfold waitPair scrd crd pos zer part slot waitKV waitSc
  unfold WP
  rw [wp_bind, wp_bind, wp_bind, bigSep_fin4, bigSep_fin4]
  iintro ⟨#HR, #HL, ⟨C0, C2⟩, ⟨C1, C3⟩, ⟨A0, A1, A2, A3⟩, HO⟩ Hk
  iapply (step_wait m K c t 0 ts hh s0 h0 (src := kvS kvM o ib) (dst := kvS kvM o ib) rfl) $$ [C0 A0 HO]
  · isplitr; · iexact HR
    isplitr; · iexact HL
    isplitl [C0]; · iexact C0
    isplitl [A0] <;> iassumption
  iintro ⟨HO, Z0, P0⟩
  iapply (step_wait m K c t 1 ts hh s1 h1 (src := kvS kvM o ib) (dst := kvS kvM o ib) rfl) $$ [C1 A1 HO]
  · isplitr; · iexact HR
    isplitr; · iexact HL
    isplitl [C1]; · iexact C1
    isplitl [A1] <;> iassumption
  iintro ⟨HO, Z1, P1⟩
  iapply (step_wait m K c t 2 ts hh s2 h2 (src := scS scM o' ib') (dst := scS scM o' ib') rfl) $$ [C2 A2 HO]
  · isplitr; · iexact HR
    isplitr; · iexact HL
    isplitl [C2]; · iexact C2
    isplitl [A2] <;> iassumption
  iintro ⟨HO, Z2, P2⟩
  iapply (step_wait m K c t 3 ts hh s3 h3 (src := scS scM o' ib') (dst := scS scM o' ib') rfl) $$ [C3 A3 HO]
  · isplitr; · iexact HR
    isplitr; · iexact HL
    isplitl [C3]; · iexact C3
    isplitl [A3] <;> iassumption
  iintro ⟨HO, Z3, P3⟩
  ihave P0 := (Entails.of_eq (show dmaPay m c t 0 = kvP c (sent t c) (sh (lend t)) (kvAll m) from rfl)) $$ P0
  ihave P1 := (Entails.of_eq (show dmaPay m c t 1 = kvP c (got t c) fullShare (kvAll m) from rfl)) $$ P1
  ihave P2 := (Entails.of_eq (show dmaPay m c t 2 = scP c (sent t c) (sh (lend t)) (scAll m) from rfl)) $$ P2
  ihave P3 := (Entails.of_eq (show dmaPay m c t 3 = scP c (got t c) fullShare (scAll m) from rfl)) $$ P3
  iapply Hk
  isplitl [HO]; · iexact HO
  isplitl [Z0 Z1 Z2 Z3]
  · isplitl [Z0]; · iexact Z0
    isplitl [Z1]; · iexact Z1
    isplitl [Z2] <;> iassumption
  isplitl [P0 P2]
  · isplitl [P0]; · iexact P0
    iexact P2
  · isplitl [P1]; · iexact P1
    iexact P3

/-! ## Loading a chunk -/

theorem step_load (c s : Dev nD) (b : Fin 2)
    (o : Fin 4 → Nat) (ib : ∀ a, o a + S1x1x256x512.size a ≤ S8x2x256x512.size a) (ho : o = ![s.val, b.val, 0, 0])
    (o1 : Fin 4 → Nat) (ib1 : ∀ a, o1 a + S1x1x1x256.size a ≤ S8x2x2x256.size a) (ho1 : o1 = ![s.val, (0 : Fin 2).val, b.val, 0])
    (o2 : Fin 4 → Nat) (ib2 : ∀ a, o2 a + S1x1x1x256.size a ≤ S8x2x2x256.size a) (ho2 : o2 = ![s.val, (1 : Fin 2).val, b.val, 0]) (Q : Blk F → sProp 𝕄) :
    part m 3 c s ⊢ iprop((part m 3 c s -∗ Q (blkOf m s b)) -∗ WP c (loadBlk kvM scM o ib o1 ib1 o2 ib2) Q) := by
  subst ho ho1 ho2
  unfold loadBlk part kvP scP
  simp only [Prog.lift, Prog.bind_op, Prog.bind_ret, Prog.pure_eq_ret]
  have key : (⟨kvM.view.readAt (Elt F) (Rect.unit (s := S8x2x256x512) ![s.val, b.val, 0, 0] S1x1x256x512.size ib).toLoadRect (kvAll m),
      scM.view.readAt (Elt F) (Rect.unit (s := S8x2x2x256) ![s.val, (0 : Fin 2).val, b.val, 0] S1x1x1x256.size ib1).toLoadRect (scAll m),
      scM.view.readAt (Elt F) (Rect.unit (s := S8x2x2x256) ![s.val, (1 : Fin 2).val, b.val, 0] S1x1x1x256.size ib2).toLoadRect (scAll m)⟩ : Blk F) = blkOf m s b := by
    rw [kv_load m s b ib, sc_load m s 0 b ib1, sc_load m s 1 b ib2]; rfl
  rw [← key]
  iintro ⟨Ha, Hb⟩ Hk
  iapply (wp_load 𝒱₀ (c : Thread nD τ) none Set.univ (m := kvM) (kv_load_set s b ib)) $$ Ha; iintro Ha
  iapply (wp_load 𝒱₀ (c : Thread nD τ) none Set.univ (m := scM) (sc_load_set s 0 b ib1)) $$ Hb; iintro Hb
  iapply (wp_load 𝒱₀ (c : Thread nD τ) none Set.univ (m := scM) (sc_load_set s 1 b ib2)) $$ Hb; iintro Hb
  rw [wp_ret]
  imodintro
  iapply Hk
  isplitl [Ha] <;> iassumption

/-! ## Quantising -/

abbrev kM : Memref sig .tc .vmem S2x256x4x64 .f32 := Memref.whole cc0_stg2_0
abbrev vM : Memref sig .tc .vmem S2x256x4x64 .f32 := Memref.whole cc0_stg3_0
theorem hz4 : (![0, 0, 0, 0] : Fin 4 → Nat) = fun _ => 0 := funext fun a => by fin_cases a <;> rfl

theorem kv_store_set' (c : Dev nD) (j : Nat) (o : Fin 4 → Nat) (ib) (ho : o = ![c.val, 0, 0, j]) :
    ((kvM.access (Rect.unit (s := S8x2x256x512) o S1x2x256x256.size ib)).setOn Finset.univ : Finset S8x2x256x512.Idx) ⊆ kvSet c := by
  subst ho; exact kv_store_set c j ib
theorem sc_store_set' (c : Dev nD) (j : Nat) (o : Fin 4 → Nat) (ib) (ho : o = ![c.val, j, 0, 0]) :
    ((scM.access (Rect.unit (s := S8x2x2x256) o S1x1x2x256.size ib)).setOn Finset.univ : Finset S8x2x2x256.Idx) ⊆ scSet c := by
  subst ho; exact sc_store_set c j ib
theorem kv_read_set (c : Dev nD) (j : Nat) (o : Fin 4 → Nat) (ib) (ho : o = ![c.val, 0, 0, j]) :
    (kvM.view.setOn (Rect.unit (s := S8x2x256x512) o S1x2x256x256.size ib).toLoadRect.set : Finset S8x2x256x512.Idx) ⊆ kvSet c := by
  subst ho
  intro i hi
  obtain ⟨x, hx, rfl⟩ := Finset.mem_map.mp hi
  have := (Rect.mem_set_unit.mp hx) 0
  refine Finset.mem_filter.mpr ⟨Finset.mem_univ _, ?_⟩
  show (x 0).val = c.val
  simp at this; omega
theorem sc_read_set (c : Dev nD) (j : Nat) (o : Fin 4 → Nat) (ib) (ho : o = ![c.val, j, 0, 0]) :
    (scM.view.setOn (Rect.unit (s := S8x2x2x256) o S1x1x2x256.size ib).toLoadRect.set : Finset S8x2x2x256.Idx) ⊆ scSet c := by
  subst ho
  intro i hi
  obtain ⟨x, hx, rfl⟩ := Finset.mem_map.mp hi
  have := (Rect.mem_set_unit.mp hx) 0
  refine Finset.mem_filter.mpr ⟨Finset.mem_univ _, ?_⟩
  show (x 0).val = c.val
  simp at this; omega
theorem kv_stored' (c : Dev nD) (o1 o2 : Fin 4 → Nat) (ib1 ib2) (ho1 : o1 = ![c.val, 0, 0, 0]) (ho2 : o2 = ![c.val, 0, 0, 256]) (f : (cc0_scratch0 : Ref sig .tc).ty.Contents (Elt F)) :
    ∀ i ∈ kvSet c, (kvM.access (Rect.unit (s := S8x2x256x512) o2 S1x2x256x256.size ib2)).write (Elt F)
      ((kvM.access (Rect.unit (s := S8x2x256x512) o1 S1x2x256x256.size ib1)).write (Elt F) f (codesOut (stgK m c)) Finset.univ) (codesOut (stgV m c)) Finset.univ i = kvAll m i := by
  subst ho1 ho2; exact kv_stored m c ib1 ib2 f
theorem sc_stored' (c : Dev nD) (o1 o2 : Fin 4 → Nat) (ib1 ib2) (ho1 : o1 = ![c.val, 0, 0, 0]) (ho2 : o2 = ![c.val, 1, 0, 0]) (f : (cc0_scratch1 : Ref sig .tc).ty.Contents (Elt F)) :
    ∀ i ∈ scSet c, (scM.access (Rect.unit (s := S8x2x2x256) o2 S1x1x2x256.size ib2)).write (Elt F)
      ((scM.access (Rect.unit (s := S8x2x2x256) o1 S1x1x2x256.size ib1)).write (Elt F) f (topOut (stgK m c)) Finset.univ) (topOut (stgV m c)) Finset.univ i = scAll m i := by
  subst ho1 ho2; exact sc_stored m c ib1 ib2 f

theorem step_quantise (c : Dev nD) (h6 : (kvM : Memref sig .tc .vmem S8x2x256x512 .i8).IsWhole) (Q : PUnit → sProp 𝕄) :
    iprop((((c : Thread nD τ).loc cc0_stg2_0) ↦{fullShare} stgK m c) ∗ (((c : Thread nD τ).loc cc0_stg3_0) ↦{fullShare} stgV m c) ∗ land c c)
      ⊢ iprop((((((c : Thread nD τ).loc cc0_stg2_0) ↦{fullShare} stgK m c) ∗ (((c : Thread nD τ).loc cc0_stg3_0) ↦{fullShare} stgV m c) ∗ slot m c c) -∗ Q ⟨⟩)
          -∗ WP c (quantise kM vM kvM h6 scM c) Q) := by
  unfold quantise land slot kvP scP
  have e1 : (kM.view.readAt (Elt F) (Rect.unit (s := S2x256x4x64) ![0, 0, 0, 0] S2x256x4x64.size inb_S2x256x4x64_S2x256x4x64_0_0_0_0).toLoadRect (stgK m c) : Vec F S2x256x4x64 .f32) = stgK m c :=
    Memref.readAt_unit_zero (Elt F) cc0_stg2_0 hz4 _ _
  have e2 : (vM.view.readAt (Elt F) (Rect.unit (s := S2x256x4x64) ![0, 0, 0, 0] S2x256x4x64.size inb_S2x256x4x64_S2x256x4x64_0_0_0_0).toLoadRect (stgV m c) : Vec F S2x256x4x64 .f32) = stgV m c :=
    Memref.readAt_unit_zero (Elt F) cc0_stg3_0 hz4 _ _
  simp only [Prog.lift, Prog.bind_op, Prog.bind_ret, Prog.pure_eq_ret]
  iintro ⟨Hk, Hv, ⟨%f, Ha⟩, ⟨%g, Hb⟩⟩ Hw
  iapply (wp_load 𝒱₀ (c : Thread nD τ) none Set.univ (m := kM) (Finset.subset_univ _)) $$ Hk; iintro Hk
  rw [e1]
  iapply (wp_load 𝒱₀ (c : Thread nD τ) none Set.univ (m := kvM) (kv_read_set c 0 _ (k0_off1_inb c) (off1_eq c))) $$ Ha; iintro Ha
  iapply (wp_store 𝒱₀ (c : Thread nD τ) none Set.univ (m := kvM) (Mk := Finset.univ) (kv_store_set' c 0 _ (k0_off1_inb c) (off1_eq c))) $$ Ha; iintro Ha
  iapply (wp_load 𝒱₀ (c : Thread nD τ) none Set.univ (m := scM) (sc_read_set c 0 _ (k0_off2_inb c) (off2_eq c))) $$ Hb; iintro Hb
  iapply (wp_store 𝒱₀ (c : Thread nD τ) none Set.univ (m := scM) (Mk := Finset.univ) (sc_store_set' c 0 _ (k0_off2_inb c) (off2_eq c))) $$ Hb; iintro Hb
  iapply (wp_load 𝒱₀ (c : Thread nD τ) none Set.univ (m := vM) (Finset.subset_univ _)) $$ Hv; iintro Hv
  rw [e2]
  iapply (wp_load 𝒱₀ (c : Thread nD τ) none Set.univ (m := kvM) (kv_read_set c 256 _ (k0_off3_inb c) (off3_eq c))) $$ Ha; iintro Ha
  iapply (wp_store 𝒱₀ (c : Thread nD τ) none Set.univ (m := kvM) (Mk := Finset.univ) (kv_store_set' c 256 _ (k0_off3_inb c) (off3_eq c))) $$ Ha; iintro Ha
  iapply (wp_load 𝒱₀ (c : Thread nD τ) none Set.univ (m := scM) (sc_read_set c 1 _ (k0_off4_inb c) (off4_eq c))) $$ Hb; iintro Hb
  iapply (wp_store 𝒱₀ (c : Thread nD τ) none Set.univ (m := scM) (Mk := Finset.univ) (sc_store_set' c 1 _ (k0_off4_inb c) (off4_eq c))) $$ Hb; iintro Hb
  ihave Ha := (Entails.of_eq (pointsTo_congr (g := kvAll m) (kv_stored' m c _ _ (k0_off1_inb c) (k0_off3_inb c) (off1_eq c) (off3_eq c) f))) $$ Ha
  ihave Hb := (Entails.of_eq (pointsTo_congr (g := scAll m) (sc_stored' m c _ _ (k0_off2_inb c) (k0_off4_inb c) (off2_eq c) (off4_eq c) g))) $$ Hb
  rw [wp_ret]
  imodintro
  iapply Hw
  isplitl [Hk]; · iexact Hk
  isplitl [Hv]; · iexact Hv
  isplitl [Ha] <;> iassumption

/-! ## The handshake -/

theorem step_signal (c : Dev nD) (j : Fin 3) (js : List (Fin 3)) (n : Dev nD) (hn : n = inb j c) (Q : PUnit → sProp 𝕄) :
    iprop(records m K ∗ owing c (Ob c (j :: js)) ∗ dutyTok ER (barCell (inb j c)) 0 j ∗ barPay j (inb j c))
      ⊢ iprop((owing c (Ob c js) -∗ Q ⟨⟩) -∗ WP c (semSignalWord n barS 1#32) Q) := by
  subst hn
  unfold owing semSignalWord
  iintro ⟨#HR, ⟨%W, HO⟩, Ht, Hp⟩ Hk
  ihave #HI := (inv_at m K (inb j c, none)) $$ HR
  ihave #HRe := (reached_at m K (inb j c, none)) $$ HR
  iapply (Rounds.wp_signal 𝒱₀ ER (ringRd m) (c : Thread nD τ) none (dst := (inb j c : Thread nD τ)) (κ := K (inb j c, none))
      (d := j) (by rw [duties_bar]; exact Finset.mem_univ _) ((amount_bar m (inb j c) j).trans (by decide)) () (Ob c js) rfl (W := W)) $$ [HO Ht Hp]
  · isplitr; · iexact HI
    isplitl [HO]; · iexact HO
    isplitl [Ht]; · iexact Ht
    isplitl [Hp]; · rw [payload_bar]; iexact Hp
    iexact HRe
  iintro HO
  rw [wp_ret]; imodintro
  iapply Hk; iexists W; iexact HO

theorem hop_pos (t : Fin 7) : 1 < 2 + hop t := by omega

theorem step_barwait (c : Dev nD) (Q : PUnit → sProp 𝕄) :
    iprop(records m K ∗ levAts L lv ∗ cred (tallyAt (barCell c) () 3) ∗ atPos ER (barCell c) 0 ∅ 0 ∗ owing c (Ow c all7))
      ⊢ iprop(((owing c (Ow c all7) ∗ semVal (barCell c) 0 ∗ barPay 0 c ∗ barPay 1 c ∗ barPay 2 c) -∗ Q ⟨⟩) -∗ WP c (semWaitWord barS 3#32) Q) := by
  unfold owing semWaitWord
  iintro ⟨#HR, #HL, Hc, Hat, ⟨%W, HO⟩⟩ Hk
  ihave #HI := (inv_at m K (c, none)) $$ HR
  iapply (Rounds.wp_wait_rest_token 𝒱₀ ER (ringRd m) (c : Thread nD τ) none (κ := K (c, none))
      (wpE_semWait_eq 𝒱₀ (c : Thread nD τ) none Set.univ) (Set.mem_univ _) () (O := Ow c all7) (W := W) (R := 0) (m := 0) (T := ∅)
      (by rw [expect_bar]; decide)) $$ [Hc HO Hat]
  · isplitr; · iexact HI
    isplitl [Hc]; · iexact Hc
    isplitl [HO]; · iexact HO
    isplitr; · iapply (mayWait c (.reg barS) all7 1 (le_refl _) fun t _ => hop_pos t); iexact HL
    iexact Hat
  iintro ⟨HO, Hat, -, Hpay⟩
  ihave Hpay := (Entails.of_eq (rest_bar m c)) $$ Hpay
  imod (Rounds.cell_close ER (ringRd m) (Set.mem_univ (K (c, none))) (fun h => h) (R := 0 + 1) (duties_later m (barCell c))) $$ [Hat] with Hz
  · isplitr; · iexact HI
    iexact Hat
  rw [wp_ret]; imodintro
  iapply Hk
  isplitl [HO]; · iexists _; iexact HO
  isplitl [Hz] <;> iassumption

theorem barPay_inb (c : Dev nD) :
    (iprop(land (F := F) c (got 0 c) ∗ land c (got 3 c)) ⊢ barPay 0 (inb 0 c)) ∧ (iprop(land (F := F) c (got 1 c) ∗ land c (got 4 c)) ⊢ barPay 1 (inb 1 c))
      ∧ (iprop(land (F := F) c (got 2 c) ∗ land c (got 5 c) ∗ land c (got 6 c)) ⊢ barPay 2 (inb 2 c)) := by
  refine ⟨?_, ?_, ?_⟩ <;> unfold barPay <;> dsimp only <;> rw [nbr_inb]
  · rw [show sent 0 (inb 0 c) = got 0 c from sent_inb 0 c, show sent 3 (inb 0 c) = got 3 c from sent_inb 3 c]
  · rw [show sent 1 (inb 1 c) = got 1 c from sent_inb 1 c, show sent 4 (inb 1 c) = got 4 c from sent_inb 4 c]
  · rw [show sent 2 (inb 2 c) = got 2 c from sent_inb 2 c, show sent 5 (inb 2 c) = got 5 c from sent_inb 5 c, show sent 6 (inb 2 c) = got 6 c from sent_inb 6 c]

theorem step_shake (c : Dev nD) (Q : PUnit → sProp 𝕄) :
    iprop(records m K ∗ levAts L lv ∗ cred (tallyAt (barCell c) () 3) ∗ atPos ER (barCell c) 0 ∅ 0 ∗ owing c (O₀ c)
        ∗ (bigSep Finset.univ fun j : Fin 3 => dutyTok ER (barCell (inb j c)) 0 j) ∗ bigSep Finset.univ fun t => land c (got t c))
      ⊢ iprop(((owing c (Ow c all7) ∗ semVal (barCell c) 0 ∗ bigSep Finset.univ fun t => land (nbr (dir t) c) (sent t c)) -∗ Q ⟨⟩) -∗ WP c (shake c) Q) := by
  unfold shake O₀ WP
  rw [wp_bind, wp_bind, wp_bind, bigSep_fin3, bigSep_fin7, bigSep_fin7]
  iintro ⟨#HR, #HL, Hc, Hat, HO, ⟨T0, T1, T2⟩, L0, L1, L2, L3, L4, L5, L6⟩ Hk
  iapply (step_signal m K c 0 [1, 2] _ (dev1_eq c)) $$ [HO T0 L0 L3]
  · isplitr; · iexact HR
    isplitl [HO]; · iexact HO
    isplitl [T0]; · iexact T0
    iapply (barPay_inb c).1
    isplitl [L0] <;> iassumption
  iintro HO
  iapply (step_signal m K c 1 [2] _ (dev2_eq c)) $$ [HO T1 L1 L4]
  · isplitr; · iexact HR
    isplitl [HO]; · iexact HO
    isplitl [T1]; · iexact T1
    iapply (barPay_inb c).2.1
    isplitl [L1] <;> iassumption
  iintro HO
  iapply (step_signal m K c 2 [] _ (dev3_eq c)) $$ [HO T2 L2 L5 L6]
  · isplitr; · iexact HR
    isplitl [HO]; · iexact HO
    isplitl [T2]; · iexact T2
    iapply (barPay_inb c).2.2
    isplitl [L2]; · iexact L2
    isplitl [L5] <;> iassumption
  iintro HO
  iapply (step_barwait m K c) $$ [Hc Hat HO]
  · isplitr; · iexact HR
    isplitr; · iexact HL
    isplitl [Hc]; · iexact Hc
    isplitl [Hat]; · iexact Hat
    iexact HO
  unfold barPay
  iintro ⟨HO, Hz, ⟨L0, L3⟩, ⟨L1, L4⟩, L2, L5, L6⟩
  iapply Hk
  isplitl [HO]; · iexact HO
  isplitl [Hz]; · iexact Hz
  isplitl [L0]; · iexact L0
  isplitl [L1]; · iexact L1
  isplitl [L2]; · iexact L2
  isplitl [L3]; · iexact L3
  isplitl [L4]; · iexact L4
  isplitl [L5]; · iexact L5
  iexact L6

/-! ## The result -/

abbrev xM : Memref sig .tc .vmem S2x256x512 .f32 := Memref.whole cc0_stg0_0
abbrev wqM : Memref sig .tc .vmem S512x256 .f32 := Memref.whole cc0_stg1_0
abbrev woM : Memref sig .tc .vmem S256x512 .f32 := Memref.whole cc0_stg4_0
abbrev oM : Memref sig .tc .vmem S2x256x512 .f32 := Memref.whole cc0_stg5_0
theorem hz2 : (![0, 0] : Fin 2 → Nat) = fun _ => 0 := funext fun a => by fin_cases a <;> rfl

/-- Batch `b` of the queries' input. -/
def xAt (c : Dev nD) (b : Fin 2) : Vec F S1x256x512 .f32 := fun x => stgX m c (i3 b (x 1 : Fin 256) (x 2 : Fin 512))
def chunksAt (c : Dev nD) (b : Fin 2) : Chunks F :=
  chunks c (blkOf m c b) (blkOf m (got 0 c) b) (blkOf m (got 1 c) b) (blkOf m (got 2 c) b) (blkOf m (got 3 c) b) (blkOf m (got 4 c) b) (blkOf m (got 5 c) b) (blkOf m (got 6 c) b)
def outRow (c : Dev nD) (b : Fin 2) : FVec F S1x256x512 .f32 := outBlock (stgWq m c) (xAt m c b) (stgWo m c) c (chunksAt m c b)
def outAt (c : Dev nD) : (cc0_stg5_0 : Ref sig .tc).ty.Contents (Elt F) :=
  fun (i : S2x256x512.Idx) => outRow m c (i 0 : Fin 2) (i3 (0 : Fin 1) (i 1 : Fin 256) (i 2 : Fin 512))

theorem x_read (c : Dev nD) (b : Fin 2) (ib) :
    (xM.view.readAt (Elt F) (Rect.unit (s := S2x256x512) ![b.val, 0, 0] S1x256x512.size ib).toLoadRect (stgX m c) : Vec F S1x256x512 .f32) = xAt m c b := by
  funext x
  have h0 : (x 0).val < 1 := (x 0).isLt
  unfold xAt
  show stgX m c ((Rect.unit (s := S2x256x512) ![b.val, 0, 0] S1x256x512.size ib).emb x) = _
  congr 1
  funext a; refine Fin.ext ?_
  match a with
  | 0 => show b.val + 1 * (x 0).val = b.val; omega
  | 1 => show 0 + 1 * (x 1).val = (x 1).val; omega
  | 2 => show 0 + 1 * (x 2).val = (x 2).val; omega

theorem out_stored (c : Dev nD) (ib0 ib1) (f : (cc0_stg5_0 : Ref sig .tc).ty.Contents (Elt F)) :
    (oM.access (Rect.unit (s := S2x256x512) ![1, 0, 0] S1x256x512.size ib1)).write (Elt F)
      ((oM.access (Rect.unit (s := S2x256x512) ![0, 0, 0] S1x256x512.size ib0)).write (Elt F) f (outRow m c 0) Finset.univ) (outRow m c 1) Finset.univ = outAt m c := by
  funext (i : S2x256x512.Idx)
  have h0 : (i 0).val < 2 := (i 0).isLt
  by_cases h : (i 0).val = 0
  · rw [write_out (b := cc0_stg5_0) (Rect.unit (s := S2x256x512) ![1, 0, 0] S1x256x512.size ib1) _ _ i (fun hm => by have := (Rect.mem_set_unit.mp hm) 0; simp at this; omega)]
    have e : i = (Rect.unit (s := S2x256x512) ![0, 0, 0] S1x256x512.size ib0).emb (i3 (0 : Fin 1) (i 1 : Fin 256) (i 2 : Fin 512)) := by
      funext a; refine Fin.ext ?_
      fin_cases a <;> simp [i3] <;> omega
    conv_lhs => rw [e]
    rw [write_in (b := cc0_stg5_0)]
    show _ = outRow m c (i 0 : Fin 2) (i3 (0 : Fin 1) (i 1 : Fin 256) (i 2 : Fin 512))
    rw [@Fin.ext 2 (i 0) 0 h]
  · have e : i = (Rect.unit (s := S2x256x512) ![1, 0, 0] S1x256x512.size ib1).emb (i3 (0 : Fin 1) (i 1 : Fin 256) (i 2 : Fin 512)) := by
      funext a; refine Fin.ext ?_
      fin_cases a <;> simp [i3] <;> omega
    conv_lhs => rw [e]
    rw [write_in (b := cc0_stg5_0)]
    show _ = outRow m c (i 0 : Fin 2) (i3 (0 : Fin 1) (i 1 : Fin 256) (i 2 : Fin 512))
    rw [@Fin.ext 2 (i 0) 1 (by show (i 0).val = 1; omega)]

theorem step_finish (c : Dev nD) (Q : PUnit → sProp 𝕄) :
    iprop((((c : Thread nD τ).loc cc0_stg4_0) ↦{fullShare} stgWo m c) ∗ ∃ f, ((c : Thread nD τ).loc cc0_stg5_0) ↦{fullShare} f)
      ⊢ iprop((((((c : Thread nD τ).loc cc0_stg4_0) ↦{fullShare} stgWo m c) ∗ ((c : Thread nD τ).loc cc0_stg5_0) ↦{fullShare} outAt m c) -∗ Q ⟨⟩)
          -∗ WP c (finish woM oM c (stgWq m c) (xAt m c 0) (xAt m c 1) (chunksAt m c 0) (chunksAt m c 1)) Q) := by
  unfold finish
  have e0 (b : Fin 2) : outBlock (stgWq m c) (xAt m c b) (stgWo m c) c (chunksAt m c b) = outRow m c b := rfl
  have e1 : (woM.view.readAt (Elt F) (Rect.unit (s := S256x512) ![0, 0] S256x512.size inb_S256x512_S256x512_0_0).toLoadRect (stgWo m c) : Vec F S256x512 .f32) = stgWo m c :=
    Memref.readAt_unit_zero (Elt F) cc0_stg4_0 hz2 _ _
  simp only [Prog.lift, Prog.bind_op, Prog.bind_ret, Prog.pure_eq_ret]
  iintro ⟨Hw, ⟨%f, Ho⟩⟩ Hk
  iapply (wp_load 𝒱₀ (c : Thread nD τ) none Set.univ (m := woM) (Finset.subset_univ _)) $$ Hw; iintro Hw
  rw [e1, e0]
  iapply (wp_load 𝒱₀ (c : Thread nD τ) none Set.univ (m := oM) (Finset.subset_univ _)) $$ Ho; iintro Ho
  iapply (wp_store 𝒱₀ (c : Thread nD τ) none Set.univ (m := oM) (r := Rect.unit (s := S2x256x512) ![0, 0, 0] S1x256x512.size inb_S2x256x512_S1x256x512_0_0_0) (Mk := Finset.univ) (Finset.subset_univ _)) $$ Ho; iintro Ho
  iapply (wp_load 𝒱₀ (c : Thread nD τ) none Set.univ (m := woM) (Finset.subset_univ _)) $$ Hw; iintro Hw
  rw [e1, e0]
  iapply (wp_load 𝒱₀ (c : Thread nD τ) none Set.univ (m := oM) (Finset.subset_univ _)) $$ Ho; iintro Ho
  iapply (wp_store 𝒱₀ (c : Thread nD τ) none Set.univ (m := oM) (r := Rect.unit (s := S2x256x512) ![1, 0, 0] S1x256x512.size inb_S2x256x512_S1x256x512_1_0_0) (Mk := Finset.univ) (Finset.subset_univ _)) $$ Ho; iintro Ho
  ihave Ho := (Entails.of_eq (congrArg (fun g => (((c : Thread nD τ).loc cc0_stg5_0) ↦{fullShare} g : sProp 𝕄)) (out_stored m c inb_S2x256x512_S1x256x512_0_0_0 inb_S2x256x512_S1x256x512_1_0_0 f))) $$ Ho
  rw [wp_ret]
  imodintro
  iapply Hk
  isplitl [Hw] <;> iassumption

end Cert.KernelIdeal.Prg

end
-- ==== Proof.BodyIdeal.lean ====
/- The body from its start to its end, phase by phase. -/
module

public import proofs.«01_k».proof.Proof.StepsIdeal

@[expose] public section

set_option maxRecDepth 16384

noncomputable section

namespace Cert.KernelIdeal.Prg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Option (Fin 7 × Fin 4) → ℕ)

/-! ## Phases -/

/-- What a transfer starts from, what its waits start from, and what they return. -/
abbrev toSend (c : Dev nD) (t : Fin 7) : sProp 𝕄 := iprop(part m (lend t) c (sent t c) ∗ land (nbr (dir t) c) (sent t c) ∗ pay c t)
abbrev toWait (c : Dev nD) (t : Fin 7) : sProp 𝕄 := iprop(scrd c t ∗ crd c t ∗ pos c t)
abbrev back (c : Dev nD) (t : Fin 7) : sProp 𝕄 := iprop(zer c t ∗ part m (lend t) c (sent t c) ∗ slot m c (got t c))

theorem h6kv : (kvM : Memref sig .tc .vmem S8x2x256x512 .i8).IsWhole := Memref.isWhole_whole _

theorem ph_sends0 (c : Dev nD) (Q : PUnit → sProp 𝕄) :
    iprop(records m K ∗ toSend m c 0 ∗ toSend m c 1 ∗ toSend m c 2 ∗ owing c (Ow c all7))
      ⊢ iprop(((scrd c 0 ∗ scrd c 1 ∗ scrd c 2 ∗ owing c (Ow c [3, 4, 5, 6])) -∗ Q ⟨⟩)
          -∗ WP c (sends0 kvM h6kv scM cc0_scratch2 cc0_scratch3 cc0_scratch4 cc0_scratch5 cc0_scratch6 cc0_scratch7 cc0_scratch8 cc0_scratch9 cc0_scratch10 cc0_scratch11 cc0_scratch12 cc0_scratch13 c) Q) := by
  unfold sends0 toSend WP
  rw [wp_bind, wp_bind]
  iintro ⟨#HR, ⟨a0, b0, c0⟩, ⟨a1, b1, c1⟩, ⟨a2, b2, c2⟩, HO⟩ Hk
  iapply (step_send m K c 0 [1, 2, 3, 4, 5, 6] _ _ _ (dev4_eq c) (dev5_eq c) _ _ _ (off5_eq c) _ _ (off6_eq c) _ _ _ _ rfl rfl rfl rfl) $$ [a0 b0 c0 HO]
  · isplitr; · iexact HR
    isplitl [a0]; · iexact a0
    isplitl [b0]; · iexact b0
    isplitl [c0]; · iexact c0
    iexact HO
  iintro ⟨s0, HO⟩
  iapply (step_send m K c 1 [2, 3, 4, 5, 6] _ _ _ (dev6_eq c) (dev7_eq c) _ _ _ (off5_eq c) _ _ (off6_eq c) _ _ _ _ rfl rfl rfl rfl) $$ [a1 b1 c1 HO]
  · isplitr; · iexact HR
    isplitl [a1]; · iexact a1
    isplitl [b1]; · iexact b1
    isplitl [c1]; · iexact c1
    iexact HO
  iintro ⟨s1, HO⟩
  iapply (step_send m K c 2 [3, 4, 5, 6] _ _ _ (dev8_eq c) (dev9_eq c) _ _ _ (off5_eq c) _ _ (off6_eq c) _ _ _ _ rfl rfl rfl rfl) $$ [a2 b2 c2 HO]
  · isplitr; · iexact HR
    isplitl [a2]; · iexact a2
    isplitl [b2]; · iexact b2
    isplitl [c2]; · iexact c2
    iexact HO
  iintro ⟨s2, HO⟩
  iapply Hk
  isplitl [s0]; · iexact s0
  isplitl [s1]; · iexact s1
  isplitl [s2]; · iexact s2
  iexact HO

theorem ph_sends1 (c : Dev nD) (Q : PUnit → sProp 𝕄) :
    iprop(records m K ∗ toSend m c 3 ∗ toSend m c 4 ∗ toSend m c 5 ∗ owing c (Ow c [3, 4, 5, 6]))
      ⊢ iprop(((scrd c 3 ∗ scrd c 4 ∗ scrd c 5 ∗ owing c (Ow c [6])) -∗ Q ⟨⟩)
          -∗ WP c (sends1 kvM h6kv scM cc0_scratch2 cc0_scratch3 cc0_scratch4 cc0_scratch5 cc0_scratch6 cc0_scratch7 cc0_scratch8 cc0_scratch9 cc0_scratch10 cc0_scratch11 cc0_scratch12 cc0_scratch13 c) Q) := by
  unfold sends1 toSend WP
  rw [wp_bind, wp_bind]
  iintro ⟨#HR, ⟨a0, b0, c0⟩, ⟨a1, b1, c1⟩, ⟨a2, b2, c2⟩, HO⟩ Hk
  iapply (step_send m K c 3 [4, 5, 6] _ _ _ (dev10_eq c) (dev11_eq c) _ _ _ (off13_m1 c) _ _ (off14_m1 c) _ _ _ _ rfl rfl rfl rfl) $$ [a0 b0 c0 HO]
  · isplitr; · iexact HR
    isplitl [a0]; · iexact a0
    isplitl [b0]; · iexact b0
    isplitl [c0]; · iexact c0
    iexact HO
  iintro ⟨s0, HO⟩
  iapply (step_send m K c 4 [5, 6] _ _ _ (dev12_eq c) (dev13_eq c) _ _ _ (off13_p1 c) _ _ (off14_p1 c) _ _ _ _ rfl rfl rfl rfl) $$ [a1 b1 c1 HO]
  · isplitr; · iexact HR
    isplitl [a1]; · iexact a1
    isplitl [b1]; · iexact b1
    isplitl [c1]; · iexact c1
    iexact HO
  iintro ⟨s1, HO⟩
  iapply (step_send m K c 5 [6] _ _ _ (dev14_eq c) (dev15_eq c) _ _ _ (off15_1 c) _ _ (off16_1 c) _ _ _ _ rfl rfl rfl rfl) $$ [a2 b2 c2 HO]
  · isplitr; · iexact HR
    isplitl [a2]; · iexact a2
    isplitl [b2]; · iexact b2
    isplitl [c2]; · iexact c2
    iexact HO
  iintro ⟨s2, HO⟩
  iapply Hk
  isplitl [s0]; · iexact s0
  isplitl [s1]; · iexact s1
  isplitl [s2]; · iexact s2
  iexact HO

theorem ph_sends2 (c : Dev nD) (Q : PUnit → sProp 𝕄) :
    iprop(records m K ∗ toSend m c 6 ∗ owing c (Ow c [6]))
      ⊢ iprop(((scrd c 6 ∗ owing c (Ow c [])) -∗ Q ⟨⟩) -∗ WP c (sends2 kvM h6kv scM cc0_scratch6 cc0_scratch7 cc0_scratch12 cc0_scratch13 c) Q) := by
  unfold sends2 toSend
  iintro ⟨#HR, ⟨a0, b0, c0⟩, HO⟩ Hk
  iapply (step_send m K c 6 [] _ _ _ (dev16_eq c) (dev17_eq c) _ _ _ (off15_2 c) _ _ (off16_2 c) _ _ _ _ rfl rfl rfl rfl) $$ [a0 b0 c0 HO]
  · isplitr; · iexact HR
    isplitl [a0]; · iexact a0
    isplitl [b0]; · iexact b0
    isplitl [c0]; · iexact c0
    iexact HO
  iintro H
  iapply Hk; iexact H

theorem step_back (c : Dev nD) (t : Fin 7) (ts : List (Fin 7)) (hh : ∀ t' ∈ ts, hop t < hop t')
    (o : Fin 4 → Nat) (ib : ∀ a, o a + S1x2x256x512.size a ≤ S8x2x256x512.size a) (ww : WW o ib)
    (o' : Fin 4 → Nat) (ib' : ∀ a, o' a + S1x2x2x256.size a ≤ S8x2x2x256.size a)
    (s0 s1 s2 s3 : DmaSem sig) (h0 : s0 = dsem t 0) (h1 : s1 = dsem t 1) (h2 : s2 = dsem t 2) (h3 : s3 = dsem t 3) (Q : PUnit → sProp 𝕄) :
    iprop(records m K ∗ levAts L lv ∗ toWait c t ∗ owing c (Ow c ts))
      ⊢ iprop(((owing c (Ow c ts) ∗ back m c t) -∗ Q ⟨⟩) -∗ WP c (waitPair kvM h6kv scM o ib ww o' ib' s0 s1 s2 s3) Q) := by
  unfold toWait back
  iintro ⟨#HR, #HL, ⟨A, B, C⟩, HO⟩ Hk
  iapply (step_waits m K c t ts hh _ o ib ww o' ib' s0 s1 s2 s3 h0 h1 h2 h3) $$ [A B C HO]
  · isplitr; · iexact HR
    isplitr; · iexact HL
    isplitl [A]; · iexact A
    isplitl [B]; · iexact B
    isplitl [C]; · iexact C
    iexact HO
  iintro H
  iapply Hk; iexact H

theorem ph_waits0 (c : Dev nD) (Q : PUnit → sProp 𝕄) :
    iprop(records m K ∗ levAts L lv ∗ toWait c 0 ∗ toWait c 1 ∗ toWait c 2 ∗ owing c (Ow c [3, 4, 5, 6]))
      ⊢ iprop(((owing c (Ow c [3, 4, 5, 6]) ∗ back m c 0 ∗ back m c 1 ∗ back m c 2) -∗ Q ⟨⟩)
          -∗ WP c (waits0 kvM h6kv scM cc0_scratch2 cc0_scratch3 cc0_scratch4 cc0_scratch5 cc0_scratch6 cc0_scratch7 cc0_scratch8 cc0_scratch9 cc0_scratch10 cc0_scratch11 cc0_scratch12 cc0_scratch13 c) Q) := by
  unfold waits0 WP
  rw [wp_bind, wp_bind]
  iintro ⟨#HR, #HL, a0, a1, a2, HO⟩ Hk
  iapply (step_back m K c 0 [3, 4, 5, 6] (by decide) _ _ _ _ _ _ _ _ _ rfl rfl rfl rfl) $$ [a0 HO]
  · isplitr; · iexact HR
    isplitr; · iexact HL
    isplitl [a0] <;> iassumption
  iintro ⟨HO, b0⟩
  iapply (step_back m K c 1 [3, 4, 5, 6] (by decide) _ _ _ _ _ _ _ _ _ rfl rfl rfl rfl) $$ [a1 HO]
  · isplitr; · iexact HR
    isplitr; · iexact HL
    isplitl [a1] <;> iassumption
  iintro ⟨HO, b1⟩
  iapply (step_back m K c 2 [3, 4, 5, 6] (by decide) _ _ _ _ _ _ _ _ _ rfl rfl rfl rfl) $$ [a2 HO]
  · isplitr; · iexact HR
    isplitr; · iexact HL
    isplitl [a2]; · iexact a2
    iexact HO
  iintro ⟨HO, b2⟩
  iapply Hk
  isplitl [HO]; · iexact HO
  isplitl [b0]; · iexact b0
  isplitl [b1] <;> iassumption

theorem ph_waits1 (c : Dev nD) (Q : PUnit → sProp 𝕄) :
    iprop(records m K ∗ levAts L lv ∗ toWait c 3 ∗ toWait c 4 ∗ toWait c 5 ∗ owing c (Ow c [6]))
      ⊢ iprop(((owing c (Ow c [6]) ∗ back m c 3 ∗ back m c 4 ∗ back m c 5) -∗ Q ⟨⟩)
          -∗ WP c (waits1 kvM h6kv scM cc0_scratch2 cc0_scratch3 cc0_scratch4 cc0_scratch5 cc0_scratch6 cc0_scratch7 cc0_scratch8 cc0_scratch9 cc0_scratch10 cc0_scratch11 cc0_scratch12 cc0_scratch13 c) Q) := by
  unfold waits1 WP
  rw [wp_bind, wp_bind]
  iintro ⟨#HR, #HL, a0, a1, a2, HO⟩ Hk
  iapply (step_back m K c 3 [6] (by decide) _ _ _ _ _ _ _ _ _ rfl rfl rfl rfl) $$ [a0 HO]
  · isplitr; · iexact HR
    isplitr; · iexact HL
    isplitl [a0] <;> iassumption
  iintro ⟨HO, b0⟩
  iapply (step_back m K c 4 [6] (by decide) _ _ _ _ _ _ _ _ _ rfl rfl rfl rfl) $$ [a1 HO]
  · isplitr; · iexact HR
    isplitr; · iexact HL
    isplitl [a1] <;> iassumption
  iintro ⟨HO, b1⟩
  iapply (step_back m K c 5 [6] (by decide) _ _ _ _ _ _ _ _ _ rfl rfl rfl rfl) $$ [a2 HO]
  · isplitr; · iexact HR
    isplitr; · iexact HL
    isplitl [a2]; · iexact a2
    iexact HO
  iintro ⟨HO, b2⟩
  iapply Hk
  isplitl [HO]; · iexact HO
  isplitl [b0]; · iexact b0
  isplitl [b1] <;> iassumption

theorem ph_waits2 (c : Dev nD) (Q : PUnit → sProp 𝕄) :
    iprop(records m K ∗ levAts L lv ∗ toWait c 6 ∗ owing c (Ow c []))
      ⊢ iprop(((owing c (Ow c []) ∗ back m c 6) -∗ Q ⟨⟩) -∗ WP c (waits2 kvM h6kv scM cc0_scratch6 cc0_scratch7 cc0_scratch12 cc0_scratch13 c) Q) := by
  unfold waits2
  iintro ⟨#HR, #HL, a0, HO⟩ Hk
  iapply (step_back m K c 6 [] (by decide) _ _ _ _ _ _ _ _ _ rfl rfl rfl rfl) $$ [a0 HO]
  · isplitr; · iexact HR
    isplitr; · iexact HL
    isplitl [a0] <;> iassumption
  iintro H
  iapply Hk; iexact H

theorem ph_loadOwn (c : Dev nD) (Q : Blk F × Blk F → sProp 𝕄) :
    part m 3 c c ⊢ iprop((part m 3 c c -∗ Q (blkOf m c 0, blkOf m c 1)) -∗ WP c (loadOwn kvM scM c) Q) := by
  unfold loadOwn WP
  rw [wp_bind]
  iintro H Hk
  iapply (step_load m c c 0 _ _ (off7_eq c) _ _ (off8_eq c) _ _ (off9_eq c)) $$ H; iintro H
  rw [wp_bind]
  iapply (step_load m c c 1 _ _ (off10_eq c) _ _ (off11_eq c) _ _ (off12_eq c)) $$ H; iintro H
  rw [Prog.pure_eq_ret, wp_ret]; imodintro
  iapply Hk; iexact H

theorem ph_loadCyc (c : Dev nD) (r : Fin 5) (s : Dev nD) (hs : cycSlot r c = s) (Q : Blk F × Blk F → sProp 𝕄) :
    part m 3 c s ⊢ iprop((part m 3 c s -∗ Q (blkOf m s 0, blkOf m s 1)) -∗ WP c (loadCyc kvM scM c r) Q) := by
  subst hs
  unfold loadCyc WP
  rw [wp_bind]
  iintro H Hk
  iapply (step_load m c (cycSlot r c) 0 _ _ (off17_eq c r) _ _ (off18_eq c r) _ _ (off19_eq c r)) $$ H; iintro H
  rw [wp_bind]
  iapply (step_load m c (cycSlot r c) 1 _ _ (off20_eq c r) _ _ (off21_eq c r) _ _ (off22_eq c r)) $$ H; iintro H
  rw [Prog.pure_eq_ret, wp_ret]; imodintro
  iapply Hk; iexact H

theorem ph_loadSel (c : Dev nD) (r : Fin 2) (s : Dev nD) (hs : selSlot r c = s) (Q : Blk F × Blk F → sProp 𝕄) :
    part m 3 c s ⊢ iprop((part m 3 c s -∗ Q (blkOf m s 0, blkOf m s 1)) -∗ WP c (loadSel kvM scM c r) Q) := by
  subst hs
  unfold loadSel WP
  rw [wp_bind]
  iintro H Hk
  iapply (step_load m c (selSlot r c) 0 _ _ (off23_eq c r) _ _ (off24_eq c r) _ _ (off25_eq c r)) $$ H; iintro H
  rw [wp_bind]
  iapply (step_load m c (selSlot r c) 1 _ _ (off26_eq c r) _ _ (off27_eq c r) _ _ (off28_eq c r)) $$ H; iintro H
  rw [Prog.pure_eq_ret, wp_ret]; imodintro
  iapply Hk; iexact H

/-! ## The chord's slot among the two that came by the ring -/

theorem pick5 (c : Dev nD) (Φ : Dev nD → sProp 𝕄) :
    iprop(Φ (got 0 c) ∗ Φ (got 1 c)) ⊢ iprop(Φ (sent 5 c) ∗ (Φ (sent 5 c) -∗ (Φ (got 0 c) ∗ Φ (got 1 c)))) := by
  unfold got sent pick; dsimp only
  split
  · iintro ⟨A, B⟩
    isplitl [A]; · iexact A
    iintro A; isplitl [A] <;> iassumption
  · iintro ⟨A, B⟩
    isplitl [B]; · iexact B
    iintro B; isplitl [A] <;> iassumption
theorem pick6 (c : Dev nD) (Φ : Dev nD → sProp 𝕄) :
    iprop(Φ (got 3 c) ∗ Φ (got 4 c)) ⊢ iprop(Φ (sent 6 c) ∗ (Φ (sent 6 c) -∗ (Φ (got 3 c) ∗ Φ (got 4 c)))) := by
  unfold got sent pick; dsimp only
  split
  · iintro ⟨A, B⟩
    isplitl [A]; · iexact A
    iintro A; isplitl [A] <;> iassumption
  · iintro ⟨A, B⟩
    isplitl [B]; · iexact B
    iintro B; isplitl [A] <;> iassumption

/-! ## What the body starts from and ends with -/

/-- The scratch buffers, whole, with any content. -/
def scratch (c : Dev nD) : sProp 𝕄 :=
  iprop((∃ f, ((c : Thread nD τ).loc cc0_scratch0) ↦{fullShare} f) ∗ (∃ f, ((c : Thread nD τ).loc cc0_scratch1) ↦{fullShare} f))
/-- The scratch buffers, whole, with every device's slot in its place. -/
def filled (c : Dev nD) : sProp 𝕄 :=
  iprop((((c : Thread nD τ).loc cc0_scratch0) ↦{fullShare} kvAll m) ∗ (((c : Thread nD τ).loc cc0_scratch1) ↦{fullShare} scAll m))

theorem land_intro (c s : Dev nD) (f : Buf (Elt F) ((c : Thread nD τ).loc cc0_scratch0)) (g : Buf (Elt F) ((c : Thread nD τ).loc cc0_scratch1)) :
    iprop(kvP c s fullShare f ∗ scP c s fullShare g) ⊢ (land c s : sProp 𝕄) := by
  unfold land
  iintro ⟨A, B⟩
  isplitl [A]
  · iexists f; iexact A
  · iexists g; iexact B

theorem scratch_land (c : Dev nD) : scratch (F := F) c ⊢ bigSep Finset.univ fun s : Dev nD => land c s := by
  unfold scratch
  iintro ⟨⟨%f, Hf⟩, ⟨%g, Hg⟩⟩
  ihave Hf := (Entails.of_eq (kv_slots c f)) $$ Hf
  ihave Hg := (Entails.of_eq (sc_slots c g)) $$ Hg
  have h : iprop((bigSep Finset.univ fun s : Dev nD => kvP c s fullShare f) ∗ (bigSep Finset.univ fun s : Dev nD => scP c s fullShare g))
      ⊢ (bigSep Finset.univ fun s : Dev nD => land c s : sProp 𝕄) := by
    rw [← bigSep_sep']
    exact bigSep_mono fun s _ => land_intro c s f g
  iapply h
  isplitl [Hf] <;> iassumption

theorem slots_filled (c : Dev nD) : (bigSep Finset.univ fun s : Dev nD => slot m c s) ⊢ filled m c := by
  unfold filled
  rw [kv_slots, sc_slots, ← bigSep_sep']
  unfold slot
  exact Entails.of_eq rfl

/-- The staged arguments, the results' buffer. -/
def ins (c : Dev nD) : sProp 𝕄 :=
  iprop((((c : Thread nD τ).loc cc0_stg0_0) ↦{fullShare} stgX m c) ∗ (((c : Thread nD τ).loc cc0_stg1_0) ↦{fullShare} stgWq m c)
    ∗ (((c : Thread nD τ).loc cc0_stg2_0) ↦{fullShare} stgK m c) ∗ (((c : Thread nD τ).loc cc0_stg3_0) ↦{fullShare} stgV m c)
    ∗ (((c : Thread nD τ).loc cc0_stg4_0) ↦{fullShare} stgWo m c))

/-- Every semaphore back at zero. -/
def zeros (c : Dev nD) : sProp 𝕄 := iprop(semVal (barCell c) 0 ∗ bigSep Finset.univ fun t : Fin 7 => zer c t)

def pre (c : Dev nD) : sProp 𝕄 :=
  iprop(records m K ∗ levAts L lv ∗ linear c ∗ creds c ∗ scratch c ∗ owing c (O₀ c) ∗ ins m c ∗ (∃ f, ((c : Thread nD τ).loc cc0_stg5_0) ↦{fullShare} f))
def post (c : Dev nD) : sProp 𝕄 :=
  iprop(filled m c ∗ zeros c ∗ owing c (Ow c []) ∗ ins m c ∗ (((c : Thread nD τ).loc cc0_stg5_0) ↦{fullShare} outAt m c))

/-! ## Reading the queries' side -/

theorem ph_wq (c : Dev nD) (Q : Vec F S512x256 .f32 → sProp 𝕄) :
    (((c : Thread nD τ).loc cc0_stg1_0) ↦{fullShare} stgWq m c)
      ⊢ iprop(((((c : Thread nD τ).loc cc0_stg1_0) ↦{fullShare} stgWq m c) -∗ Q (stgWq m c))
          -∗ WP c (Prog.lift (.load wqM (Rect.unit (s := S512x256) ![0, 0] S512x256.size inb_S512x256_S512x256_0_0).toLoadRect (View.loadsAt_vmem h_S512x256))) Q) := by
  have kwq : (wqM.view.readAt (Elt F) (Rect.unit (s := S512x256) ![0, 0] S512x256.size inb_S512x256_S512x256_0_0).toLoadRect (stgWq m c) : Vec F S512x256 .f32) = stgWq m c :=
    Memref.readAt_unit_zero (Elt F) cc0_stg1_0 hz2 _ _
  unfold WP
  simp only [Prog.lift]
  have e : iprop(((((c : Thread nD τ).loc cc0_stg1_0) ↦{fullShare} stgWq m c) -∗ Q (stgWq m c)))
      = iprop(((((c : Thread nD τ).loc cc0_stg1_0) ↦{fullShare} stgWq m c) -∗ Q (wqM.view.readAt (Elt F) (Rect.unit (s := S512x256) ![0, 0] S512x256.size inb_S512x256_S512x256_0_0).toLoadRect (stgWq m c)))) := by rw [kwq]
  rw [e]
  iintro H Hk
  iapply (wp_load 𝒱₀ (c : Thread nD τ) none Set.univ (m := wqM) (Finset.subset_univ _)) $$ H; iintro H
  rw [wp_ret]; imodintro
  iapply Hk; iexact H

theorem ph_x (c : Dev nD) (b : Fin 2) (o : Fin 3 → Nat) (ib : ∀ a, o a + S1x256x512.size a ≤ S2x256x512.size a) (ho : o = ![b.val, 0, 0]) (h)
    (Q : Vec F S1x256x512 .f32 → sProp 𝕄) :
    (((c : Thread nD τ).loc cc0_stg0_0) ↦{fullShare} stgX m c)
      ⊢ iprop(((((c : Thread nD τ).loc cc0_stg0_0) ↦{fullShare} stgX m c) -∗ Q (xAt m c b))
          -∗ WP c (Prog.lift (.load xM (Rect.unit (s := S2x256x512) o S1x256x512.size ib).toLoadRect h)) Q) := by
  subst ho
  unfold WP
  simp only [Prog.lift]
  rw [← x_read m c b ib]
  iintro H Hk
  iapply (wp_load 𝒱₀ (c : Thread nD τ) none Set.univ (m := xM) (Finset.subset_univ _)) $$ H; iintro H
  rw [wp_ret]; imodintro
  iapply Hk; iexact H

theorem mkWait (c : Dev nD) (t : Fin 7) : iprop(scrd c t ∗ crd c t ∗ pos c t) ⊢ (toWait c t : sProp 𝕄) := Entails.of_eq rfl
theorem mkSend (c : Dev nD) (t : Fin 7) : iprop(part m (lend t) c (sent t c) ∗ land (nbr (dir t) c) (sent t c) ∗ pay c t) ⊢ toSend m c t := Entails.of_eq rfl

set_option maxHeartbeats 4000000 in
theorem sound_body (c : Dev nD) (Q : PUnit → sProp 𝕄) :
    iprop(pre m K c ∗ (post m c -∗ Q ⟨⟩))
      ⊢ WP c (prog xM wqM kM vM woM oM kvM h6kv scM cc0_scratch2 cc0_scratch3 cc0_scratch4 cc0_scratch5 cc0_scratch6 cc0_scratch7 cc0_scratch8 cc0_scratch9 cc0_scratch10 cc0_scratch11 cc0_scratch12 cc0_scratch13) Q := by
  unfold pre post linear creds ins zeros
  simp only [bigSep_fin7]
  iintro ⟨⟨#HR, #HL, ⟨Hat, ⟨p0, p1, p2, p3, p4, p5, p6⟩, Htok, y0, y1, y2, y3, y4, y5, y6⟩, ⟨Hcb, c0, c1, c2, c3, c4, c5, c6⟩, Hscr, HO, ⟨Hx, Hwq, HK, HV, Hwo⟩, Hout⟩, Hk⟩
  unfold prog
  unfold WP
  rw [wp_bind]
  simp only [Prog.lift]
  rw [wp_deviceId, wp_ret]; imodintro
  ihave Hl := (scratch_land c) $$ Hscr
  ihave Hl := (Entails.of_eq (slots_eq c (fun s => land c s))) $$ Hl
  icases Hl with ⟨Hown, Hg⟩
  ihave Hgot := (Entails.of_eq (bigSep_fin7 (fun t => land c (got t c))).symm) $$ Hg
  rw [wp_bind]; iapply (step_quantise m c _) $$ [HK HV Hown]
  · isplitl [HK]; · iexact HK
    isplitl [HV] <;> iassumption
  iintro ⟨HK, HV, Hown⟩
  rw [wp_bind]; iapply (step_shake m K c) $$ [Hcb Hat HO Htok Hgot]
  · isplitr; · iexact HR
    isplitr; · iexact HL
    isplitl [Hcb]; · iexact Hcb
    isplitl [Hat]; · iexact Hat
    isplitl [HO]; · iexact HO
    isplitl [Htok]; · iexact Htok
    iexact Hgot
  iintro ⟨HO, Hz, Hland⟩
  ihave Hland := (Entails.of_eq (bigSep_fin7 _)) $$ Hland
  icases Hland with ⟨l0, l1, l2, l3, l4, l5, l6⟩
  ihave Hown := (slot_split m c c) $$ Hown; icases Hown with ⟨o0, o1, o2, o3⟩
  ihave S0 := (mkSend m c 0) $$ [o0 l0 y0]
  · isplitl [o0]; · iexact o0
    isplitl [l0] <;> iassumption
  ihave S1 := (mkSend m c 1) $$ [o1 l1 y1]
  · isplitl [o1]; · iexact o1
    isplitl [l1] <;> iassumption
  ihave S2 := (mkSend m c 2) $$ [o2 l2 y2]
  · isplitl [o2]; · iexact o2
    isplitl [l2] <;> iassumption
  rw [wp_bind]; iapply (ph_sends0 m K c) $$ [S0 S1 S2 HO]
  · isplitr; · iexact HR
    isplitl [S0]; · iexact S0
    isplitl [S1]; · iexact S1
    isplitl [S2]; · iexact S2
    iexact HO
  iintro ⟨s0, s1, s2, HO⟩
  rw [wp_bind]; iapply (ph_wq m c) $$ Hwq; iintro Hwq
  rw [wp_bind]; iapply (ph_x m c 0 _ _ rfl _) $$ Hx; iintro Hx
  rw [wp_bind]; iapply (ph_x m c 1 _ _ rfl _) $$ Hx; iintro Hx
  rw [wp_bind]; iapply (ph_loadOwn m c) $$ o3; iintro o3
  ihave w0 := (mkWait c 0) $$ [s0 c0 p0]
  · isplitl [s0]; · iexact s0
    isplitl [c0] <;> iassumption
  ihave w1 := (mkWait c 1) $$ [s1 c1 p1]
  · isplitl [s1]; · iexact s1
    isplitl [c1] <;> iassumption
  ihave w2 := (mkWait c 2) $$ [s2 c2 p2]
  · isplitl [s2]; · iexact s2
    isplitl [c2] <;> iassumption
  rw [wp_bind]; iapply (ph_waits0 m K c) $$ [w0 w1 w2 HO]
  · isplitr; · iexact HR
    isplitr; · iexact HL
    isplitl [w0]; · iexact w0
    isplitl [w1]; · iexact w1
    isplitl [w2]; · iexact w2
    iexact HO
  iintro ⟨HO, ⟨z0, o0, G0⟩, ⟨z1, o1, G1⟩, z2, o2, G2⟩
  ihave G0 := (slot_split m c (got 0 c)) $$ G0; icases G0 with ⟨a0, a1, a2, a3⟩
  ihave G1 := (slot_split m c (got 1 c)) $$ G1; icases G1 with ⟨b0, b1, b2, b3⟩
  ihave G2 := (slot_split m c (got 2 c)) $$ G2; icases G2 with ⟨d0, d1, d2, d3⟩
  ihave X := (pick5 c (fun s => part m (lend 5) c s)) $$ [a2 b2]
  · isplitl [a2]; · iexact a2
    iexact b2
  icases X with ⟨e5, X5⟩
  ihave S3 := (mkSend m c 3) $$ [a0 l3 y3]
  · isplitl [a0]; · iexact a0
    isplitl [l3] <;> iassumption
  ihave S4 := (mkSend m c 4) $$ [b1 l4 y4]
  · isplitl [b1]; · iexact b1
    isplitl [l4] <;> iassumption
  ihave S5 := (mkSend m c 5) $$ [e5 l5 y5]
  · isplitl [e5]; · iexact e5
    isplitl [l5] <;> iassumption
  rw [wp_bind]; iapply (ph_sends1 m K c) $$ [S3 S4 S5 HO]
  · isplitr; · iexact HR
    isplitl [S3]; · iexact S3
    isplitl [S4]; · iexact S4
    isplitl [S5]; · iexact S5
    iexact HO
  iintro ⟨s3, s4, s5, HO⟩
  rw [wp_bind]; iapply (ph_loadCyc m c 0 (got 0 c) rfl) $$ a3; iintro a3
  rw [wp_bind]; iapply (ph_loadCyc m c 1 (got 1 c) rfl) $$ b3; iintro b3
  rw [wp_bind]; iapply (ph_loadSel m c 0 (got 2 c) rfl) $$ d3; iintro d3
  ihave w3 := (mkWait c 3) $$ [s3 c3 p3]
  · isplitl [s3]; · iexact s3
    isplitl [c3] <;> iassumption
  ihave w4 := (mkWait c 4) $$ [s4 c4 p4]
  · isplitl [s4]; · iexact s4
    isplitl [c4] <;> iassumption
  ihave w5 := (mkWait c 5) $$ [s5 c5 p5]
  · isplitl [s5]; · iexact s5
    isplitl [c5] <;> iassumption
  rw [wp_bind]; iapply (ph_waits1 m K c) $$ [w3 w4 w5 HO]
  · isplitr; · iexact HR
    isplitr; · iexact HL
    isplitl [w3]; · iexact w3
    isplitl [w4]; · iexact w4
    isplitl [w5]; · iexact w5
    iexact HO
  iintro ⟨HO, ⟨z3, a0, G3⟩, ⟨z4, b1, G4⟩, z5, e5, G5⟩
  ihave X := X5 $$ e5; icases X with ⟨a2, b2⟩
  ihave G3 := (slot_split m c (got 3 c)) $$ G3; icases G3 with ⟨f0, f1, f2, f3⟩
  ihave G4 := (slot_split m c (got 4 c)) $$ G4; icases G4 with ⟨g0, g1, g2, g3⟩
  ihave G5 := (slot_split m c (got 5 c)) $$ G5; icases G5 with ⟨h0, h1, h2, h3⟩
  ihave X := (pick6 c (fun s => part m (lend 6) c s)) $$ [f2 g2]
  · isplitl [f2]; · iexact f2
    iexact g2
  icases X with ⟨e6, X6⟩
  ihave S6 := (mkSend m c 6) $$ [e6 l6 y6]
  · isplitl [e6]; · iexact e6
    isplitl [l6] <;> iassumption
  rw [wp_bind]; iapply (ph_sends2 m K c) $$ [S6 HO]
  · isplitr; · iexact HR
    isplitl [S6]; · iexact S6
    iexact HO
  iintro ⟨s6, HO⟩
  rw [wp_bind]; iapply (ph_loadCyc m c 2 (got 3 c) rfl) $$ f3; iintro f3
  rw [wp_bind]; iapply (ph_loadCyc m c 3 (got 4 c) rfl) $$ g3; iintro g3
  rw [wp_bind]; iapply (ph_loadCyc m c 4 (got 5 c) rfl) $$ h3; iintro h3
  ihave w6 := (mkWait c 6) $$ [s6 c6 p6]
  · isplitl [s6]; · iexact s6
    isplitl [c6] <;> iassumption
  rw [wp_bind]; iapply (ph_waits2 m K c) $$ [w6 HO]
  · isplitr; · iexact HR
    isplitr; · iexact HL
    isplitl [w6]; · iexact w6
    iexact HO
  iintro ⟨HO, z6, e6, G6⟩
  ihave X := X6 $$ e6; icases X with ⟨f2, g2⟩
  ihave G6 := (slot_split m c (got 6 c)) $$ G6; icases G6 with ⟨k0, k1, k2, k3⟩
  rw [wp_bind]; iapply (ph_loadSel m c 1 (got 6 c) rfl) $$ k3; iintro k3
  iapply (step_finish m c) $$ [Hwo Hout]
  · isplitl [Hwo] <;> iassumption
  iintro ⟨Hwo, Hout⟩
  ihave R := (slot_join m c c) $$ [o0 o1 o2 o3]
  · isplitl [o0]; · iexact o0
    isplitl [o1]; · iexact o1
    isplitl [o2]; · iexact o2
    iexact o3
  ihave G0 := (slot_join m c (got 0 c)) $$ [a0 a1 a2 a3]
  · isplitl [a0]; · iexact a0
    isplitl [a1]; · iexact a1
    isplitl [a2]; · iexact a2
    iexact a3
  ihave G1 := (slot_join m c (got 1 c)) $$ [b0 b1 b2 b3]
  · isplitl [b0]; · iexact b0
    isplitl [b1]; · iexact b1
    isplitl [b2]; · iexact b2
    iexact b3
  ihave G2 := (slot_join m c (got 2 c)) $$ [d0 d1 d2 d3]
  · isplitl [d0]; · iexact d0
    isplitl [d1]; · iexact d1
    isplitl [d2]; · iexact d2
    iexact d3
  ihave G3 := (slot_join m c (got 3 c)) $$ [f0 f1 f2 f3]
  · isplitl [f0]; · iexact f0
    isplitl [f1]; · iexact f1
    isplitl [f2]; · iexact f2
    iexact f3
  ihave G4 := (slot_join m c (got 4 c)) $$ [g0 g1 g2 g3]
  · isplitl [g0]; · iexact g0
    isplitl [g1]; · iexact g1
    isplitl [g2]; · iexact g2
    iexact g3
  ihave G5 := (slot_join m c (got 5 c)) $$ [h0 h1 h2 h3]
  · isplitl [h0]; · iexact h0
    isplitl [h1]; · iexact h1
    isplitl [h2]; · iexact h2
    iexact h3
  ihave G6 := (slot_join m c (got 6 c)) $$ [k0 k1 k2 k3]
  · isplitl [k0]; · iexact k0
    isplitl [k1]; · iexact k1
    isplitl [k2]; · iexact k2
    iexact k3
  iapply Hk
  isplitl [R G0 G1 G2 G3 G4 G5 G6]
  · iapply (slots_filled m c)
    iapply (Entails.of_eq (slots_eq c (fun s => slot m c s)).symm)
    isplitl [R]; · iexact R
    isplitl [G0]; · iexact G0
    isplitl [G1]; · iexact G1
    isplitl [G2]; · iexact G2
    isplitl [G3]; · iexact G3
    isplitl [G4]; · iexact G4
    isplitl [G5]; · iexact G5
    iexact G6
  isplitl [Hz z0 z1 z2 z3 z4 z5 z6]
  · isplitl [Hz]; · iexact Hz
    isplitl [z0]; · iexact z0
    isplitl [z1]; · iexact z1
    isplitl [z2]; · iexact z2
    isplitl [z3]; · iexact z3
    isplitl [z4]; · iexact z4
    isplitl [z5]; · iexact z5
    iexact z6
  isplitl [HO]; · iexact HO
  isplitr [Hout]
  · isplitl [Hx]; · iexact Hx
    isplitl [Hwq]; · iexact Hwq
    isplitl [HK]; · iexact HK
    isplitl [HV] <;> iassumption
  iexact Hout

end Cert.KernelIdeal.Prg

end
-- ==== Proof.LaunchIdeal.lean ====
/- The launch: what the first state deals each device, the body's obligation, and the run of the whole program. -/
module

public import proofs.«01_k».proof.Proof.BodyIdeal
public import Idealize.ShloMosaic.Lib.Pipeline.CollectiveSegs
public import Idealize.ShloMosaic.Lib.Quiescent

@[expose] public section

set_option maxRecDepth 16384

noncomputable section

namespace Cert.KernelIdeal.Prg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The proof data -/

def G' (c : Dev nD) : sProp 𝕄 := iprop(∃ K, records m K ∗ linear c)
def start (c : Dev nD) : sProp 𝕄 := iprop(G' m c ∗ creds c ∗ levAts L lv)
def Φ₀ (c : Dev nD) : sProp 𝕄 := iprop(start m c ∗ scratch c)
def Φ₁ (c : Dev nD) : sProp 𝕄 := iprop(filled m c ∗ zeros c)

def dats (_ : Fin 1) (c : Dev nD) : Dat τ (Elt F) Unit ℕ UU ℕ cfg0 c where
  A w := m ((cfg0.win w).arr.view.loc (c : Thread nD τ))
  after w _ := match w with
    | ⟨0, _⟩ => stgX m c
    | ⟨1, _⟩ => stgWq m c
    | ⟨2, _⟩ => stgK m c
    | ⟨3, _⟩ => stgV m c
    | ⟨4, _⟩ => stgWo m c
    | ⟨5, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

abbrev t₀ : Fin cfg0.N := t0_0

def bodyPre (c : Dev nD) : sProp 𝕄 :=
  iprop(Φ₀ m c ∗ (dats m 0 c).owesAt () t₀.castSucc
    ∗ (∃ d, stg c cc0_stg0_0 ((dats m 0 c).before (0 : Fin 6) t₀ d))
    ∗ (∃ d, stg c cc0_stg1_0 ((dats m 0 c).before (1 : Fin 6) t₀ d))
    ∗ (∃ d, stg c cc0_stg2_0 ((dats m 0 c).before (2 : Fin 6) t₀ d))
    ∗ (∃ d, stg c cc0_stg3_0 ((dats m 0 c).before (3 : Fin 6) t₀ d))
    ∗ (∃ d, stg c cc0_stg4_0 ((dats m 0 c).before (4 : Fin 6) t₀ d))
    ∗ (∃ d, stg c cc0_stg5_0 ((dats m 0 c).before (5 : Fin 6) t₀ d)))
def bodyPost (c : Dev nD) : sProp 𝕄 :=
  iprop(Φ₁ m c ∗ (dats m 0 c).owesAt () t₀.succ ∗ stg c cc0_stg0_0 (stgX m c) ∗ stg c cc0_stg1_0 (stgWq m c) ∗ stg c cc0_stg2_0 (stgK m c)
    ∗ stg c cc0_stg3_0 (stgV m c) ∗ stg c cc0_stg4_0 (stgWo m c) ∗ stg c cc0_stg5_0 (outAt m c))

theorem body_run (c : Dev nD) :
    bodyPre m c ⊢ WP c (prog xM wqM kM vM woM oM kvM h6kv scM cc0_scratch2 cc0_scratch3 cc0_scratch4 cc0_scratch5 cc0_scratch6 cc0_scratch7 cc0_scratch8 cc0_scratch9 cc0_scratch10 cc0_scratch11 cc0_scratch12 cc0_scratch13) fun _ => bodyPost m c := by
  unfold bodyPre Φ₀ start G'
  iintro ⟨⟨⟨⟨%K, #HR, Hlin⟩, Hcr, #HL⟩, Hscr⟩, Ho, ⟨%d0, %g0, %h0, Hx⟩, ⟨%d1, %g1, %h1, Hwq⟩, ⟨%d2, %g2, %h2, HK⟩, ⟨%d3, %g3, %h3, HV⟩, ⟨%d4, %g4, %h4, Hwo⟩, ⟨%d5, %g5, %h5, Hout⟩⟩
  have e0 : g0 = stgX m c := by rw [h0]; unfold Dat.before; rw [if_pos (fetch0_0 t₀)]; rfl
  have e1 : g1 = stgWq m c := by rw [h1]; unfold Dat.before; rw [if_pos (fetch0_1 t₀)]; rfl
  have e2 : g2 = stgK m c := by rw [h2]; unfold Dat.before; rw [if_pos (fetch0_2 t₀)]; rfl
  have e3 : g3 = stgV m c := by rw [h3]; unfold Dat.before; rw [if_pos (fetch0_3 t₀)]; rfl
  have e4 : g4 = stgWo m c := by rw [h4]; unfold Dat.before; rw [if_pos (fetch0_4 t₀)]; rfl
  subst e0 e1 e2 e3 e4
  unfold Dat.owesAt Pipeline.owesWithin
  icases Ho with ⟨%W, %hW, HO⟩
  rw [show (dats m 0 c).owed t₀.castSucc = O₀ c from rfl]
  iapply (sound_body m K c)
  isplitl
  · unfold pre owing ins
    isplitr; · iexact HR
    isplitr; · iexact HL
    isplitl [Hlin]; · iexact Hlin
    isplitl [Hcr]; · iexact Hcr
    isplitl [Hscr]; · iexact Hscr
    isplitl [HO]; · iexists W; iexact HO
    isplitr [Hout]
    · isplitl [Hx]; · iexact Hx
      isplitl [Hwq]; · iexact Hwq
      isplitl [HK]; · iexact HK
      isplitl [HV] <;> iassumption
    iexists g5; iexact Hout
  · unfold post owing ins bodyPost Φ₁ Dat.owesAt Pipeline.owesWithin
    rw [show (dats m 0 c).owed t₀.succ = 0 from rfl]
    iintro ⟨Hf, Hz, ⟨%W', HO⟩, ⟨Hx, Hwq, HK, HV, Hwo⟩, Hout⟩
    isplitl [Hf Hz]
    · isplitl [Hf] <;> iassumption
    isplitl [HO]
    · iexists W'
      isplitr; · ipureintro; exact fun _ _ => Or.inl trivial
      iexact HO
    isplitl [Hx]
    · iexists _; isplitr; · (ipureintro; rfl)
      iexact Hx
    isplitl [Hwq]
    · iexists _; isplitr; · (ipureintro; rfl)
      iexact Hwq
    isplitl [HK]
    · iexists _; isplitr; · (ipureintro; rfl)
      iexact HK
    isplitl [HV]
    · iexists _; isplitr; · (ipureintro; rfl)
      iexact HV
    isplitl [Hwo]
    · iexists _; isplitr; · (ipureintro; rfl)
      iexact Hwo
    iexists _; isplitr; · (ipureintro; rfl)
    iexact Hout

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem body_obligation (c : Dev nD) : BodyObligation (dats (F := F) m 0 c) (defs₀ (F := F)) 𝒱₀ () Set.univ := fun t => by
  rw [fin_N0 t]
  rw [bigSep_W, bigSep_W]
  simp only [owns_whole_eq]
  show bodyPre m c ⊢ WP c (cc0_body xM (Memref.isWhole_whole _) wqM (Memref.isWhole_whole _) kM (Memref.isWhole_whole _) vM (Memref.isWhole_whole _) woM (Memref.isWhole_whole _)
    oM (Memref.isWhole_whole _) kvM h6kv scM (Memref.isWhole_whole _) cc0_scratch2 cc0_scratch3 cc0_scratch4 cc0_scratch5 cc0_scratch6 cc0_scratch7 cc0_scratch8 cc0_scratch9 cc0_scratch10 cc0_scratch11 cc0_scratch12 cc0_scratch13) fun _ => bodyPost m c
  rw [body_eq]
  exact body_run m c

/-! ## Cells and tokens -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide
theorem kcell_injective : Function.Injective (kcell : Dev nD × Option (Fin 7 × Fin 4) → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

abbrev tokOf (x : (Dev nD × Option (Fin 7 × Fin 4)) × Fin 3) : GSem nD τ sig × ℕ × Fin 3 := (kcell x.1, 0, x.2)
theorem tokOf_injective : Function.Injective tokOf := by
  rintro ⟨x, j⟩ ⟨x', j'⟩ h
  have h1 : x = x' := kcell_injective (congrArg Prod.fst h)
  have h2 : j = j' := congrArg (fun y => y.2.2) h
  rw [h1, h2]
def ringToks : Finset (GSem nD τ sig × ℕ × Fin 3) := Finset.univ.map ⟨tokOf, tokOf_injective⟩

def u₀ : UU := (initOf (Pipeline.cells cfgs cellOf_inj) (Pipeline.launchToks cfgs cellOf_inj), initOf ringCells ringToks)

def toks (c : Dev nD) : sProp 𝕄 :=
  bigSep Finset.univ fun i : Option (Fin 7 × Fin 4) => bigSep Finset.univ fun j : Fin 3 => dutyTok ER (kcell (c, i)) 0 j
def G (c : Dev nD) : sProp 𝕄 :=
  iprop((bigSep Finset.univ fun k => roundState ER (ringRd m) (kcell (c, k)) 0)
    ∗ (bigSep Finset.univ fun k => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod, bigSep_univ_prod]
    exact bigSep_congr fun c _ => by unfold toks; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem bigSep_option {I : Type} [Fintype I] [DecidableEq I] (Φ : Option I → sProp 𝕄) :
    bigSep Finset.univ Φ = iprop(Φ none ∗ bigSep Finset.univ fun i => Φ (some i)) := by
  rw [bigSep_univ_split none]
  have h : (Finset.univ.erase none : Finset (Option I)) = Finset.univ.map Function.Embedding.some := by
    ext x; cases x <;> simp
  rw [h, bigSep_map]; rfl

theorem bigSep_swap {I J : Type} [Fintype I] [Fintype J] [DecidableEq I] [DecidableEq J] (Φ : I → J → sProp 𝕄) :
    (bigSep Finset.univ fun i => bigSep Finset.univ fun j => Φ i j) = bigSep Finset.univ fun j => bigSep Finset.univ fun i => Φ i j := by
  rw [← bigSep_univ_prod (fun p : I × J => Φ p.1 p.2), ← bigSep_univ_prod (fun p : J × I => Φ p.2 p.1), bigSep_univ_equiv (Equiv.prodComm J I)]
  rfl

theorem zeros_eq (c : Dev nD) : (zeros c : sProp 𝕄) = bigSep Finset.univ fun k : Option (Fin 7 × Fin 4) => semVal (kcell (c, k)) 0 := by
  rw [bigSep_option, bigSep_univ_prod]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄)
    = bigSep Finset.univ fun t : Fin 7 => zer c t := by
  unfold Pipeline.ownSems0; rw [bigSep_univ_prod]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [ownSems0_eq, unscopedSems0_eq, ← zeros_eq]
  unfold zeros
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Tokens to the devices that pay with them -/

def nbrE (j : Fin 3) : Dev nD ≃ Dev nD := ⟨nbr j, inb j, inb_nbr j, nbr_inb j⟩

def barToks (c : Dev nD) : sProp 𝕄 := bigSep Finset.univ fun j : Fin 3 => dutyTok ER (barCell c) 0 j
def dmaToks (c : Dev nD) : sProp 𝕄 := bigSep Finset.univ fun t : Fin 7 => bigSep Finset.univ fun k : Fin 4 => dutyTok ER (cell c t k) 0 0

theorem toks_split (c : Dev nD) : (toks c : sProp 𝕄) ⊢ iprop(barToks c ∗ dmaToks c) := by
  unfold toks
  rw [bigSep_option]
  refine sep_mono_right ?_
  unfold dmaToks
  rw [← bigSep_univ_prod (fun i : Fin 7 × Fin 4 => (dutyTok ER (cell c i.1 i.2) 0 0 : sProp 𝕄))]
  exact bigSep_mono fun i _ => bigSep_elim (Φ := fun j : Fin 3 => (dutyTok ER (kcell (c, some i)) 0 j : sProp 𝕄)) (Finset.mem_univ 0)

theorem bars_around : (bigSep Finset.univ fun c : Dev nD => (barToks c : sProp 𝕄))
    = bigSep Finset.univ fun c : Dev nD => bigSep Finset.univ fun j : Fin 3 => dutyTok ER (barCell (inb j c)) 0 j := by
  unfold barToks
  rw [bigSep_swap, bigSep_swap (fun (c : Dev nD) (j : Fin 3) => dutyTok ER (barCell (inb j c)) 0 j)]
  exact bigSep_congr fun j _ => bigSep_univ_equiv (nbrE j).symm (fun c : Dev nD => (dutyTok ER (barCell c) 0 j : sProp 𝕄))

theorem dmas_around : (bigSep Finset.univ fun c : Dev nD => (dmaToks c : sProp 𝕄))
    = bigSep Finset.univ fun c : Dev nD => bigSep Finset.univ fun t : Fin 7 => pay c t := by
  unfold dmaToks
  rw [bigSep_swap, bigSep_swap (fun (c : Dev nD) (t : Fin 7) => (pay c t : sProp 𝕄))]
  refine bigSep_congr fun t _ => ?_
  unfold pay
  simp only [bigSep_fin4]
  simp only [bigSep_sep']
  rw [bigSep_univ_equiv (nbrE (dir t)) (fun c : Dev nD => (dutyTok ER (cell c t 1) 0 0 : sProp 𝕄)),
    bigSep_univ_equiv (nbrE (dir t)) (fun c : Dev nD => (dutyTok ER (cell c t 3) 0 0 : sProp 𝕄))]
  rfl

def payToks (c : Dev nD) : sProp 𝕄 :=
  iprop((bigSep Finset.univ fun j : Fin 3 => dutyTok ER (barCell (inb j c)) 0 j) ∗ bigSep Finset.univ fun t => pay c t)

theorem toks_around : (bigSep Finset.univ fun c : Dev nD => (toks c : sProp 𝕄)) ⊢ bigSep Finset.univ fun c : Dev nD => payToks c := by
  have h1 : (bigSep Finset.univ fun c : Dev nD => (toks c : sProp 𝕄)) ⊢ bigSep Finset.univ fun c : Dev nD => iprop(barToks c ∗ dmaToks c) :=
    bigSep_mono fun c _ => toks_split c
  have h2 : (bigSep Finset.univ fun c : Dev nD => iprop(barToks c ∗ dmaToks c) : sProp 𝕄) = bigSep Finset.univ fun c : Dev nD => payToks c := by
    unfold payToks
    rw [bigSep_sep', bigSep_sep', bars_around, dmas_around]
  rw [← h2]; exact h1

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_intro (c : Dev nD) :
    iprop((bigSep Finset.univ fun k : Option (Fin 7 × Fin 4) => atPos ER (kcell (c, k)) 0 ∅ 0) ∗ payToks c) ⊢ (linear c : sProp 𝕄) := by
  unfold payToks linear
  rw [bigSep_option, bigSep_univ_prod]
  iintro ⟨⟨HB, HP⟩, HT, HY⟩
  isplitl [HB]; · iexact HB
  isplitl [HP]; · iexact HP
  isplitl [HT] <;> iassumption

theorem ghost_intro (K : Dev nD × Option (Fin 7 × Fin 4) → ℕ) (c : Dev nD) : iprop(records m K ∗ linear c) ⊢ G' m c := by
  unfold G'
  iintro H
  iexists K; iexact H

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Option (Fin 7 × Fin 4) => iprop(∃ κ : ℕ, cellInv ER (ringRd m) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Dev nD × Option (Fin 7 × Fin 4) => (reached ER (kcell ck) 0 : sProp 𝕄))]
  iintro ⟨HI, ⟨Hat, #HR⟩, Htok⟩
  ihave HK := (BI.bigSep_exists_pi Finset.univ (fun (ck : Dev nD × Option (Fin 7 × Fin 4)) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Option (Fin 7 × Fin 4) => (atPos ER (kcell (c, k)) 0 ∅ 0 : sProp 𝕄)) payToks).symm).trans
      (bigSep_mono fun c _ => linear_intro c))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

def crdL (c : Dev nD) : List (Fin 7) → sProp 𝕄
  | [] => iprop(emp)
  | t :: ts => iprop(crd c t ∗ crdL c ts)

theorem cred_nbr (j : Fin 3) (sm : SemLoc sig) (n : ℕ) (c : Dev nD) :
    (Pipeline.launchCred (fun d => tallyAt (((nbr j d : Dev nD) : Thread nD τ), sm) () n) c : sProp 𝕄) ⊢ cred (tallyAt ((c : Thread nD τ), sm) () n) :=
  Pipeline.launchCred_tallyAt sm (nbr j) (inb j) (nbr_inb j) (inb_nbr j) () n c
theorem cred_inb (j : Fin 3) (sm : SemLoc sig) (n : ℕ) (c : Dev nD) :
    (Pipeline.launchCred (fun d => tallyAt (((inb j d : Dev nD) : Thread nD τ), sm) () n) c : sProp 𝕄) ⊢ cred (tallyAt ((c : Thread nD τ), sm) () n) :=
  Pipeline.launchCred_tallyAt sm (inb j) (nbr j) (inb_nbr j) (nbr_inb j) () n c

theorem creds_Ow (c : Dev nD) (ts : List (Fin 7)) : (Pipeline.launchCred (fun d => Ow d ts) c : sProp 𝕄) ⊢ crdL c ts := by
  induction ts with
  | nil => exact Entails.of_eq (Pipeline.launchCred_zero c)
  | cons t ts ih =>
    show (Pipeline.launchCred (fun d => (Ow d ts + tallyAt (cell (nbr (dir t) d) t 3) () (amt 3)) + tallyAt (cell (nbr (dir t) d) t 1) () (amt 1)) c : sProp 𝕄) ⊢ iprop(crd c t ∗ crdL c ts)
    rw [Pipeline.launchCred_add (fun d => Ow d ts + tallyAt (cell (nbr (dir t) d) t 3) () (amt 3)), Pipeline.launchCred_add (fun d => Ow d ts)]
    unfold crd
    iintro ⟨⟨H, H3⟩, H1⟩
    ihave H := ih $$ H
    ihave H3 := (cred_nbr (dir t) _ _ c) $$ H3
    ihave H1 := (cred_nbr (dir t) _ _ c) $$ H1
    isplitr [H]
    · isplitl [H1] <;> iassumption
    iexact H

theorem creds_launch (c : Dev nD) : (Pipeline.launchCred O₀ c : sProp 𝕄) ⊢ creds c := by
  show (Pipeline.launchCred (fun d => ((Ow d all7 + tallyAt (barCell (inb 2 d)) () 1) + tallyAt (barCell (inb 1 d)) () 1) + tallyAt (barCell (inb 0 d)) () 1) c : sProp 𝕄) ⊢ _
  rw [Pipeline.launchCred_add (fun d => (Ow d all7 + tallyAt (barCell (inb 2 d)) () 1) + tallyAt (barCell (inb 1 d)) () 1),
    Pipeline.launchCred_add (fun d => Ow d all7 + tallyAt (barCell (inb 2 d)) () 1), Pipeline.launchCred_add (fun d => Ow d all7)]
  unfold creds
  rw [bigSep_fin7]
  iintro ⟨⟨⟨H, H2⟩, H1⟩, H0⟩
  ihave H := (creds_Ow c all7) $$ H
  ihave H2 := (cred_inb 2 _ _ c) $$ H2
  ihave H1 := (cred_inb 1 _ _ c) $$ H1
  ihave H0 := (cred_inb 0 _ _ c) $$ H0
  have e : (tallyAt (barCell c) () 3 : CellTallies nD τ sig Unit) = tallyAt (barCell c) () 1 + (tallyAt (barCell c) () 1 + tallyAt (barCell c) () 1) := by
    show tallyAt (barCell c) () (1 + (1 + 1)) = _
    rw [tallyAt_add, tallyAt_add]
  isplitr [H]
  · rw [e]
    iapply (cred_add _ _).2
    isplitl [H0]; · iexact H0
    iapply (cred_add _ _).2
    isplitl [H1] <;> iassumption
  · have h7 : (crdL c all7 : sProp 𝕄) ⊢ iprop(crd c 0 ∗ crd c 1 ∗ crd c 2 ∗ crd c 3 ∗ crd c 4 ∗ crd c 5 ∗ crd c 6) := by
      show iprop(crd c 0 ∗ crd c 1 ∗ crd c 2 ∗ crd c 3 ∗ crd c 4 ∗ crd c 5 ∗ crd c 6 ∗ emp) ⊢ (_ : sProp 𝕄)
      iintro ⟨h0, h1, h2, h3, h4, h5, h6, -⟩
      isplitl [h0]; · iexact h0
      isplitl [h1]; · iexact h1
      isplitl [h2]; · iexact h2
      isplitl [h3]; · iexact h3
      isplitl [h4]; · iexact h4
      isplitl [h5] <;> iassumption
    iapply h7; iexact H

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_launch (F := F) c) $$ Hcr
  imodintro
  unfold start
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ filled zeros
  iintro ⟨⟨Ha, Hb⟩, HzB, Hz⟩
  isplitl [HzB]; · iexact HzB
  isplitl [Hz]; · iexact Hz
  isplitl [Ha]
  · iexists (kvAll m); iexact Ha
  · iexists (scAll m); iexact Hb

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_in (c : Dev nD) (w : Fin cfg0.W) (h : (cfg0.win w).isOut = false) : finalA m c w = m ((cfg0.win w).arr.view.loc (c : Thread nD τ)) :=
  (dats (F := F) m 0 c).arrAt_in w h _

/-- The result array's one block, the whole array, is what the body left. -/
theorem finalA_o (c : Dev nD) : (win0_5.blk (0 : Fin 1)).view.read (Elt F) (finalA m c (5 : Fin 6)) = outAt m c := by
  unfold finalA
  rw [show cfg0.N = ((0 : Fin 1) : Fin cfg0.N).val + 1 from rfl, (dats m 0 c).arrAt_succ (5 : Fin 6) (0 : Fin 1)]
  rw [flush0_5 (0 : Fin 1), if_pos rfl]
  exact View.read_write_univ _ _

/-- Every fair run ends, with device `c`'s result array read back as `outAt m c`, the arguments as they were, every
    counter at zero. -/
theorem run : θ_run defs (onTc (τ := τ) (main (F := F))) ⟨m, fun _ => 0, ρ⟩ (fun r => (∀ c : Dev nD,
      (win0_5.blk (0 : Fin 1)).view.read (Elt F) (r.2.mem ((c.tc : Thread nD τ).loc main_v1)) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(congrArg ((win0_5.blk (0 : Fin 1)).view.read (Elt F)) (h.1 c (5 : Fin 6))).trans (finalA_o m c),
      (h.1 c (0 : Fin 6)).trans (finalA_in m c 0 rfl), (h.1 c (1 : Fin 6)).trans (finalA_in m c 1 rfl), (h.1 c (2 : Fin 6)).trans (finalA_in m c 2 rfl),
      (h.1 c (3 : Fin 6)).trans (finalA_in m c 3 rfl), (h.1 c (4 : Fin 6)).trans (finalA_in m c 4 rfl)⟩, h.2⟩) (run_main m ρ)

end Cert.KernelIdeal.Prg

end
-- ==== Proof.Frames.lean ====
/- The claims that speak of no values: the three programs run, leave their arguments alone and end quiet; the named
   constants are what they are called. -/
module

public import proofs.«01_k».proof.Defs
public import proofs.«01_k».proof.Proof.Launch
public import proofs.«01_k».proof.Proof.LaunchIdeal
public import proofs.«01_k».proof.Proof.Gen.ReferenceIdeal
public import proofs.«01_k».proof.Proof.Gen.ReferenceIdeal.Run
public import proofs.«01_k».proof.Proof.Gen.Pre_finite_queries_KernelIdeal
public import proofs.«01_k».proof.Proof.Gen.Pre_finite_queries_ReferenceIdeal

@[expose] public section

noncomputable section

namespace Cert.Claims

open Idealize.ShloMosaic Idealize.SL.Sem

theorem frame_p : Cert.quiescent_Kernel := fun m ρ _ =>
  (θ_run Cert.Kernel.defs _ _).mono (fun _ h => ⟨fun c => (h.1 c).2, h.2⟩) (Cert.Kernel.Prg.run (F := Bits) m ρ)

theorem frame_pi : Cert.quiescent_KernelIdeal := fun m ρ _ =>
  (θ_run Cert.KernelIdeal.defs _ _).mono (fun _ h => ⟨fun c => (h.1 c).2, h.2⟩) (Cert.KernelIdeal.Prg.run (F := Ideal) m ρ)

theorem frame_pi_pre : Cert.quiescent_KernelIdeal_pre_finite_queries_KernelIdeal := fun m ρ _ =>
  (θ_run Cert.KernelIdeal.defs _ _).mono (fun _ h => ⟨fun c => (h.1 c).2, h.2⟩) (Cert.KernelIdeal.Prg.run (F := Ideal) m ρ)

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_pre : Cert.quiescent_ReferenceIdeal_pre_finite_queries_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  ⟨IdealRules.named_const.statement Cert.KernelIdeal.κ "score_step" .f32 0x3A810204#32 ((1 / 1016 : ℝ) : EReal) rfl,
    IdealRules.named_const.statement Cert.KernelIdeal.κ "value_step" .f32 0x3C010204#32 ((1 / 127 : ℝ) : EReal) rfl⟩

end Cert.Claims

end
-- ==== Proof.ReadIdeal.lean ====
/- The kernel's functions read at an index over the extended reals. -/
module

public import proofs.«01_k».proof.Proof.ProgramIdeal
public import Idealize.ShloMosaic.Lib.Pointwise
public import Idealize.ShloMosaic.PureOps.Ideal.Laws

@[expose] public section

set_option maxRecDepth 16384

noncomputable section

namespace Cert.KernelIdeal.Prg

open Cert.KernelIdeal Cert.KernelIdeal.Gen
open Idealize.ShloMosaic

theorem rows_read (x : Vec Ideal S2x256x4x64 .f32) (b : Fin 2) (t j : Fin 256) :
    rows x (ix3 b t j) = x (ix4 b t ⟨j.val / 64, by omega⟩ ⟨j.val % 64, by omega⟩) := by
  pointwise [rows]
theorem top_read (x : Vec Ideal S2x256x4x64 .f32) (b : Fin 2) (t : Fin 256) :
    top x (ix3 b t 0) = max ((Finset.univ : Finset (Fin 256)).fold max (Ideal.ofBits .f32 0xFF800000#32) (fun k => FloatOps.absf (rows x (ix3 b t k))))
      (Ideal.ofBits .f32 0x3089705F#32) := by
  pointwise [top]
theorem codes_read (x : Vec Ideal S2x256x4x64 .f32) (b : Fin 2) (t j : Fin 256) :
    codes x (ix3 b t j) = Ideal.fptosi 8 (min ((((127#32).toInt : ℝ)) : EReal) (max ((((4294967169#32).toInt : ℝ)) : EReal)
      (Ideal.liftRound Ideal.roundHalfEven (rows x (ix3 b t j) * Ideal.div (Ideal.ofBits .f32 0x42FE0000#32) (top x (ix3 b t 0)))))) := by
  pointwise [codes]
  rfl
theorem codesOut_read (x : Vec Ideal S2x256x4x64 .f32) (b : Fin 2) (t j : Fin 256) :
    codesOut x (ix4 0 b t j) = codes x (ix3 b t j) := by
  pointwise [codesOut]
theorem topOut_read (x : Vec Ideal S2x256x4x64 .f32) (b : Fin 2) (t : Fin 256) :
    topOut x (ix4 0 0 b t) = top x (ix3 b t 0) := by
  pointwise [topOut]
theorem queries_read (wq : Vec Ideal S512x256 .f32) (x : Vec Ideal S1x256x512 .f32) (i j : Fin 256) :
    queries wq x (ix2 i j) = ∑ k : Fin 512, x (ix3 0 i k) * wq (ix2 k j) := by
  pointwise [queries, dot_S256x512_S512x256_S256x256_1_0_0_1_n_n]

/-- The block of a position within a chunk, as the kernel computes it. -/
def inBlk (i : BitVec 32) : BitVec 32 :=
  Scalar.select
    (IntOp.andi
      (IntOp.cmpi CmpIPredicate.ne
        (IntOp.subi (BitVec.setWidth 32 (IntOp.cmpi CmpIPredicate.sgt i 0#32)) (BitVec.setWidth 32 (IntOp.cmpi CmpIPredicate.slt i 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector i 64#32) 0#32))
    (IntOp.subi (IntOp.divsi ArithUnit.vector i 64#32) 1#32)
    (IntOp.divsi ArithUnit.vector i 64#32)
/-- Whether a query of block `a` sees a key of block `b`, as the kernel computes it. -/
def sees (a b : BitVec 32) : BitVec 1 :=
  IntOp.ori (IntOp.ori (IntOp.cmpi CmpIPredicate.eq a b) (IntOp.cmpi CmpIPredicate.eq b 0#32))
    (IntOp.cmpi CmpIPredicate.eq (IntOp.remsi ArithUnit.vector (IntOp.addi a b) 3#32) 0#32)
/-- The block of position `i` of chunk `w`. -/
def blkWord (w i : BitVec 32) : BitVec 32 := IntOp.addi (Scalar.muli w 4#32) (inBlk i)

theorem qBlock_read (d : Dev nD) (i j : Fin 256) : qBlock d (ix2 i j) = blkWord (myW d) (BitVec.ofNat 32 i.val) := by
  pointwise [qBlock, blockOf]
  rfl
theorem kBlock_read (w : BitVec 32) (i j : Fin 256) : kBlock w (ix2 i j) = blkWord w (BitVec.ofNat 32 j.val) := by
  pointwise [kBlock, blockOf]
  rfl
theorem mask_read (d : Dev nD) (w : BitVec 32) (i j : Fin 256) :
    mask d w (ix2 i j) = sees (blkWord (myW d) (BitVec.ofNat 32 i.val)) (blkWord w (BitVec.ofNat 32 j.val)) := by
  rw [← qBlock_read d i j, ← kBlock_read w i j]
  pointwise [mask]
  rfl
theorem keys_read (B : Blk Ideal) (t j : Fin 256) : B.keys (ix2 t j) = (((B.kv (ix4 0 0 t ⟨j.val, by omega⟩) : BitVec 8).toInt : ℝ) : EReal) := by
  pointwise [Blk.keys, Blk.codesAt]
  rfl
theorem vals_read (B : Blk Ideal) (t j : Fin 256) : B.vals (ix2 t j) = (((B.kv (ix4 0 0 t ⟨256 + j.val, by omega⟩) : BitVec 8).toInt : ℝ) : EReal) := by
  pointwise [Blk.vals, Blk.codesAt]
  rfl
theorem skf_read (B : Blk Ideal) (t : Fin 256) : B.skf (ix2 0 t) = B.sk (ix4 0 0 0 t) * ((1 / 1016 : ℝ) : EReal) := by
  pointwise [Blk.skf]
  rw [show (scoreStep : Ideal .f32) = ((1 / 1016 : ℝ) : EReal) from by
    unfold scoreStep; exact IdealRules.named_const.ideal_named_scalar _ _ _ _ rfl]
theorem svf_read (B : Blk Ideal) (t : Fin 256) : B.svf (ix2 0 t) = B.sv (ix4 0 0 0 t) * ((1 / 127 : ℝ) : EReal) := by
  pointwise [Blk.svf]
  rw [show (valueStep : Ideal .f32) = ((1 / 127 : ℝ) : EReal) from by
    unfold valueStep; exact IdealRules.named_const.ideal_named_scalar _ _ _ _ rfl]
theorem headOf_read (h : Fin 4) (v : FVec Ideal S256x256 .bf16) (t : Fin 256) (e : Fin 64) :
    headOf h v (ix2 t e) = v (ix2 t ⟨64 * h.val + e.val, by omega⟩) := by
  pointwise [headOf]
theorem scores_read (h : Fin 4) (q : FVec Ideal S256x256 .bf16) (mk : IVec S256x256 1) (B : Blk Ideal) (i t : Fin 256) :
    scores h q mk B (ix2 i t) = Scalar.select (mk (ix2 i t)) ((∑ x : Fin 64, headOf h q (ix2 i x) * headOf h B.keys (ix2 t x)) * B.skf (ix2 0 t))
      (Ideal.ofBits .f32 0xCE6E6B28#32) := by
  pointwise [scores, dot_S256x64_S256x64_S256x256_1_1_0_0_n_n]
theorem rowMax_read (s : FVec Ideal S256x256 .f32) (i : Fin 256) :
    rowMax s (ix2 i 0) = (Finset.univ : Finset (Fin 256)).fold max (Ideal.ofBits .f32 0xFF800000#32) (fun x => s (ix2 i x)) := by
  pointwise [rowMax]
theorem rowSum_read (s : FVec Ideal S256x256 .f32) (i : Fin 256) : rowSum s (ix2 i 0) = ∑ x : Fin 256, s (ix2 i x) := by
  pointwise [rowSum]
theorem weights_read (s : FVec Ideal S256x256 .f32) (m : FVec Ideal S256x1 .f32) (i t : Fin 256) :
    weights s m (ix2 i t) = Ideal.exp (s (ix2 i t) - m (ix2 i 0)) := by
  pointwise [weights]
theorem weigh_read (h : Fin 4) (p : FVec Ideal S256x256 .f32) (B : Blk Ideal) (i : Fin 256) (e : Fin 64) :
    weigh h p B (ix2 i e) = ∑ x : Fin 256, p (ix2 i x) * B.svf (ix2 0 x) * headOf h B.vals (ix2 x e) := by
  pointwise [weigh, dot_S256x256_S256x64_S256x64_1_0_0_1_n_n]
theorem ctx_read (R : Run Ideal) (i : Fin 256) (e : Fin 64) : ctx R (ix2 i e) = Ideal.div (R.acc (ix2 i e)) (R.l (ix2 i 0)) := by
  pointwise [ctx]

/-- The running maximum after one more chunk. -/
theorem nextMax_read (h : Fin 4) (q : FVec Ideal S256x256 .bf16) (mk : IVec S256x256 1) (B : Blk Ideal) (R : Run Ideal) (i : Fin 256) :
    nextMax h q mk B R.m (ix2 i 0) = max (R.m (ix2 i 0)) (rowMax (scores h q mk B) (ix2 i 0)) := rfl
theorem fade_read (m m' : FVec Ideal S256x1 .f32) (i : Fin 256) :
    (Idealize.ShloMosaic.exp (subf m m') : FVec Ideal S256x1 .f32) (ix2 i 0) = Ideal.exp (m (ix2 i 0) - m' (ix2 i 0)) := rfl

theorem tower_pick (R : Fin 4 → Run Ideal) (i : Fin 256) (x : Fin 256) :
    (if h : x.val < 64 then ctx (R 0) (ix2 i ⟨x.val, h⟩)
      else if h1 : x.val - 64 < 64 then ctx (R 1) (ix2 i ⟨x.val - 64, h1⟩)
      else if h2 : x.val - 64 - 64 < 64 then ctx (R 2) (ix2 i ⟨x.val - 64 - 64, h2⟩)
      else ctx (R 3) (ix2 i ⟨x.val - 64 - 64 - 64, by omega⟩))
      = ctx (R ⟨x.val / 64, by omega⟩) (ix2 i ⟨x.val % 64, by omega⟩) := by
  have key : ∀ (k : Fin 4) (y : Fin 64), x.val = 64 * k.val + y.val →
      ctx (R k) (ix2 i y) = ctx (R ⟨x.val / 64, by omega⟩) (ix2 i ⟨x.val % 64, by omega⟩) := by
    intro k y hx
    have hk : k = ⟨x.val / 64, by omega⟩ := Fin.ext (by simp only []; omega)
    have hy : y = ⟨x.val % 64, by omega⟩ := Fin.ext (by simp only []; omega)
    exact (congrArg (fun k => ctx (R k) (ix2 i y)) hk).trans (congrArg (fun y => ctx (R ⟨x.val / 64, by omega⟩) (ix2 i y)) hy)
  split_ifs
  · exact key 0 _ (by simp)
  · exact key 1 _ (by simp; omega)
  · exact key 2 _ (by simp; omega)
  · exact key 3 _ (by simp; omega)

theorem project_tower (wo : Vec Ideal S256x512 .f32) (R0 R1 R2 R3 : Run Ideal) (i : Fin 256) (n : Fin 512) :
    project wo R0 R1 R2 R3 (ix3 0 i n)
      = ∑ x : Fin 256, (if h : x.val < 64 then ctx R0 (ix2 i ⟨x.val, h⟩)
        else if h1 : x.val - 64 < 64 then ctx R1 (ix2 i ⟨x.val - 64, h1⟩)
        else if h2 : x.val - 64 - 64 < 64 then ctx R2 (ix2 i ⟨x.val - 64 - 64, h2⟩)
        else ctx R3 (ix2 i ⟨x.val - 64 - 64 - 64, by omega⟩)) * wo (ix2 x n) := by
  pointwise [project, dot_S256x256_S256x512_S256x512_1_0_0_1_n_n]

theorem project_read (wo : Vec Ideal S256x512 .f32) (R : Fin 4 → Run Ideal) (i : Fin 256) (n : Fin 512) :
    project wo (R 0) (R 1) (R 2) (R 3) (ix3 0 i n)
      = ∑ x : Fin 256, ctx (R ⟨x.val / 64, by omega⟩) (ix2 i ⟨x.val % 64, by omega⟩) * wo (ix2 x n) :=
  (project_tower wo (R 0) (R 1) (R 2) (R 3) i n).trans (Finset.sum_congr rfl fun x _ => congrArg (· * wo (ix2 x n)) (tower_pick R i x))

theorem bcast_read (v : FVec Ideal S256x1 .f32) (i : Fin 256) (e : Fin 64) :
    broadcastTo S256x64 v broadcasts_S256x1_S256x64 (ix2 i e) = v (ix2 i 0) := by
  pointwise

end Cert.KernelIdeal.Prg

end
-- ==== Proof.Math.lean ====
/- Facts of the extended reals that the two programs' values rest on: codes, scales, running softmax. -/
module

public import Idealize.ShloMosaic.PureOps.Ideal
public import Idealize.ShloMosaic.PureOps.Ideal.Laws

@[expose] public section

set_option maxRecDepth 16384

noncomputable section

namespace Cert.Val

open Idealize.ShloMosaic

/-! Constants. -/

theorem c_127 : Ideal.ofBits .f32 0x42FE0000#32 = ((127 : ℝ) : EReal) := by
  simp [Ideal.ofBits, Ideal.ieee, -EReal.coe_mul]; norm_num
theorem c_m127 : Ideal.ofBits .f32 0xC2FE0000#32 = ((-127 : ℝ) : EReal) := by
  simp [Ideal.ofBits, Ideal.ieee, -EReal.coe_mul, -EReal.coe_neg]; norm_num
theorem c_eighth : Ideal.ofBits .f32 0x3E000000#32 = ((1 / 8 : ℝ) : EReal) := by
  simp [Ideal.ofBits, Ideal.ieee, -EReal.coe_mul]; norm_num
theorem c_low : Ideal.ofBits .f32 0xCE6E6B28#32 = ((-1000000000 : ℝ) : EReal) := by
  simp [Ideal.ofBits, Ideal.ieee, -EReal.coe_mul, -EReal.coe_neg]; norm_num
theorem c_bot : Ideal.ofBits .f32 0xFF800000#32 = ⊥ := by simp [Ideal.ofBits, Ideal.ieee]
theorem c_top : Ideal.ofBits .f32 0x7F800000#32 = ⊤ := by simp [Ideal.ofBits, Ideal.ieee]
theorem c_eps : ∃ e : ℝ, 0 < e ∧ Ideal.ofBits .f32 0x3089705F#32 = (e : EReal) := by
  refine ⟨_, ?_, by simp [Ideal.ofBits, Ideal.ieee, -EReal.coe_mul]; rfl⟩
  norm_num

/-! Sums and maxima of real values. -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_real {ι : Type*} (s : Finset ι) (g : ι → EReal) (f : ι → ℝ) (h : ∀ i, g i = (f i : EReal)) :
    ∑ i ∈ s, g i = ((∑ i ∈ s, f i : ℝ) : EReal) := by
  rw [coe_sum]; exact Finset.sum_congr rfl fun i _ => h i

theorem fold_max_real {ι : Type*} (s : Finset ι) (hs : s.Nonempty) (f : ι → ℝ) :
    ∃ M : ℝ, s.fold max (⊥ : EReal) (fun i => (f i : EReal)) = (M : EReal) := by
  classical
  induction hs using Finset.Nonempty.cons_induction with
  | singleton a => exact ⟨f a, by simp⟩
  | cons a s ha hs ih =>
    obtain ⟨M, hM⟩ := ih
    exact ⟨max (f a) M, by rw [Finset.fold_cons, hM]; exact (EReal.coe_strictMono.monotone.map_max).symm⟩

theorem max_real {ι : Type*} [Fintype ι] [Nonempty ι] (g : ι → EReal) (f : ι → ℝ) (h : ∀ i, g i = (f i : EReal)) :
    ∃ M : ℝ, (Finset.univ : Finset ι).fold max (Ideal.ofBits .f32 0xFF800000#32) g = (M : EReal) := by
  rw [c_bot, show g = fun i => (f i : EReal) from funext h]
  exact fold_max_real _ Finset.univ_nonempty f

/-! Codes and scales. -/

/-- A row's top: no number, or a positive one. -/
def RowTop (a : EReal) : Prop := a = ⊤ ∨ ∃ r : ℝ, 0 < r ∧ a = (r : EReal)

theorem rowTop_max (a : EReal) : RowTop (max a (Ideal.ofBits .f32 0x3089705F#32)) := by
  obtain ⟨e, he, h⟩ := c_eps
  rw [h]
  induction a using EReal.rec with
  | bot => exact Or.inr ⟨e, he, by simp⟩
  | coe r => exact Or.inr ⟨max r e, lt_max_of_lt_right he, (EReal.coe_strictMono.monotone.map_max).symm⟩
  | top => exact Or.inl (by simp)

/-- The rounded and clipped level of `t` in a row of top `a`. -/
def lvl (t a : EReal) : EReal :=
  min ((127 : ℝ) : EReal) (max ((-127 : ℝ) : EReal) (Ideal.liftRound Ideal.roundHalfEven (t * Ideal.div ((127 : ℝ) : EReal) a)))

theorem lvl_int (t a : EReal) : ∃ z : ℤ, -127 ≤ z ∧ z ≤ 127 ∧ lvl t a = ((z : ℝ) : EReal) := by
  unfold lvl
  induction (t * Ideal.div ((127 : ℝ) : EReal) a) using EReal.rec with
  | bot => exact ⟨-127, by norm_num, by norm_num, by rw [Ideal.liftRound_bot, max_bot_right, min_eq_right (EReal.coe_le_coe_iff.2 (by norm_num))]; norm_num⟩
  | top => exact ⟨127, by norm_num, by norm_num, by rw [Ideal.liftRound_top, max_top_right, min_top_right]; norm_num⟩
  | coe r =>
    refine ⟨min 127 (max (-127) (Ideal.roundHalfEven r)), by omega, by omega, ?_⟩
    rw [Ideal.liftRound_coe, ← EReal.coe_strictMono.monotone.map_max, ← EReal.coe_strictMono.monotone.map_min]
    push_cast
    rfl

/-- The code. -/
def code (t a : EReal) : ℤ := (lvl_int t a).choose
theorem code_lo (t a : EReal) : -127 ≤ code t a := (lvl_int t a).choose_spec.1
theorem code_hi (t a : EReal) : code t a ≤ 127 := (lvl_int t a).choose_spec.2.1
theorem lvl_eq (t a : EReal) : lvl t a = ((code t a : ℝ) : EReal) := (lvl_int t a).choose_spec.2.2

theorem code_top (t : EReal) : code t ⊤ = 0 := by
  have h := lvl_eq t ⊤
  have h0 : lvl t ⊤ = ((0 : ℝ) : EReal) := by
    unfold lvl
    have : Ideal.div ((127 : ℝ) : EReal) ⊤ = 0 := by simp [Ideal.div]
    rw [this, mul_zero, ← EReal.coe_zero, Ideal.liftRound_coe]
    have : Ideal.roundHalfEven 0 = 0 := by simp [Ideal.roundHalfEven]
    rw [this, ← EReal.coe_strictMono.monotone.map_max, ← EReal.coe_strictMono.monotone.map_min]
    norm_num
  rw [h0] at h
  have := EReal.coe_injective h
  exact_mod_cast this.symm

theorem toIntClamped_int (lo hi z : ℤ) (h1 : lo ≤ z) (h2 : z ≤ hi) : Ideal.toIntClamped lo hi ((z : ℝ) : EReal) = z := by
  rw [Ideal.toIntClamped_coe]
  simp only [Int.floor_intCast, Int.ceil_intCast, ite_self]
  omega

theorem fptosi8 (t a : EReal) : (Ideal.fptosi 8 (lvl t a)).toInt = code t a := by
  have h1 := code_lo t a
  have h2 := code_hi t a
  rw [lvl_eq, Ideal.fptosi, toIntClamped_int _ _ _ (by norm_num; omega) (by norm_num; omega)]
  exact BitVec.toInt_ofInt_eq_self (by decide) (by norm_num; omega) (by norm_num; omega)

theorem ofInt_narrow (z : ℤ) (h1 : -127 ≤ z) (h2 : z ≤ 127) :
    (BitVec.signExtend 32 (BitVec.setWidth 8 (BitVec.ofInt 32 z))).toInt = z := by
  have : ∀ k : Fin 255, (BitVec.signExtend 32 (BitVec.setWidth 8 (BitVec.ofInt 32 ((k.val : ℤ) - 127)))).toInt = (k.val : ℤ) - 127 := by
    decide +kernel
  have := this ⟨(z + 127).toNat, by omega⟩
  have hz : (((z + 127).toNat : ℕ) : ℤ) - 127 = z := by omega
  simp only [hz] at this
  exact this

theorem fptosi32 (t a : EReal) : (BitVec.signExtend 32 (BitVec.setWidth 8 (Ideal.fptosi 32 (lvl t a)))).toInt = code t a := by
  have h1 := code_lo t a
  have h2 := code_hi t a
  rw [lvl_eq, Ideal.fptosi, toIntClamped_int _ _ _ (by norm_num; omega) (by norm_num; omega)]
  exact ofInt_narrow _ h1 h2

/-- The value a code and its row's top stand for. -/
def deqR (t a : EReal) : ℝ := (code t a : ℝ) * (a.toReal / 127)

theorem deq_eq (t a : EReal) (ha : RowTop a) : ((code t a : ℝ) : EReal) * Ideal.div a ((127 : ℝ) : EReal) = (deqR t a : EReal) := by
  unfold deqR
  rcases ha with rfl | ⟨r, hr, rfl⟩
  · rw [code_top]; simp
  · rw [Ideal.div_coe (by norm_num), EReal.toReal_coe, ← EReal.coe_mul, ← EReal.coe_mul]
    congr 1; ring

theorem weigh_eq (p : ℝ) (t a : EReal) (ha : RowTop a) :
    (p : EReal) * (a * ((1 / 127 : ℝ) : EReal)) * ((code t a : ℝ) : EReal) = ((p * deqR t a : ℝ) : EReal) := by
  unfold deqR
  rcases ha with rfl | ⟨r, hr, rfl⟩
  · rw [code_top]; simp
  · rw [EReal.toReal_coe, ← EReal.coe_mul, ← EReal.coe_mul, ← EReal.coe_mul]
    congr 1; ring

theorem score_eq {n : ℕ} (q : Fin n → ℝ) (t : Fin n → EReal) (a : EReal) (ha : RowTop a) :
    (∑ e, (q e : EReal) * ((code (t e) a : ℝ) : EReal)) * (a * ((1 / 1016 : ℝ) : EReal)) = (((∑ e, q e * deqR (t e) a) * (1 / 8) : ℝ) : EReal) := by
  rw [sum_real _ _ (fun e => q e * (code (t e) a : ℝ)) (fun e => (EReal.coe_mul _ _).symm)]
  unfold deqR
  rcases ha with rfl | ⟨r, hr, rfl⟩
  · simp [code_top]
  · rw [EReal.toReal_coe, ← EReal.coe_mul, ← EReal.coe_mul, Finset.sum_mul, Finset.sum_mul]
    congr 1
    exact Finset.sum_congr rfl fun e _ => by ring

/-! The softmax. -/

/-- The weighted mean of `ν` at the exponentials of `σ`. -/
def att {ι : Type*} [Fintype ι] (σ ν : ι → ℝ) : ℝ := (∑ j, Real.exp (σ j) * ν j) / (∑ j, Real.exp (σ j))

theorem exp_sub_coe (a b : ℝ) : Ideal.exp ((a : EReal) - (b : EReal)) = ((Real.exp (a - b) : ℝ) : EReal) := by
  rw [← EReal.coe_sub, Ideal.exp_coe]

theorem div_real (a b : ℝ) (hb : b ≠ 0) : Ideal.div (a : EReal) (b : EReal) = ((a / b : ℝ) : EReal) := by
  rw [Ideal.div_coe hb, ← EReal.coe_mul]; congr 1; ring

/-- What a run holds after the chunks of a list. -/
def Holds {κ ι : Type*} [Fintype ι] (σ : κ → ι → ℝ) {ε : Type*} (ν : κ → ι → ε → ℝ) (L : List κ) (m l : EReal) (acc : ε → EReal) : Prop :=
  ∃ M : ℝ, m = (M : EReal) ∧ l = (((L.map fun s => ∑ t, Real.exp (σ s t - M)).sum : ℝ) : EReal)
    ∧ ∀ e, acc e = (((L.map fun s => ∑ t, Real.exp (σ s t - M) * ν s t e).sum : ℝ) : EReal)

section
variable {κ ι ε : Type*} [Fintype ι] [Nonempty ι] (σ : κ → ι → ℝ) (ν : κ → ι → ε → ℝ)

theorem holds_first (s : κ) (M : ℝ) :
    Holds σ ν [s] (M : EReal) ((∑ t, Real.exp (σ s t - M) : ℝ) : EReal) (fun e => ((∑ t, Real.exp (σ s t - M) * ν s t e : ℝ) : EReal)) :=
  ⟨M, rfl, by simp, fun e => by simp⟩

theorem rescale (L : List κ) (f : κ → ι → ℝ) (M N : ℝ) :
    (L.map fun s => ∑ t, Real.exp (σ s t - M) * f s t).sum * Real.exp (M - N) = (L.map fun s => ∑ t, Real.exp (σ s t - N) * f s t).sum := by
  rw [← List.sum_map_mul_right]
  congr 1
  refine List.map_congr_left fun s _ => ?_
  rw [Finset.sum_mul]
  refine Finset.sum_congr rfl fun t _ => ?_
  rw [show σ s t - N = (σ s t - M) + (M - N) by ring, Real.exp_add]; ring

theorem rescale_one (L : List κ) (M N : ℝ) :
    (L.map fun s => ∑ t, Real.exp (σ s t - M)).sum * Real.exp (M - N) = (L.map fun s => ∑ t, Real.exp (σ s t - N)).sum := by
  have := rescale σ L (fun _ _ => 1) M N
  simpa using this

theorem holds_next (s : κ) (L : List κ) (m l : EReal) (acc : ε → EReal) (h : Holds σ ν L m l acc) (N : ℝ) :
    Holds σ ν (s :: L) (N : EReal) (l * Ideal.exp (m - (N : EReal)) + ((∑ t, Real.exp (σ s t - N) : ℝ) : EReal))
      (fun e => acc e * Ideal.exp (m - (N : EReal)) + ((∑ t, Real.exp (σ s t - N) * ν s t e : ℝ) : EReal)) := by
  obtain ⟨M, rfl, rfl, ha⟩ := h
  refine ⟨N, rfl, ?_, fun e => ?_⟩
  · rw [exp_sub_coe, ← EReal.coe_mul, rescale_one, ← EReal.coe_add, List.map_cons, List.sum_cons, add_comm]
  · simp only []
    rw [ha e, exp_sub_coe, ← EReal.coe_mul, rescale σ L (fun s t => ν s t e), ← EReal.coe_add, List.map_cons, List.sum_cons, add_comm]

/-- A finished run's quotient is the weighted mean over every chunk. -/
theorem holds_div [Fintype κ] [Nonempty κ] (L : List κ) (hL : ∀ f : κ → ℝ, (L.map f).sum = ∑ s, f s) (m l : EReal) (acc : ε → EReal)
    (h : Holds σ ν L m l acc) (e : ε) :
    Ideal.div (acc e) l = ((att (fun j : κ × ι => σ j.1 j.2) (fun j => ν j.1 j.2 e) : ℝ) : EReal) := by
  obtain ⟨M, rfl, rfl, ha⟩ := h
  have h1 : (L.map fun s => ∑ t, Real.exp (σ s t - M)).sum = (∑ j : κ × ι, Real.exp (σ j.1 j.2)) * Real.exp (0 - M) := by
    rw [hL, Fintype.sum_prod_type, Finset.sum_mul]
    refine Finset.sum_congr rfl fun s _ => ?_
    rw [Finset.sum_mul]
    refine Finset.sum_congr rfl fun t _ => ?_
    rw [← Real.exp_add]; congr 1; ring
  have h2 : (L.map fun s => ∑ t, Real.exp (σ s t - M) * ν s t e).sum = (∑ j : κ × ι, Real.exp (σ j.1 j.2) * ν j.1 j.2 e) * Real.exp (0 - M) := by
    rw [hL, Fintype.sum_prod_type, Finset.sum_mul]
    refine Finset.sum_congr rfl fun s _ => ?_
    rw [Finset.sum_mul]
    refine Finset.sum_congr rfl fun t _ => ?_
    rw [show σ s t - M = σ s t + (0 - M) by ring, Real.exp_add]; ring
  have hp : 0 < ∑ j : κ × ι, Real.exp (σ j.1 j.2) := Finset.sum_pos (fun _ _ => Real.exp_pos _) Finset.univ_nonempty
  have he : Real.exp (0 - M) ≠ 0 := (Real.exp_pos _).ne'
  rw [ha e, h1, h2, div_real _ _ (mul_ne_zero hp.ne' he)]
  unfold att
  rw [mul_div_mul_right _ _ he]

/-- The same mean, as the weights divided first. -/
theorem att_eq (σ ν : ι → ℝ) (P : ℝ) :
    ∑ j, (ν j : EReal) * Ideal.div ((Real.exp (σ j - P) : ℝ) : EReal) ((∑ j, Real.exp (σ j - P) : ℝ) : EReal) = ((att σ ν : ℝ) : EReal) := by
  have hp : 0 < ∑ j : ι, Real.exp (σ j - P) := Finset.sum_pos (fun _ _ => Real.exp_pos _) Finset.univ_nonempty
  rw [sum_real _ _ (fun j => ν j * (Real.exp (σ j - P) / ∑ j, Real.exp (σ j - P))) (fun j => by rw [div_real _ _ hp.ne', ← EReal.coe_mul])]
  congr 1
  unfold att
  have he : Real.exp (0 - P) ≠ 0 := (Real.exp_pos _).ne'
  have h1 : ∑ j, Real.exp (σ j - P) = (∑ j, Real.exp (σ j)) * Real.exp (0 - P) := by
    rw [Finset.sum_mul]
    refine Finset.sum_congr rfl fun t _ => ?_
    rw [← Real.exp_add]; congr 1; ring
  have h2 : ∑ j, ν j * (Real.exp (σ j - P) / ∑ j, Real.exp (σ j - P)) = ((∑ j, Real.exp (σ j) * ν j) * Real.exp (0 - P)) / ∑ j, Real.exp (σ j - P) := by
    rw [Finset.sum_mul, Finset.sum_div]
    refine Finset.sum_congr rfl fun t _ => ?_
    rw [show σ t - P = σ t + (0 - P) by ring, Real.exp_add]; ring
  rw [h2, h1, mul_div_mul_right _ _ he]

/-- The mean over a relabelled index. -/
theorem att_equiv {ι' : Type*} [Fintype ι'] (φ : ι' ≃ ι) (σ ν : ι → ℝ) : att (fun j => σ (φ j)) (fun j => ν (φ j)) = att σ ν := by
  unfold att
  rw [φ.sum_comp (fun j => Real.exp (σ j) * ν j), φ.sum_comp (fun j => Real.exp (σ j))]

end

end Cert.Val

end
-- ==== Proof.SoftmaxIdeal.lean ====
/- What the kernel's running softmax holds after each chunk, over the extended reals. -/
module

public import proofs.«01_k».proof.Proof.ReadIdeal
public import proofs.«01_k».proof.Proof.Math

@[expose] public section

set_option maxRecDepth 16384

noncomputable section

namespace Cert.KernelIdeal.Prg

open Cert.KernelIdeal Cert.KernelIdeal.Gen Cert.Val
open Idealize.ShloMosaic

/-- A chunk's scores at row `i` are `σ` and its values `ν`. -/
def Reads (h : Fin 4) (q : FVec Ideal S256x256 .bf16) (mk : IVec S256x256 1) (B : Blk Ideal) (i : Fin 256) (σ : Fin 256 → ℝ) (ν : Fin 256 → Fin 64 → ℝ) : Prop :=
  (∀ t, scores h q mk B (ix2 i t) = ((σ t : ℝ) : EReal))
    ∧ ∀ (p : Fin 256 → ℝ) (P : FVec Ideal S256x256 .f32), (∀ t, P (ix2 i t) = ((p t : ℝ) : EReal)) →
      ∀ e, weigh h P B (ix2 i e) = ((∑ t, p t * ν t e : ℝ) : EReal)

theorem first_m (h : Fin 4) (q : FVec Ideal S256x256 .bf16) (mk : IVec S256x256 1) (B : Blk Ideal) : (first h q mk B).m = rowMax (scores h q mk B) := by
  simp only [first, firstMax]
theorem first_l (h : Fin 4) (q : FVec Ideal S256x256 .bf16) (mk : IVec S256x256 1) (B : Blk Ideal) :
    (first h q mk B).l = rowSum (weights (scores h q mk B) (rowMax (scores h q mk B))) := by
  simp only [first, firstMax]
theorem first_acc (h : Fin 4) (q : FVec Ideal S256x256 .bf16) (mk : IVec S256x256 1) (B : Blk Ideal) :
    (first h q mk B).acc = weigh h (weights (scores h q mk B) (rowMax (scores h q mk B))) B := by
  simp only [first, firstMax]
theorem next_m (h : Fin 4) (q : FVec Ideal S256x256 .bf16) (mk : IVec S256x256 1) (B : Blk Ideal) (R : Run Ideal) :
    (next h q mk B R).m = nextMax h q mk B R.m := by
  simp only [next]
theorem next_l (h : Fin 4) (q : FVec Ideal S256x256 .bf16) (mk : IVec S256x256 1) (B : Blk Ideal) (R : Run Ideal) :
    (next h q mk B R).l = addf (mulf R.l (fade h q mk B R.m)) (rowSum (weights (scores h q mk B) (nextMax h q mk B R.m))) := by
  simp only [next]
theorem next_acc (h : Fin 4) (q : FVec Ideal S256x256 .bf16) (mk : IVec S256x256 1) (B : Blk Ideal) (R : Run Ideal) :
    (next h q mk B R).acc = addf (mulf R.acc (broadcastTo S256x64 (fade h q mk B R.m) broadcasts_S256x1_S256x64))
      (weigh h (weights (scores h q mk B) (nextMax h q mk B R.m)) B) := by
  simp only [next]

section
variable {h : Fin 4} {q : FVec Ideal S256x256 .bf16} {mk : IVec S256x256 1} {B : Blk Ideal} {i : Fin 256}
variable {κ : Type} {σ : κ → Fin 256 → ℝ} {ν : κ → Fin 256 → Fin 64 → ℝ} {s : κ}

theorem weights_real (H : Reads h q mk B i (σ s) (ν s)) (m : FVec Ideal S256x1 .f32) (M : ℝ) (hm : m (ix2 i 0) = (M : EReal)) (t : Fin 256) :
    weights (scores h q mk B) m (ix2 i t) = ((Real.exp (σ s t - M) : ℝ) : EReal) := by
  rw [weights_read, H.1 t, hm, exp_sub_coe]

theorem peak_real (H : Reads h q mk B i (σ s) (ν s)) : ∃ M : ℝ, rowMax (scores h q mk B) (ix2 i 0) = (M : EReal) := by
  have ne : Nonempty (Fin 256) := ⟨0⟩
  have H1 := H.1
  have key := max_real (fun t => scores h q mk B (ix2 i t)) (σ s) H1
  obtain ⟨M, hM⟩ := key
  exact ⟨M, (rowMax_read _ i).trans hM⟩

/-- What a run holds at row `i`. -/
def At (σ : κ → Fin 256 → ℝ) (ν : κ → Fin 256 → Fin 64 → ℝ) (L : List κ) (R : Run Ideal) (i : Fin 256) : Prop :=
  Holds σ ν L (R.m (ix2 i 0)) (R.l (ix2 i 0)) (fun e => R.acc (ix2 i e))

theorem first_at (H : Reads h q mk B i (σ s) (ν s)) : At σ ν [s] (first h q mk B) i := by
  obtain ⟨M, hM⟩ := peak_real H
  have hm : (first h q mk B).m (ix2 i 0) = (M : EReal) := (congrFun (first_m h q mk B) _).trans hM
  have hw := weights_real H (rowMax (scores h q mk B)) M hM
  have hl : (first h q mk B).l (ix2 i 0) = ((∑ t, Real.exp (σ s t - M) : ℝ) : EReal) :=
    (congrFun (first_l h q mk B) _).trans ((rowSum_read _ i).trans (sum_real _ _ _ hw))
  have ha : (fun e => (first h q mk B).acc (ix2 i e)) = fun e => ((∑ t, Real.exp (σ s t - M) * ν s t e : ℝ) : EReal) :=
    funext fun e => (congrFun (first_acc h q mk B) _).trans (H.2 _ _ hw e)
  unfold At
  rw [hm, hl, ha]
  exact holds_first σ ν s M

theorem next_at {L : List κ} {R : Run Ideal} (H : Reads h q mk B i (σ s) (ν s)) (HR : At σ ν L R i) : At σ ν (s :: L) (next h q mk B R) i := by
  obtain ⟨M, hM⟩ := peak_real H
  have hm0 : ∃ N : ℝ, nextMax h q mk B R.m (ix2 i 0) = (N : EReal) := by
    obtain ⟨M0, h0, -⟩ := HR
    exact ⟨max M0 M, by rw [nextMax_read, hM, h0]; exact (EReal.coe_strictMono.monotone.map_max).symm⟩
  obtain ⟨N, hN⟩ := hm0
  have hw := weights_real H (nextMax h q mk B R.m) N hN
  have hf : fade h q mk B R.m (ix2 i 0) = Ideal.exp (R.m (ix2 i 0) - (N : EReal)) := by
    rw [← hN, ← fade_read]; rfl
  have hm : (next h q mk B R).m (ix2 i 0) = (N : EReal) := (congrFun (next_m h q mk B R) _).trans hN
  have hl : (next h q mk B R).l (ix2 i 0) = R.l (ix2 i 0) * Ideal.exp (R.m (ix2 i 0) - (N : EReal)) + ((∑ t, Real.exp (σ s t - N) : ℝ) : EReal) := by
    rw [← hf, ← sum_real _ _ _ hw, ← rowSum_read, next_l]
    rfl
  have ha : (fun e => (next h q mk B R).acc (ix2 i e)) = fun e => R.acc (ix2 i e) * Ideal.exp (R.m (ix2 i 0) - (N : EReal)) + ((∑ t, Real.exp (σ s t - N) * ν s t e : ℝ) : EReal) := by
    funext e
    rw [← hf, ← H.2 _ _ hw e, ← bcast_read (fade h q mk B R.m) i e, next_acc]
    rfl
  unfold At
  rw [hm, hl, ha]
  exact holds_next σ ν s L _ _ _ HR N

end

/-- The whole run over eight chunks. -/
theorem steps_at {h : Fin 4} {q : FVec Ideal S256x256 .bf16} {d : Dev nD} {i : Fin 256} {κ : Type}
    (σ : κ → Fin 256 → ℝ) (ν : κ → Fin 256 → Fin 64 → ℝ) (s0 s1 s2 s3 s4 s5 s6 s7 : κ)
    {w0 w1 w2 w3 w4 w5 w6 w7 : BitVec 32} {b0 b1 b2 b3 b4 b5 b6 b7 : Blk Ideal}
    (H0 : Reads h q (mask d w0) b0 i (σ s0) (ν s0))
    (H1 : Reads h q (mask d w1) b1 i (σ s1) (ν s1))
    (H2 : Reads h q (mask d w2) b2 i (σ s2) (ν s2))
    (H3 : Reads h q (mask d w3) b3 i (σ s3) (ν s3))
    (H4 : Reads h q (mask d w4) b4 i (σ s4) (ν s4))
    (H5 : Reads h q (mask d w5) b5 i (σ s5) (ν s5))
    (H6 : Reads h q (mask d w6) b6 i (σ s6) (ν s6))
    (H7 : Reads h q (mask d w7) b7 i (σ s7) (ν s7)) :
    At σ ν [s7, s6, s5, s4, s3, s2, s1, s0] (next h q (mask d w7) b7 (next h q (mask d w6) b6 (next h q (mask d w5) b5 (next h q (mask d w4) b4 (next h q (mask d w3) b3 (next h q (mask d w2) b2 (next h q (mask d w1) b1 (first h q (mask d w0) b0)))))))) i :=
  next_at H7 (next_at H6 (next_at H5 (next_at H4 (next_at H3 (next_at H2 (next_at H1 (first_at H0)))))))

end Cert.KernelIdeal.Prg

end
-- ==== Proof.RefIdeal.lean ====
/- The reference's result as named functions of the whole arrays. -/
module

public import proofs.«01_k».proof.Proof.Gen.ReferenceIdeal
public import proofs.«01_k».proof.Proof.Gen.ReferenceIdeal.Run

@[expose] public section

set_option maxRecDepth 16384

noncomputable section

namespace Cert.ReferenceIdeal.Fn

open Cert.ReferenceIdeal Cert.ReferenceIdeal.Gen
open Idealize.ShloMosaic

section Terms
variable {F : FTy → Type} [FloatOps F]

/-- The largest magnitude of each position's row, at least 1e-9. -/
def top (K : FVec F S2x2048x4x64 .f32) : FVec F S2x2048x1x1 .f32 :=
  maximumf (broadcastInDim S2x2048x1x1 ![0, 1] bcast_S2x2048_S2x2048x1x1_0_1 (Host.reduce FloatOps.maximumf (Host.absf K) (constant S_ .f32 0xFF800000#32) reducesTo_S2x2048x4x64_S2x2048_d2_3 h_S_))
    (broadcastInDim S2x2048x1x1 ![] bcast_S_S2x2048x1x1 (constant S_ .f32 0x3089705F#32))
/-- The rounded and clipped levels. -/
def levels (K : FVec F S2x2048x4x64 .f32) : FVec F S2x2048x4x64 .f32 :=
  minimumf (broadcastInDim S2x2048x4x64 ![] bcast_S_S2x2048x4x64 (constant S_ .f32 0x42FE0000#32)) (maximumf (broadcastInDim S2x2048x4x64 ![] bcast_S_S2x2048x4x64 (constant S_ .f32 0xC2FE0000#32))
    (Host.roundeven (mulf K (broadcastInDim S2x2048x4x64 ![0, 1, 2, 3] bcast_S2x2048x1x1_S2x2048x4x64_0_1_2_3 (Host.divf (broadcastInDim S2x2048x1x1 ![] bcast_S_S2x2048x1x1 (constant S_ .f32 0x42FE0000#32)) (top K))))))
/-- The array as the codes and scales give it back. -/
def deq (K : FVec F S2x2048x4x64 .f32) : FVec F S2x2048x4x64 .f32 :=
  mulf (sitofp .f32 (extsi 32 (trunci 8 (fptosi 32 (levels K)) natLt_8_32) natLt_8_32))
    (broadcastInDim S2x2048x4x64 ![0, 1, 2, 3] bcast_S2x2048x1x1_S2x2048x4x64_0_1_2_3 (Host.divf (top K) (broadcastInDim S2x2048x1x1 ![] bcast_S_S2x2048x1x1 (constant S_ .f32 0x42FE0000#32))))
/-- The queries. -/
def qry (x : FVec F S2x2048x512 .f32) (wq : FVec F S512x256 .f32) : FVec F S2x2048x4x64 .f32 :=
  shapeCast _ (Host.dotGeneral dot_S2x2048x512_S512x256_S2x2048x256_2_0_01_1_n_n none x wq) shapeCasts_S2x2048x256_S2x2048x4x64
/-- The block of 64 that a position lies in. -/
def blk : IVec S2048 32 :=
  select (andi (cmpi .ne (signi (iotaInDim S2048 32 0)) (broadcastInDim S2048 ![] bcast_S_S2048 (signi (constantI S_ 32 64#32)))) (cmpi .ne (Host.remsi (iotaInDim S2048 32 0) (broadcastInDim S2048 ![] bcast_S_S2048 (constantI S_ 32 64#32))) (broadcastInDim S2048 ![] bcast_S_S2048 (constantI S_ 32 0#32))))
    (subi (Host.divsi (iotaInDim S2048 32 0) (broadcastInDim S2048 ![] bcast_S_S2048 (constantI S_ 32 64#32))) (broadcastInDim S2048 ![] bcast_S_S2048 (constantI S_ 32 1#32))) (Host.divsi (iotaInDim S2048 32 0) (broadcastInDim S2048 ![] bcast_S_S2048 (constantI S_ 32 64#32)))
/-- The sum of the two blocks at each pair of positions, and three. -/
def blkSum : IVec S2048x2048 32 :=
  addi (broadcastInDim S2048x2048 ![0, 1] bcast_S2048x1_S2048x2048_0_1 (broadcastInDim S2048x1 ![0] bcast_S2048_S2048x1_0 blk)) (broadcastInDim S2048x2048 ![0, 1] bcast_S1x2048_S2048x2048_0_1 (broadcastInDim S1x2048 ![1] bcast_S2048_S1x2048_1 blk))
def three : IVec S_ 32 := select (cmpi .eq (constantI S_ 32 3#32) (constantI S_ 32 0#32)) (constantI S_ 32 1#32) (constantI S_ 32 3#32)
def blkRem : IVec S2048x2048 32 := Host.remsi blkSum (broadcastInDim S2048x2048 ![] bcast_S_S2048x2048 three)
def blkMod : IVec S2048x2048 32 :=
  select (andi (cmpi .ne (cmpi .slt blkRem (broadcastInDim S2048x2048 ![] bcast_S_S2048x2048 (constantI S_ 32 0#32))) (broadcastInDim S2048x2048 ![] bcast_S_S2048x2048 (cmpi .slt three (constantI S_ 32 0#32)))) (cmpi .ne blkRem (broadcastInDim S2048x2048 ![] bcast_S_S2048x2048 (constantI S_ 32 0#32))))
    (addi blkRem (broadcastInDim S2048x2048 ![] bcast_S_S2048x2048 three)) blkRem
/-- Which key each query may see. -/
def mask : IVec S2048x2048 1 :=
  ori (ori (cmpi .eq (broadcastInDim S2048x2048 ![0, 1] bcast_S2048x1_S2048x2048_0_1 (broadcastInDim S2048x1 ![0] bcast_S2048_S2048x1_0 blk)) (broadcastInDim S2048x2048 ![0, 1] bcast_S1x2048_S2048x2048_0_1 (broadcastInDim S1x2048 ![1] bcast_S2048_S1x2048_1 blk)))
      (broadcastInDim S2048x2048 ![0, 1] bcast_S1x2048_S2048x2048_0_1 (cmpi .eq (broadcastInDim S1x2048 ![1] bcast_S2048_S1x2048_1 blk) (broadcastInDim S1x2048 ![] bcast_S_S1x2048 (constantI S_ 32 0#32)))))
    (cmpi .eq blkMod (broadcastInDim S2048x2048 ![] bcast_S_S2048x2048 (constantI S_ 32 0#32)))
/-- Whether a query sees any key. -/
def keep : IVec S2048 1 := Host.reduce IntOp.ori mask (constantI S_ 1 0#1) reducesTo_S2048x2048_S2048_d1 h_S_
/-- The masked scores. -/
def scores (q k : FVec F S2x2048x4x64 .f32) : FVec F S2x4x2048x2048 .f32 :=
  select (broadcastInDim S2x4x2048x2048 ![0, 1, 2, 3] bcast_S1x1x2048x2048_S2x4x2048x2048_0_1_2_3 (broadcastInDim S1x1x2048x2048 ![2, 3] bcast_S2048x2048_S1x1x2048x2048_2_3 mask))
    (mulf (Host.dotGeneral dot_S2x2048x4x64_S2x2048x4x64_S2x4x2048x2048_3_3_1_1_02_02 none q k) (broadcastInDim S2x4x2048x2048 ![] bcast_S_S2x4x2048x2048 (constant S_ .f32 0x3E000000#32)))
    (broadcastInDim S2x4x2048x2048 ![] bcast_S_S2x4x2048x2048 (constant S_ .f32 0xCE6E6B28#32))
/-- The largest score of each row. -/
def peak (s : FVec F S2x4x2048x2048 .f32) : FVec F S2x4x2048 .f32 := Host.reduce FloatOps.maximumf s (constant S_ .f32 0xFF800000#32) reducesTo_S2x4x2048x2048_S2x4x2048_d3 h_S_
/-- The weights before they are divided by their sum. -/
def raw (s : FVec F S2x4x2048x2048 .f32) : FVec F S2x4x2048x2048 .f32 :=
  Host.exp (subf s (broadcastInDim S2x4x2048x2048 ![0, 1, 2, 3] bcast_S2x4x2048x1_S2x4x2048x2048_0_1_2_3 (broadcastInDim S2x4x2048x1 ![0, 1, 2] bcast_S2x4x2048_S2x4x2048x1_0_1_2 (peak s))))
/-- The sum of a row's weights. -/
def total (w : FVec F S2x4x2048x2048 .f32) : FVec F S2x4x2048 .f32 := Host.reduceAdd w (constant S_ .f32 0x00000000#32) reducesTo_S2x4x2048x2048_S2x4x2048_d3 h_S_
/-- What a row's weights are divided by. -/
def norm (w : FVec F S2x4x2048x2048 .f32) : FVec F S2x4x2048x1 .f32 :=
  select (broadcastInDim S2x4x2048x1 ![0, 1, 2, 3] bcast_S1x1x2048x1_S2x4x2048x1_0_1_2_3 (broadcastInDim S1x1x2048x1 ![2] bcast_S2048_S1x1x2048x1_2 keep))
    (broadcastInDim S2x4x2048x1 ![0, 1, 2] bcast_S2x4x2048_S2x4x2048x1_0_1_2 (total w)) (broadcastInDim S2x4x2048x1 ![] bcast_S_S2x4x2048x1 (constant S_ .f32 0x3F800000#32))
/-- The weights. -/
def weights (w : FVec F S2x4x2048x2048 .f32) : FVec F S2x4x2048x2048 .f32 :=
  select (broadcastInDim S2x4x2048x2048 ![0, 1, 2, 3] bcast_S1x1x2048x1_S2x4x2048x2048_0_1_2_3 (broadcastInDim S1x1x2048x1 ![2] bcast_S2048_S1x1x2048x1_2 keep))
    (Host.divf w (broadcastInDim S2x4x2048x2048 ![0, 1, 2, 3] bcast_S2x4x2048x1_S2x4x2048x2048_0_1_2_3 (norm w)))
    (broadcastInDim S2x4x2048x2048 ![] bcast_S_S2x4x2048x2048 (constant S_ .f32 0x00000000#32))
/-- The weighted values, heads side by side. -/
def ctx (w : FVec F S2x4x2048x2048 .f32) (v : FVec F S2x2048x4x64 .f32) : FVec F S2x2048x256 .f32 :=
  shapeCast _ (transpose S2x2048x4x64 [0, 3, 1, 2] (Host.dotGeneral dot_S2x2048x4x64_S2x4x2048x2048_S2x4x64x2048_1_3_3_2_02_01 none v w) transposes_S2x4x64x2048_S2x2048x4x64_0_3_1_2) shapeCasts_S2x2048x4x64_S2x2048x256
/-- The whole reference. -/
def out (x : FVec F S2x2048x512 .f32) (wq : FVec F S512x256 .f32) (K V : FVec F S2x2048x4x64 .f32) (wo : FVec F S256x512 .f32) : FVec F S2x2048x512 .f32 :=
  Host.dotGeneral dot_S2x2048x256_S256x512_S2x2048x512_2_0_01_1_n_n none (ctx (weights (raw (scores (qry x wq) (deq K)))) (deq V)) wo

/-- The result that the run states is this function of the arguments. -/
theorem res_eq (m : (ℓ : Loc nD τ sig) → Buf (Elt F) ℓ) (c : Dev nD) :
    Value.res_main_v82 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v82
  rfl

end Terms

end Cert.ReferenceIdeal.Fn

end
-- ==== Proof.RefReadIdeal.lean ====
/- The reference's functions read at an index over the extended reals. -/
module

public import proofs.«01_k».proof.Proof.RefIdeal
public import Idealize.ShloMosaic.Lib.Pointwise
public import Idealize.ShloMosaic.Lib.IdealHost
public import Idealize.ShloMosaic.PureOps.Ideal.Laws

@[expose] public section

set_option maxRecDepth 16384

noncomputable section

namespace Cert.ReferenceIdeal.Fn

open Cert.ReferenceIdeal Cert.ReferenceIdeal.Gen
open Idealize.ShloMosaic

/-! One broadcast or reduction at a time. -/

theorem bc1_read {α : Type} (x : S2x2048x1x1.Idx → α) (b : Fin 2) (i : Fin 2048) (h : Fin 4) (e : Fin 64) :
    broadcastInDim S2x2048x4x64 ![0, 1, 2, 3] bcast_S2x2048x1x1_S2x2048x4x64_0_1_2_3 x (ix4 b i h e) = x (ix4 b i 0 0) := by
  pointwise
theorem bc2_read {α : Type} (x : S2x2048.Idx → α) (b : Fin 2) (i : Fin 2048) :
    broadcastInDim S2x2048x1x1 ![0, 1] bcast_S2x2048_S2x2048x1x1_0_1 x (ix4 b i 0 0) = x (ix2 b i) := by
  pointwise
theorem bc3_read {α : Type} (x : S2x4x2048x1.Idx → α) (b : Fin 2) (h : Fin 4) (i j : Fin 2048) :
    broadcastInDim S2x4x2048x2048 ![0, 1, 2, 3] bcast_S2x4x2048x1_S2x4x2048x2048_0_1_2_3 x (ix4 b h i j) = x (ix4 b h i 0) := by
  pointwise
theorem bc4_read {α : Type} (x : S1x1x2048x1.Idx → α) (b : Fin 2) (h : Fin 4) (i j : Fin 2048) :
    broadcastInDim S2x4x2048x2048 ![0, 1, 2, 3] bcast_S1x1x2048x1_S2x4x2048x2048_0_1_2_3 x (ix4 b h i j) = x (ix4 0 0 i 0) := by
  pointwise
theorem bc5_read {α : Type} (x : S2048.Idx → α) (i : Fin 2048) :
    broadcastInDim S1x1x2048x1 ![2] bcast_S2048_S1x1x2048x1_2 x (ix4 0 0 i 0) = x (ix1 i) := by
  pointwise
theorem rowMax_read (K : FVec Ideal S2x2048x4x64 .f32) (v : FVec Ideal S_ .f32) (b : Fin 2) (i : Fin 2048) :
    Host.reduce FloatOps.maximumf K v reducesTo_S2x2048x4x64_S2x2048_d2_3 h_S_ (ix2 b i)
      = (Finset.univ : Finset (Fin 4 × Fin 64)).fold max (v (Shape.Idx.first h_S_)) (fun x => K (ix4 b i x.1 x.2)) := by
  pointwise

/-! The named functions. -/

theorem top_read (K : FVec Ideal S2x2048x4x64 .f32) (b : Fin 2) (i : Fin 2048) :
    top K (ix4 b i 0 0) = max ((Finset.univ : Finset (Fin 4 × Fin 64)).fold max (Ideal.ofBits .f32 0xFF800000#32) (fun x => FloatOps.absf (K (ix4 b i x.1 x.2))))
      (Ideal.ofBits .f32 0x3089705F#32) := by
  unfold top
  rw [ValueIdx.maximumf_apply, bc2_read, ValueIdx.broadcastInDim_scalar_apply, ValueIdx.constant_apply, rowMax_read]
  rfl
theorem levels_read (K : FVec Ideal S2x2048x4x64 .f32) (b : Fin 2) (i : Fin 2048) (h : Fin 4) (e : Fin 64) :
    levels K (ix4 b i h e) = min (Ideal.ofBits .f32 0x42FE0000#32) (max (Ideal.ofBits .f32 0xC2FE0000#32)
      (Ideal.liftRound Ideal.roundHalfEven (K (ix4 b i h e) * Ideal.div (Ideal.ofBits .f32 0x42FE0000#32) (top K (ix4 b i 0 0))))) := by
  unfold levels
  rw [ValueIdx.minimumf_apply, ValueIdx.maximumf_apply, ValueIdx.broadcastInDim_scalar_apply, ValueIdx.broadcastInDim_scalar_apply, ValueIdx.constant_apply, ValueIdx.constant_apply]
  refine congrArg (fun z => min _ (max _ (Ideal.liftRound Ideal.roundHalfEven z))) ?_
  rw [ValueIdx.mulf_apply, bc1_read, ValueIdx.hostDivf_apply, ValueIdx.broadcastInDim_scalar_apply, ValueIdx.constant_apply]
theorem deq_read (K : FVec Ideal S2x2048x4x64 .f32) (b : Fin 2) (i : Fin 2048) (h : Fin 4) (e : Fin 64) :
    deq K (ix4 b i h e) = (((BitVec.signExtend 32 (BitVec.setWidth 8 (Ideal.fptosi 32 (levels K (ix4 b i h e))))).toInt : ℝ) : EReal)
      * Ideal.div (top K (ix4 b i 0 0)) (Ideal.ofBits .f32 0x42FE0000#32) := by
  pointwise [deq]
  rfl
theorem qry_read (x : FVec Ideal S2x2048x512 .f32) (wq : FVec Ideal S512x256 .f32) (b : Fin 2) (i : Fin 2048) (h : Fin 4) (e : Fin 64) :
    qry x wq (ix4 b i h e) = ∑ k : Fin 512, x (ix3 b i k) * wq (ix2 k ⟨h.val * 64 + e.val, by omega⟩) := by
  pointwise [qry, dot_S2x2048x512_S512x256_S2x2048x256_2_0_01_1_n_n]

/-- The block of a position, as the reference computes it. -/
def blkOf (i : BitVec 32) : BitVec 32 :=
  Scalar.select
    (IntOp.andi
      (IntOp.cmpi CmpIPredicate.ne (if i = 0 then (0 : BitVec 32) else if i.msb = true then -1 else 1) (if 64#32 = 0 then (0 : BitVec 32) else if (64#32).msb = true then -1 else 1))
      (IntOp.cmpi CmpIPredicate.ne (IntOp.remsi ArithUnit.host i 64#32) 0#32))
    (IntOp.subi (IntOp.divsi ArithUnit.host i 64#32) 1#32)
    (IntOp.divsi ArithUnit.host i 64#32)

theorem blk_read (i : Fin 2048) : blk (ix1 i) = blkOf (BitVec.ofNat 32 i.val) := by
  pointwise [blk]
  rfl

/-- Three, as the reference computes it. -/
def threeOf : BitVec 32 := Scalar.select (IntOp.cmpi CmpIPredicate.eq 3#32 0#32) 1#32 3#32
/-- The remainder by three, as the reference computes it. -/
def modOf (s : BitVec 32) : BitVec 32 :=
  Scalar.select
    (IntOp.andi
      (IntOp.cmpi CmpIPredicate.ne (IntOp.cmpi CmpIPredicate.slt (IntOp.remsi ArithUnit.host s threeOf) 0#32) (IntOp.cmpi CmpIPredicate.slt threeOf 0#32))
      (IntOp.cmpi CmpIPredicate.ne (IntOp.remsi ArithUnit.host s threeOf) 0#32))
    (IntOp.addi (IntOp.remsi ArithUnit.host s threeOf) threeOf)
    (IntOp.remsi ArithUnit.host s threeOf)
/-- Whether a query of block `a` sees a key of block `b`. -/
def sees (a b : BitVec 32) : BitVec 1 :=
  IntOp.ori (IntOp.ori (IntOp.cmpi CmpIPredicate.eq a b) (IntOp.cmpi CmpIPredicate.eq b 0#32)) (IntOp.cmpi CmpIPredicate.eq (modOf (IntOp.addi a b)) 0#32)

theorem mask_read (i j : Fin 2048) : mask (ix2 i j) = sees (blk (ix1 i)) (blk (ix1 j)) := by
  pointwise [mask, blkMod, blkRem, blkSum, three]
  rfl
theorem keep_read (i : Fin 2048) : keep (ix1 i) = (Finset.univ : Finset (Fin 2048)).fold IntOp.ori 0#1 (fun x => mask (ix2 i x)) := by
  pointwise [keep]
theorem scores_read (q k : FVec Ideal S2x2048x4x64 .f32) (b : Fin 2) (h : Fin 4) (i j : Fin 2048) :
    scores q k (ix4 b h i j) = Scalar.select (mask (ix2 i j)) ((∑ x : Fin 64, q (ix4 b i h x) * k (ix4 b j h x)) * Ideal.ofBits .f32 0x3E000000#32) (Ideal.ofBits .f32 0xCE6E6B28#32) := by
  pointwise [scores, dot_S2x2048x4x64_S2x2048x4x64_S2x4x2048x2048_3_3_1_1_02_02]
theorem peak_read (s : FVec Ideal S2x4x2048x2048 .f32) (b : Fin 2) (h : Fin 4) (i : Fin 2048) :
    peak s (ix3 b h i) = (Finset.univ : Finset (Fin 2048)).fold max (Ideal.ofBits .f32 0xFF800000#32) (fun x => s (ix4 b h i x)) := by
  pointwise [peak]
theorem raw_read (s : FVec Ideal S2x4x2048x2048 .f32) (b : Fin 2) (h : Fin 4) (i j : Fin 2048) :
    raw s (ix4 b h i j) = Ideal.exp (s (ix4 b h i j) - peak s (ix3 b h i)) := by
  pointwise [raw]
theorem total_read (s : FVec Ideal S2x4x2048x2048 .f32) (b : Fin 2) (h : Fin 4) (i : Fin 2048) :
    total s (ix3 b h i) = ∑ x : Fin 2048, s (ix4 b h i x) := by
  pointwise [total]
theorem norm_read (s : FVec Ideal S2x4x2048x2048 .f32) (b : Fin 2) (h : Fin 4) (i : Fin 2048) :
    norm s (ix4 b h i 0) = Scalar.select (keep (ix1 i)) (total s (ix3 b h i)) 1 := by
  pointwise [norm]
theorem weights_read (s : FVec Ideal S2x4x2048x2048 .f32) (b : Fin 2) (h : Fin 4) (i j : Fin 2048) :
    weights s (ix4 b h i j) = Scalar.select (keep (ix1 i)) (Ideal.div (s (ix4 b h i j)) (norm s (ix4 b h i 0))) (Ideal.ofBits .f32 0x00000000#32) := by
  unfold weights
  rw [ValueIdx.select_apply, bc4_read, bc5_read, ValueIdx.hostDivf_apply, bc3_read, ValueIdx.broadcastInDim_scalar_apply, ValueIdx.constant_apply]
theorem ctx_read (w : FVec Ideal S2x4x2048x2048 .f32) (v : FVec Ideal S2x2048x4x64 .f32) (b : Fin 2) (i : Fin 2048) (k : Fin 256) :
    ctx w v (ix3 b i k) = ∑ x : Fin 2048, v (ix4 b x ⟨k.val / 64, by omega⟩ ⟨k.val % 64, by omega⟩) * w (ix4 b ⟨k.val / 64, by omega⟩ i x) := by
  pointwise [ctx, dot_S2x2048x4x64_S2x4x2048x2048_S2x4x64x2048_1_3_3_2_02_01]
theorem out_read (x : FVec Ideal S2x2048x512 .f32) (wq : FVec Ideal S512x256 .f32) (K V : FVec Ideal S2x2048x4x64 .f32) (wo : FVec Ideal S256x512 .f32) (b : Fin 2) (i : Fin 2048) (n : Fin 512) :
    out x wq K V wo (ix3 b i n) = ∑ k : Fin 256, ctx (weights (raw (scores (qry x wq) (deq K)))) (deq V) (ix3 b i k) * wo (ix2 k n) := by
  pointwise [out, dot_S2x2048x256_S256x512_S2x2048x512_2_0_01_1_n_n]

end Cert.ReferenceIdeal.Fn

end
-- ==== Proof.MaskIdeal.lean ====
/- The two programs' masks are the same, and every query sees itself. -/
module

public import proofs.«01_k».proof.Proof.ReadIdeal
public import proofs.«01_k».proof.Proof.RefReadIdeal

@[expose] public section

set_option maxRecDepth 16384

noncomputable section

namespace Cert.Val

open Idealize.ShloMosaic

theorem ref_blk : ∀ i : Fin 2048, Cert.ReferenceIdeal.Fn.blkOf (BitVec.ofNat 32 i.val) = BitVec.ofNat 32 (i.val / 64) := by
  decide +kernel
theorem ker_blk : ∀ i : Fin 256, Cert.KernelIdeal.Prg.inBlk (BitVec.ofNat 32 i.val) = BitVec.ofNat 32 (i.val / 64) := by
  decide +kernel
theorem word_blk : ∀ (c : Fin 8) (a : Fin 4), IntOp.addi (Scalar.muli (BitVec.ofNat 32 c.val) 4#32) (BitVec.ofNat 32 a.val) = BitVec.ofNat 32 (4 * c.val + a.val) := by
  decide +kernel
theorem sees_eq : ∀ a b : Fin 32, Cert.KernelIdeal.Prg.sees (BitVec.ofNat 32 a.val) (BitVec.ofNat 32 b.val)
    = Cert.ReferenceIdeal.Fn.sees (BitVec.ofNat 32 a.val) (BitVec.ofNat 32 b.val) := by
  decide +kernel
theorem sees_self : ∀ a : Fin 32, Cert.ReferenceIdeal.Fn.sees (BitVec.ofNat 32 a.val) (BitVec.ofNat 32 a.val) = 1#1 := by
  decide +kernel

/-- Position `t` of chunk `s` in the whole sequence. -/
def glob (s : Fin 8) (t : Fin 256) : Fin 2048 := ⟨256 * s.val + t.val, by omega⟩

theorem blkWord_eq (c : Fin 8) (i : Fin 256) :
    Cert.KernelIdeal.Prg.blkWord (BitVec.ofNat 32 c.val) (BitVec.ofNat 32 i.val) = BitVec.ofNat 32 ((glob c i).val / 64) := by
  unfold Cert.KernelIdeal.Prg.blkWord
  rw [ker_blk, word_blk c ⟨i.val / 64, by omega⟩]
  congr 1
  simp only [glob]; omega

theorem mask_eq (c s : Fin 8) (i t : Fin 256) :
    Cert.KernelIdeal.Prg.sees (Cert.KernelIdeal.Prg.blkWord (BitVec.ofNat 32 c.val) (BitVec.ofNat 32 i.val))
      (Cert.KernelIdeal.Prg.blkWord (BitVec.ofNat 32 s.val) (BitVec.ofNat 32 t.val))
      = Cert.ReferenceIdeal.Fn.mask (ix2 (glob c i) (glob s t)) := by
  rw [blkWord_eq, blkWord_eq, Cert.ReferenceIdeal.Fn.mask_read, Cert.ReferenceIdeal.Fn.blk_read, Cert.ReferenceIdeal.Fn.blk_read, ref_blk, ref_blk]
  exact sees_eq ⟨(glob c i).val / 64, by omega⟩ ⟨(glob s t).val / 64, by omega⟩

theorem mask_self (i : Fin 2048) : Cert.ReferenceIdeal.Fn.mask (ix2 i i) = 1#1 := by
  rw [Cert.ReferenceIdeal.Fn.mask_read, Cert.ReferenceIdeal.Fn.blk_read, ref_blk]
  exact sees_self ⟨i.val / 64, by omega⟩

theorem keep_one (i : Fin 2048) : Cert.ReferenceIdeal.Fn.keep (ix1 i) = 1#1 := by
  classical
  rw [Cert.ReferenceIdeal.Fn.keep_read, ← Finset.insert_erase (Finset.mem_univ i), Finset.fold_insert (Finset.notMem_erase i _), mask_self]
  have one : ∀ z : BitVec 1, IntOp.ori 1#1 z = 1#1 := by decide
  exact one _

end Cert.Val

end
-- ==== Proof.RefValIdeal.lean ====
/- The reference's result at an index: a weighted mean of the values, projected. -/
module

public import proofs.«01_k».proof.Proof.RefReadIdeal
public import proofs.«01_k».proof.Proof.MaskIdeal
public import proofs.«01_k».proof.Proof.Math

@[expose] public section

set_option maxRecDepth 16384

noncomputable section

namespace Cert.ReferenceIdeal.Fn

open Cert.ReferenceIdeal Cert.ReferenceIdeal.Gen Cert.Val
open Idealize.ShloMosaic

/-- The dequantised value. -/
def dq (K : FVec Ideal S2x2048x4x64 .f32) (b : Fin 2) (j : Fin 2048) (h : Fin 4) (e : Fin 64) : ℝ :=
  deqR (K (ix4 b j h e)) (top K (ix4 b j 0 0))

theorem top_rowTop (K : FVec Ideal S2x2048x4x64 .f32) (b : Fin 2) (j : Fin 2048) : RowTop (top K (ix4 b j 0 0)) := by
  rw [top_read]; exact rowTop_max _

theorem levels_lvl (K : FVec Ideal S2x2048x4x64 .f32) (b : Fin 2) (j : Fin 2048) (h : Fin 4) (e : Fin 64) :
    levels K (ix4 b j h e) = lvl (K (ix4 b j h e)) (top K (ix4 b j 0 0)) := by
  rw [levels_read, c_127, c_m127]; rfl

theorem deq_dq (K : FVec Ideal S2x2048x4x64 .f32) (b : Fin 2) (j : Fin 2048) (h : Fin 4) (e : Fin 64) :
    deq K (ix4 b j h e) = ((dq K b j h e : ℝ) : EReal) := by
  rw [deq_read, levels_lvl, fptosi32, c_127]
  exact deq_eq _ _ (top_rowTop K b j)

/-- The score of a query and a key. -/
def sg (q : Fin 64 → ℝ) (k : Fin 64 → ℝ) (bit : BitVec 1) : ℝ := if bit = 1#1 then (∑ e, q e * k e) * (1 / 8) else -1000000000

theorem select_sg (q k : Fin 64 → ℝ) (bit : BitVec 1) :
    Scalar.select bit ((((∑ e, q e * k e) * (1 / 8) : ℝ)) : EReal) (((-1000000000 : ℝ)) : EReal) = ((sg q k bit : ℝ) : EReal) := by
  unfold sg Scalar.select
  split_ifs <;> first | rfl | (exfalso; simp_all)

variable (X : FVec Ideal S2x2048x512 .f32) (Wq : FVec Ideal S512x256 .f32) (K V : FVec Ideal S2x2048x4x64 .f32) (Wo : FVec Ideal S256x512 .f32)

/-- Every query is a real. -/
theorem qry_real (hX : ∀ b i k, ∃ r : ℝ, X (ix3 b i k) = (r : EReal)) (hW : ∀ k n, ∃ r : ℝ, Wq (ix2 k n) = (r : EReal)) :
    ∃ q : Fin 2 → Fin 2048 → Fin 4 → Fin 64 → ℝ, ∀ b i h e, qry X Wq (ix4 b i h e) = ((q b i h e : ℝ) : EReal) := by
  choose xr hx using hX
  choose wr hw using hW
  refine ⟨fun b i h e => ∑ k, xr b i k * wr k ⟨h.val * 64 + e.val, by omega⟩, fun b i h e => ?_⟩
  rw [qry_read]
  exact sum_real _ _ _ fun k => by rw [hx, hw, ← EReal.coe_mul]

theorem out_att (q : Fin 2 → Fin 2048 → Fin 4 → Fin 64 → ℝ) (hq : ∀ b i h e, qry X Wq (ix4 b i h e) = ((q b i h e : ℝ) : EReal))
    (b : Fin 2) (i : Fin 2048) (n : Fin 512) :
    out X Wq K V Wo (ix3 b i n) = ∑ k : Fin 256,
      ((att (fun j : Fin 2048 => sg (q b i ⟨k.val / 64, by omega⟩) (dq K b j ⟨k.val / 64, by omega⟩) (mask (ix2 i j)))
        (fun j => dq V b j ⟨k.val / 64, by omega⟩ ⟨k.val % 64, by omega⟩) : ℝ) : EReal) * Wo (ix2 k n) := by
  rw [out_read]
  refine Finset.sum_congr rfl fun k _ => congrArg (· * Wo (ix2 k n)) ?_
  generalize hh : (⟨k.val / 64, by omega⟩ : Fin 4) = h
  generalize he : (⟨k.val % 64, by omega⟩ : Fin 64) = e
  rw [ctx_read, hh, he]
  set S := scores (qry X Wq) (deq K) with hS
  have hs : ∀ j, S (ix4 b h i j) = ((sg (q b i h) (dq K b j h) (mask (ix2 i j)) : ℝ) : EReal) := by
    intro j
    rw [hS, scores_read, c_eighth, c_low, sum_real _ _ (fun e => q b i h e * dq K b j h e) (fun e => by rw [hq, deq_dq, ← EReal.coe_mul]), ← EReal.coe_mul]
    exact select_sg _ _ _
  obtain ⟨P, hP⟩ : ∃ P : ℝ, peak S (ix3 b h i) = (P : EReal) := by
    rw [peak_read]; exact max_real _ _ hs
  have hr : ∀ j, raw S (ix4 b h i j) = ((Real.exp (sg (q b i h) (dq K b j h) (mask (ix2 i j)) - P) : ℝ) : EReal) := by
    intro j; rw [raw_read, hs, hP, exp_sub_coe]
  have ht : total (raw S) (ix3 b h i) = ((∑ j, Real.exp (sg (q b i h) (dq K b j h) (mask (ix2 i j)) - P) : ℝ) : EReal) := by
    rw [total_read]; exact sum_real _ _ _ hr
  rw [← att_eq _ _ P]
  refine Finset.sum_congr rfl fun j _ => ?_
  rw [weights_read, norm_read, keep_one, hr, ht, deq_dq]
  rfl

end Cert.ReferenceIdeal.Fn

end
-- ==== Proof.ChunksIdeal.lean ====
/- The kernel's chunks against the whole arrays, and its result at an index over the extended reals. -/
module

public import proofs.«01_k».proof.Proof.StepsIdeal
public import proofs.«01_k».proof.Proof.SoftmaxIdeal
public import proofs.«01_k».proof.Proof.RefValIdeal

@[expose] public section

set_option maxRecDepth 16384

noncomputable section

namespace Cert.KernelIdeal.Prg

open Cert.KernelIdeal Cert.KernelIdeal.Gen Cert.Val
open Idealize.ShloMosaic

/-! ## Words and orders -/

theorem word0 : ∀ c : Dev nD, myW c = BitVec.ofNat 32 c.val := by decide +kernel
theorem word1 : ∀ c : Dev nD, cycW c 4294967295#32 = BitVec.ofNat 32 (got 0 c).val := by decide +kernel
theorem word2 : ∀ c : Dev nD, cycW c 1#32 = BitVec.ofNat 32 (got 1 c).val := by decide +kernel
theorem word3 : ∀ c : Dev nD, selW c (cycW c 3#32) (cycW c 4294967293#32) = BitVec.ofNat 32 (got 2 c).val := by decide +kernel
theorem word4 : ∀ c : Dev nD, cycW c 4294967294#32 = BitVec.ofNat 32 (got 3 c).val := by decide +kernel
theorem word5 : ∀ c : Dev nD, cycW c 2#32 = BitVec.ofNat 32 (got 4 c).val := by decide +kernel
theorem word6 : ∀ c : Dev nD, cycW c 4#32 = BitVec.ofNat 32 (got 5 c).val := by decide +kernel
theorem word7 : ∀ c : Dev nD, selW c (cycW c 4294967293#32) (cycW c 3#32) = BitVec.ofNat 32 (got 6 c).val := by decide +kernel

theorem order_perm : ∀ c : Dev nD, List.Perm [got 6 c, got 5 c, got 4 c, got 3 c, got 2 c, got 1 c, got 0 c, c] (List.finRange nD) := by
  decide +kernel

theorem order_sum (c : Dev nD) (f : Dev nD → ℝ) :
    ([got 6 c, got 5 c, got 4 c, got 3 c, got 2 c, got 1 c, got 0 c, c].map f).sum = ∑ s, f s := by
  rw [((order_perm c).map f).sum_eq, Fin.sum_univ_def]

/-! ## Indices -/

/-- A column as a head and a place in it. -/
def cols : Fin 256 ≃ Fin 4 × Fin 64 where
  toFun k := (⟨k.val / 64, by omega⟩, ⟨k.val % 64, by omega⟩)
  invFun p := ⟨64 * p.1.val + p.2.val, by omega⟩
  left_inv k := Fin.ext (by simp only []; omega)
  right_inv p := by
    obtain ⟨h, e⟩ := p
    exact Prod.ext (Fin.ext (by simp only []; omega)) (Fin.ext (by simp only []; omega))

/-- A position as a chunk and a place in it. -/
def places : Fin 8 × Fin 256 ≃ Fin 2048 where
  toFun p := glob p.1 p.2
  invFun j := (⟨j.val / 256, by omega⟩, ⟨j.val % 256, by omega⟩)
  left_inv p := by
    obtain ⟨s, t⟩ := p
    exact Prod.ext (Fin.ext (by simp only [glob]; omega)) (Fin.ext (by simp only [glob]; omega))
  right_inv j := Fin.ext (by simp only [glob]; omega)

theorem fold_cols (b : EReal) (g : Fin 4 × Fin 64 → EReal) :
    (Finset.univ : Finset (Fin 256)).fold max b (fun k => g (cols k)) = (Finset.univ : Finset (Fin 4 × Fin 64)).fold max b g := by
  rw [← Finset.map_univ_equiv cols, Finset.fold_map]
  rfl

theorem i3_eq {n0 n1 n2 : Nat} (a : Fin n0) (b : Fin n1) (c : Fin n2) : i3 a b c = ix3 a b c := by
  funext k; fin_cases k <;> rfl
theorem i4_eq {n0 n1 n2 n3 : Nat} (a : Fin n0) (b : Fin n1) (c : Fin n2) (d : Fin n3) : i4 a b c d = ix4 a b c d := by
  funext k; fin_cases k <;> rfl

/-! ## One device's rows against the whole arrays -/

section
variable {x : Vec Ideal S2x256x4x64 .f32} {K : FVec Ideal Cert.ReferenceIdeal.S2x2048x4x64 .f32} {s : Fin 8}
variable (hx : ∀ b t h e, x (ix4 b t h e) = K (ix4 b (glob s t) h e))

include hx

theorem top_eq (b : Fin 2) (t : Fin 256) : top x (ix3 b t 0) = Cert.ReferenceIdeal.Fn.top K (ix4 b (glob s t) 0 0) := by
  rw [top_read, Cert.ReferenceIdeal.Fn.top_read, ← fold_cols]
  refine congrArg (fun f => max (Finset.fold max _ f _) _) (funext fun k => ?_)
  rw [rows_read, hx]
  rfl

theorem codes_eq (b : Fin 2) (t : Fin 256) (h : Fin 4) (e : Fin 64) (j : Fin 256) (hj : j.val = 64 * h.val + e.val) :
    BitVec.toInt (codes x (ix3 b t j) : BitVec 8) = code (K (ix4 b (glob s t) h e)) (Cert.ReferenceIdeal.Fn.top K (ix4 b (glob s t) 0 0)) := by
  have hh : (⟨j.val / 64, by omega⟩ : Fin 4) = h := Fin.ext (by simp only []; omega)
  have he : (⟨j.val % 64, by omega⟩ : Fin 64) = e := Fin.ext (by simp only []; omega)
  rw [codes_read, rows_read, hh, he, hx, top_eq hx, c_127]
  have h1 : ((((127#32).toInt : ℝ)) : EReal) = ((127 : ℝ) : EReal) := by
    have : (127#32).toInt = 127 := by decide
    rw [this]; norm_num
  have h2 : ((((4294967169#32).toInt : ℝ)) : EReal) = ((-127 : ℝ) : EReal) := by
    have : (4294967169#32).toInt = -127 := by decide
    rw [this]; norm_num
  rw [h1, h2]
  exact fptosi8 _ _

end

/-! ## The kernel's blocks against the whole arrays -/

variable (m : (ℓ : Loc nD τ sig) → Buf (Elt Ideal) ℓ)
variable (X : FVec Ideal Cert.ReferenceIdeal.S2x2048x512 .f32) (Wq : FVec Ideal Cert.ReferenceIdeal.S512x256 .f32)
variable (K V : FVec Ideal Cert.ReferenceIdeal.S2x2048x4x64 .f32) (Wo : FVec Ideal Cert.ReferenceIdeal.S256x512 .f32)

/-- Each device holds its part of the whole arrays. -/
structure Agrees : Prop where
  x : ∀ c b i k, stgX m c (ix3 b i k) = X (ix3 b (glob c i) k)
  wq : ∀ c k n, stgWq m c (ix2 k n) = Wq (ix2 k n)
  k : ∀ c b t h e, stgK m c (ix4 b t h e) = K (ix4 b (glob c t) h e)
  v : ∀ c b t h e, stgV m c (ix4 b t h e) = V (ix4 b (glob c t) h e)
  wo : ∀ c k n, stgWo m c (ix2 k n) = Wo (ix2 k n)

variable {m X Wq K V Wo} (A : Agrees m X Wq K V Wo)
include A

theorem keys_eq (s : Dev nD) (b : Fin 2) (t : Fin 256) (h : Fin 4) (e : Fin 64) :
    headOf h (blkOf m s b).keys (ix2 t e) = ((code (K (ix4 b (glob s t) h e)) (Cert.ReferenceIdeal.Fn.top K (ix4 b (glob s t) 0 0)) : ℝ) : EReal) := by
  rw [headOf_read, keys_read]
  refine congrArg (fun z : ℤ => ((z : ℝ) : EReal)) ?_
  rw [← codes_eq (A.k s) b t h e ⟨64 * h.val + e.val, by omega⟩ rfl, ← codesOut_read, ← i4_eq]
  refine congrArg BitVec.toInt ?_
  show kvAt m s b t ⟨64 * h.val + e.val, _⟩ = _
  unfold kvAt
  exact dif_pos _

theorem vals_eq (s : Dev nD) (b : Fin 2) (t : Fin 256) (h : Fin 4) (e : Fin 64) :
    headOf h (blkOf m s b).vals (ix2 t e) = ((code (V (ix4 b (glob s t) h e)) (Cert.ReferenceIdeal.Fn.top V (ix4 b (glob s t) 0 0)) : ℝ) : EReal) := by
  rw [headOf_read, vals_read]
  refine congrArg (fun z : ℤ => ((z : ℝ) : EReal)) ?_
  rw [← codes_eq (A.v s) b t h e ⟨256 + (64 * h.val + e.val) - 256, by omega⟩ (by simp only []; omega), ← codesOut_read, ← i4_eq]
  refine congrArg BitVec.toInt ?_
  show kvAt m s b t ⟨256 + (64 * h.val + e.val), _⟩ = _
  unfold kvAt
  exact dif_neg (by simp only []; omega)

theorem sk_eq (s : Dev nD) (b : Fin 2) (t : Fin 256) : (blkOf m s b).sk (ix4 0 0 0 t) = Cert.ReferenceIdeal.Fn.top K (ix4 b (glob s t) 0 0) := by
  rw [← top_eq (A.k s) b t, ← topOut_read, ← i4_eq]
  show scAt m s 0 b t = _
  unfold scAt
  exact if_pos rfl

theorem sv_eq (s : Dev nD) (b : Fin 2) (t : Fin 256) : (blkOf m s b).sv (ix4 0 0 0 t) = Cert.ReferenceIdeal.Fn.top V (ix4 b (glob s t) 0 0) := by
  rw [← top_eq (A.v s) b t, ← topOut_read, ← i4_eq]
  show scAt m s 1 b t = _
  unfold scAt
  exact if_neg (by decide)

theorem queries_eq (c : Dev nD) (b : Fin 2) (i : Fin 256) (h : Fin 4) (e : Fin 64) :
    headOf h (queries (stgWq m c) (xAt m c b)) (ix2 i e) = Cert.ReferenceIdeal.Fn.qry X Wq (ix4 b (glob c i) h e) := by
  rw [headOf_read, queries_read, Cert.ReferenceIdeal.Fn.qry_read]
  refine Finset.sum_congr rfl fun k _ => ?_
  rw [A.wq, show xAt m c b (ix3 0 i k) = stgX m c (i3 b i k) from rfl, i3_eq, A.x]
  refine congrArg (fun z => _ * Wq (ix2 k z)) (Fin.ext ?_)
  simp only []; omega

theorem reads_eq (q : Fin 2 → Fin 2048 → Fin 4 → Fin 64 → ℝ) (hq : ∀ b i h e, Cert.ReferenceIdeal.Fn.qry X Wq (ix4 b i h e) = ((q b i h e : ℝ) : EReal))
    (c s : Dev nD) (b : Fin 2) (i : Fin 256) (h : Fin 4) (w : BitVec 32) (hw : w = BitVec.ofNat 32 s.val) :
    Reads h (queries (stgWq m c) (xAt m c b)) (mask c w) (blkOf m s b) i
      (fun t => Cert.ReferenceIdeal.Fn.sg (q b (glob c i) h) (Cert.ReferenceIdeal.Fn.dq K b (glob s t) h) (Cert.ReferenceIdeal.Fn.mask (ix2 (glob c i) (glob s t))))
      (fun t e => Cert.ReferenceIdeal.Fn.dq V b (glob s t) h e) := by
  refine ⟨fun t => ?_, fun p P hP e => ?_⟩
  · rw [scores_read, mask_read, hw, word0, mask_eq, c_low, skf_read, sk_eq A, ← Cert.ReferenceIdeal.Fn.select_sg]
    refine congrArg (fun z => Scalar.select _ z _) ?_
    refine Eq.trans ?_ (score_eq (q b (glob c i) h) (fun e => K (ix4 b (glob s t) h e)) _ (Cert.ReferenceIdeal.Fn.top_rowTop K b (glob s t)))
    refine congrArg (· * _) (Finset.sum_congr rfl fun e _ => ?_)
    rw [queries_eq A, keys_eq A, hq]
  · rw [weigh_read]
    refine sum_real _ _ _ fun t => ?_
    rw [hP, svf_read, sv_eq A, vals_eq A]
    exact weigh_eq _ _ _ (Cert.ReferenceIdeal.Fn.top_rowTop V b (glob s t))

/-- One head's context at a row. -/
theorem ctx_eq (q : Fin 2 → Fin 2048 → Fin 4 → Fin 64 → ℝ) (hq : ∀ b i h e, Cert.ReferenceIdeal.Fn.qry X Wq (ix4 b i h e) = ((q b i h e : ℝ) : EReal))
    (c : Dev nD) (b : Fin 2) (i : Fin 256) (h : Fin 4) (e : Fin 64) :
    ctx (runAll h (queries (stgWq m c) (xAt m c b)) c (chunksAt m c b)) (ix2 i e)
      = ((att (fun j : Fin 2048 => Cert.ReferenceIdeal.Fn.sg (q b (glob c i) h) (Cert.ReferenceIdeal.Fn.dq K b j h) (Cert.ReferenceIdeal.Fn.mask (ix2 (glob c i) j)))
        (fun j => Cert.ReferenceIdeal.Fn.dq V b j h e) : ℝ) : EReal) := by
  have H := steps_at (h := h) (q := queries (stgWq m c) (xAt m c b)) (d := c) (i := i)
    (fun s t => Cert.ReferenceIdeal.Fn.sg (q b (glob c i) h) (Cert.ReferenceIdeal.Fn.dq K b (glob s t) h) (Cert.ReferenceIdeal.Fn.mask (ix2 (glob c i) (glob s t))))
    (fun s t e => Cert.ReferenceIdeal.Fn.dq V b (glob s t) h e) c (got 0 c) (got 1 c) (got 2 c) (got 3 c) (got 4 c) (got 5 c) (got 6 c)
    (reads_eq A q hq c c b i h _ (word0 c)) (reads_eq A q hq c (got 0 c) b i h _ (word1 c)) (reads_eq A q hq c (got 1 c) b i h _ (word2 c))
    (reads_eq A q hq c (got 2 c) b i h _ (word3 c)) (reads_eq A q hq c (got 3 c) b i h _ (word4 c)) (reads_eq A q hq c (got 4 c) b i h _ (word5 c))
    (reads_eq A q hq c (got 5 c) b i h _ (word6 c)) (reads_eq A q hq c (got 6 c) b i h _ (word7 c))
  rw [ctx_read]
  simp only [runAll, chunksAt, chunks]
  have ne : Nonempty (Fin 256) := ⟨0⟩
  have ne8 : Nonempty (Fin 8) := ⟨0⟩
  refine (holds_div _ _ _ (order_sum c) _ _ _ H e).trans ?_
  refine congrArg (fun r : ℝ => (r : EReal)) ?_
  exact att_equiv places (fun j : Fin 2048 => Cert.ReferenceIdeal.Fn.sg (q b (glob c i) h) (Cert.ReferenceIdeal.Fn.dq K b j h) (Cert.ReferenceIdeal.Fn.mask (ix2 (glob c i) j)))
    (fun j => Cert.ReferenceIdeal.Fn.dq V b j h e)

/-- The kernel's block of the result is the reference's. -/
theorem outAt_eq (q : Fin 2 → Fin 2048 → Fin 4 → Fin 64 → ℝ) (hq : ∀ b i h e, Cert.ReferenceIdeal.Fn.qry X Wq (ix4 b i h e) = ((q b i h e : ℝ) : EReal))
    (c : Dev nD) (b : Fin 2) (i : Fin 256) (n : Fin 512) :
    outRow m c b (ix3 0 i n) = Cert.ReferenceIdeal.Fn.out X Wq K V Wo (ix3 b (glob c i) n) := by
  rw [Cert.ReferenceIdeal.Fn.out_att X Wq K V Wo q hq]
  refine (project_read (stgWo m c) (fun h => runAll h (queries (stgWq m c) (xAt m c b)) c (chunksAt m c b)) i n).trans ?_
  refine Finset.sum_congr rfl fun k _ => ?_
  rw [A.wo, ctx_eq A q hq]

end Cert.KernelIdeal.Prg

end
-- ==== Proof.Value.lean ====
/- The value claim: every device's block of the result is the reference's, over the extended reals. -/
module

public import proofs.«01_k».proof.Defs
public import proofs.«01_k».proof.Proof.LaunchIdeal
public import proofs.«01_k».proof.Proof.ChunksIdeal
public import proofs.«01_k».proof.Proof.Gen.ReferenceIdeal
public import proofs.«01_k».proof.Proof.Gen.ReferenceIdeal.Run
public import proofs.«01_k».proof.Proof.Gen.Pre_finite_queries_KernelIdeal
public import Idealize.ShloMosaic.Lib.ReduceAll
public import Idealize.ShloMosaic.Lib.Layout

@[expose] public section

set_option maxRecDepth 16384

noncomputable section

namespace Cert.Claims

open Idealize.ShloMosaic Idealize.SL.Sem
open Cert.Val

/-! ## Finite arguments -/

theorem finite_of_bit (a : EReal) (h : Ideal.cmp .olt (max a (-a)) (Ideal.ofBits .f32 0x7F800000#32) = 1#1) : ∃ r : ℝ, a = (r : EReal) := by
  rw [c_top] at h
  induction a using EReal.rec with
  | coe r => exact ⟨r, rfl⟩
  | bot => exfalso; simp [Ideal.cmp] at h
  | top => exfalso; simp [Ideal.cmp] at h

section
open Cert.Pre_finite_queries_KernelIdeal Cert.Pre_finite_queries_KernelIdeal.Facts

theorem finite_args (x : FVec Ideal S2x256x512 .f32) (wq : FVec Ideal S512x256 .f32) (k v : FVec Ideal S2x256x4x64 .f32) (wo : FVec Ideal S256x512 .f32)
    (h : Cert.Pre_finite_queries_KernelIdeal.fn (F := Ideal) x wq k v wo = fun _ => 1#1) :
    (∀ i, ∃ r : ℝ, x i = (r : EReal)) ∧ ∀ i, ∃ r : ℝ, wq i = (r : EReal) := by
  have h0 := congrFun h (Shape.Idx.first h_S_)
  obtain ⟨h1, h2⟩ := IntOp.andi_eq_one.1 h0
  have sub : Subsingleton S_.Idx := ⟨fun a b => funext fun k => k.elim0⟩
  exact ⟨fun i => finite_of_bit _ (Host.reduce_andi_all _ _ _ _ _ h1 i), fun i => finite_of_bit _ (Host.reduce_andi_all _ _ _ _ _ h2 i)⟩

end

/-! ## Whole blocks -/

section
open Cert.KernelIdeal Cert.KernelIdeal.Gen Cert.KernelIdeal.Prg

variable (m : (ℓ : Loc nD τ sig) → Buf (Elt Ideal) ℓ)

theorem stgX_whole (c : Dev nD) : stgX m c = m ((c.tc : Thread nD τ).loc main_arg0) :=
  Memref.read_access_unit_zero (Elt Ideal) main_arg0 (off := fun a => (win0_0.index (0 : Fin 1)) a * main_arg0.ty.shape.size a)
    (funext fun a => by fin_cases a <;> decide) (fun a => by fin_cases a <;> decide) _
theorem stgWq_whole (c : Dev nD) : stgWq m c = m ((c.tc : Thread nD τ).loc main_arg1) :=
  Memref.read_access_unit_zero (Elt Ideal) main_arg1 (off := fun a => (win0_1.index (0 : Fin 1)) a * main_arg1.ty.shape.size a)
    (funext fun a => by fin_cases a <;> decide) (fun a => by fin_cases a <;> decide) _
theorem stgK_whole (c : Dev nD) : stgK m c = m ((c.tc : Thread nD τ).loc main_arg2) :=
  Memref.read_access_unit_zero (Elt Ideal) main_arg2 (off := fun a => (win0_2.index (0 : Fin 1)) a * main_arg2.ty.shape.size a)
    (funext fun a => by fin_cases a <;> decide) (fun a => by fin_cases a <;> decide) _
theorem stgV_whole (c : Dev nD) : stgV m c = m ((c.tc : Thread nD τ).loc main_arg3) :=
  Memref.read_access_unit_zero (Elt Ideal) main_arg3 (off := fun a => (win0_3.index (0 : Fin 1)) a * main_arg3.ty.shape.size a)
    (funext fun a => by fin_cases a <;> decide) (fun a => by fin_cases a <;> decide) _
theorem stgWo_whole (c : Dev nD) : stgWo m c = m ((c.tc : Thread nD τ).loc main_arg4) :=
  Memref.read_access_unit_zero (Elt Ideal) main_arg4 (off := fun a => (win0_4.index (0 : Fin 1)) a * main_arg4.ty.shape.size a)
    (funext fun a => by fin_cases a <;> decide) (fun a => by fin_cases a <;> decide) _
theorem out_whole (f : main_v1.ty.Contents (Elt Ideal)) : (win0_5.blk (0 : Fin 1)).view.read (Elt Ideal) f = f :=
  Memref.read_access_unit_zero (Elt Ideal) main_v1 (off := fun a => (win0_5.index (0 : Fin 1)) a * main_v1.ty.shape.size a)
    (funext fun a => by fin_cases a <;> decide) (fun a => by fin_cases a <;> decide) _

end

/-! ## Blocks of the whole arrays -/

theorem block3 (c : Fin 8) (v : (⟨3, ![2, 2048, 512]⟩ : Shape).Idx → EReal) (b : Fin 2) (i : Fin 256) (k : Fin 512) :
    Layout.block ⟨3, ![2, 256, 512]⟩ ⟨3, ![2, 2048, 512]⟩ 1 8 c v (by decide) (ix3 b i k) = v (ix3 b (glob c i) k) := by
  rw [Layout.block_apply]
  refine congrArg v (funext fun a => Fin.ext ?_)
  rw [Layout.Tiles.idx_val]
  fin_cases a
  · rfl
  · show c.val * 256 + i.val = 256 * c.val + i.val
    omega
  · rfl

theorem block4 (c : Fin 8) (v : (⟨4, ![2, 2048, 4, 64]⟩ : Shape).Idx → EReal) (b : Fin 2) (i : Fin 256) (h : Fin 4) (e : Fin 64) :
    Layout.block ⟨4, ![2, 256, 4, 64]⟩ ⟨4, ![2, 2048, 4, 64]⟩ 1 8 c v (by decide) (ix4 b i h e) = v (ix4 b (glob c i) h e) := by
  rw [Layout.block_apply]
  refine congrArg v (funext fun a => Fin.ext ?_)
  rw [Layout.Tiles.idx_val]
  fin_cases a
  · rfl
  · show c.val * 256 + i.val = 256 * c.val + i.val
    omega
  · rfl
  · rfl

theorem ix3_self (i : (⟨3, ![2, 256, 512]⟩ : Shape).Idx) : ix3 (i 0) (i 1) (i 2) = i := by
  funext a; fin_cases a <;> rfl

theorem out_block {m : (ℓ : Loc Cert.KernelIdeal.nD Cert.KernelIdeal.τ Cert.KernelIdeal.sig) → Buf (Elt Ideal) ℓ}
    {X : FVec Ideal Cert.ReferenceIdeal.S2x2048x512 .f32} {Wq : FVec Ideal Cert.ReferenceIdeal.S512x256 .f32}
    {K V : FVec Ideal Cert.ReferenceIdeal.S2x2048x4x64 .f32} {Wo : FVec Ideal Cert.ReferenceIdeal.S256x512 .f32}
    (A : Cert.KernelIdeal.Prg.Agrees m X Wq K V Wo) (q : Fin 2 → Fin 2048 → Fin 4 → Fin 64 → ℝ)
    (hq : ∀ b i h e, Cert.ReferenceIdeal.Fn.qry X Wq (ix4 b i h e) = ((q b i h e : ℝ) : EReal))
    (c : Fin 8) (i : (⟨3, ![2, 256, 512]⟩ : Shape).Idx) :
    Cert.KernelIdeal.Prg.outAt m c i
      = Layout.block ⟨3, ![2, 256, 512]⟩ ⟨3, ![2, 2048, 512]⟩ 1 8 c (Cert.ReferenceIdeal.Fn.out X Wq K V Wo) (by decide) i := by
  have one : ∀ (b : Fin 2) (t : Fin 256) (n : Fin 512), Cert.KernelIdeal.Prg.outAt m c (ix3 b t n)
      = Layout.block ⟨3, ![2, 256, 512]⟩ ⟨3, ![2, 2048, 512]⟩ 1 8 c (Cert.ReferenceIdeal.Fn.out X Wq K V Wo) (by decide) (ix3 b t n) := by
    intro b t n
    rw [block3, ← Cert.KernelIdeal.Prg.outAt_eq A q hq, ← Cert.KernelIdeal.Prg.i3_eq]
    rfl
  obtain ⟨b, t, n, rfl⟩ : ∃ (b : Fin 2) (t : Fin 256) (n : Fin 512), i = ix3 b t n := ⟨i 0, i 1, i 2, (ix3_self i).symm⟩
  exact one b t n

/-! ## The claim -/

theorem algebraic : Cert.algebraic_KernelIdeal_ReferenceIdeal_pre_finite_queries_KernelIdeal := by
  intro m g m' g' hpre hag
  set X := m' (((0 : Dev Cert.ReferenceIdeal.nD).tc : Thread Cert.ReferenceIdeal.nD Cert.ReferenceIdeal.τ).loc Cert.ReferenceIdeal.main_arg0) with hX
  set Wq := m' (((0 : Dev Cert.ReferenceIdeal.nD).tc : Thread Cert.ReferenceIdeal.nD Cert.ReferenceIdeal.τ).loc Cert.ReferenceIdeal.main_arg1) with hWq
  set K := m' (((0 : Dev Cert.ReferenceIdeal.nD).tc : Thread Cert.ReferenceIdeal.nD Cert.ReferenceIdeal.τ).loc Cert.ReferenceIdeal.main_arg2) with hK
  set V := m' (((0 : Dev Cert.ReferenceIdeal.nD).tc : Thread Cert.ReferenceIdeal.nD Cert.ReferenceIdeal.τ).loc Cert.ReferenceIdeal.main_arg3) with hV
  set Wo := m' (((0 : Dev Cert.ReferenceIdeal.nD).tc : Thread Cert.ReferenceIdeal.nD Cert.ReferenceIdeal.τ).loc Cert.ReferenceIdeal.main_arg4) with hWo
  have A : Cert.KernelIdeal.Prg.Agrees m X Wq K V Wo := by
    refine ⟨fun c b i k => ?_, fun c k n => ?_, fun c b t h e => ?_, fun c b t h e => ?_, fun c k n => ?_⟩
    · rw [stgX_whole, (hag c).1]; exact block3 c X b i k
    · rw [stgWq_whole, (hag c).2.1]
    · rw [stgK_whole, (hag c).2.2.1]; exact block4 c K b t h e
    · rw [stgV_whole, (hag c).2.2.2.1]; exact block4 c V b t h e
    · rw [stgWo_whole, (hag c).2.2.2.2]
  have fin := fun c => finite_args _ _ _ _ _ (hpre c)
  have fX : ∀ b i k, ∃ r : ℝ, (X : FVec Ideal Cert.ReferenceIdeal.S2x2048x512 .f32) (ix3 b i k) = (r : EReal) := by
    intro b i k
    obtain ⟨⟨c, t⟩, rfl⟩ := Cert.KernelIdeal.Prg.places.surjective i
    obtain ⟨r, hr⟩ := (fin c).1 (ix3 b t k)
    refine ⟨r, ?_⟩
    rw [(hag c).1] at hr
    exact (block3 c X b t k).symm.trans hr
  have fW : ∀ k n, ∃ r : ℝ, (Wq : FVec Ideal Cert.ReferenceIdeal.S512x256 .f32) (ix2 k n) = (r : EReal) := by
    intro k n
    obtain ⟨r, hr⟩ := (fin (0 : Dev Cert.KernelIdeal.nD)).2 (ix2 k n)
    rw [(hag 0).2.1] at hr
    exact ⟨r, hr⟩
  obtain ⟨q, hq⟩ := Cert.ReferenceIdeal.Fn.qry_real X Wq fX fW
  refine ⟨Cert.ReferenceIdeal.Fn.out (F := Ideal) X Wq K V Wo, ?_, ?_⟩
  · refine (θ_run Cert.KernelIdeal.defs _ _).mono (fun r h c => ⟨?_, (h.1 c).2⟩) (Cert.KernelIdeal.Prg.run (F := Ideal) m g)
    refine ((out_whole _).symm.trans (h.1 c).1).trans (funext fun i => ?_)
    exact out_block A q hq c i
  · exact (θ_run Cert.ReferenceIdeal.defs _ _).mono
      (fun r h => ⟨(h 0).1.trans (Cert.ReferenceIdeal.Fn.res_eq m' 0), (h 0).2⟩) (Cert.ReferenceIdeal.Value.run (F := Ideal) m' g')

end Cert.Claims

end
-- ==== Proof.lean ====
module

public import proofs.«01_k».proof.Defs
public import proofs.«01_k».proof.Proof.Gen.Kernel
public import proofs.«01_k».proof.Proof.Gen.KernelIdeal
public import proofs.«01_k».proof.Proof.Gen.Kernel.Skeleton
public import proofs.«01_k».proof.Proof.Gen.KernelIdeal.Skeleton
public import proofs.«01_k».proof.Proof.Gen.Kernel.Launch
public import proofs.«01_k».proof.Proof.Gen.KernelIdeal.Launch
public import proofs.«01_k».proof.Proof.Gen.Kernel.Points
public import proofs.«01_k».proof.Proof.Gen.KernelIdeal.Points
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_queries_KernelIdeal
public import proofs.«01_k».proof.Proof.Gen.Pre_finite_queries_ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

/-- The three programs run, leave their arguments alone and end quiet; the named constants are what they are called;
    every device's block of the result is the reference's. -/
theorem claim : Cert.Claim :=
  ⟨Cert.Kernel.Gen.facts, Cert.KernelIdeal.Gen.facts, Cert.ReferenceIdeal.Gen.facts,
    Cert.Pre_finite_queries_KernelIdeal.Gen.facts, Cert.Pre_finite_queries_ReferenceIdeal.Gen.facts,
    Claims.frame_p, Claims.frame_pi, Claims.frame_pi_pre, Claims.frame_ri, Claims.frame_ri_pre, Claims.preserves, Claims.algebraic⟩

end Cert.Proof

end
